-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 512, 1024]⟩ ⟨3, ![2, 4096, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = Layout.block ⟨3, ![2, 512, 1024]⟩ ⟨3, ![2, 4096, 1024]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v86) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x1024 : Shape := ⟨3, ![2, 512, 1024]⟩
abbrev S1024x1024 : Shape := ⟨2, ![1024, 1024]⟩
abbrev S_ : Shape := ⟨0, ![]⟩

class Facts : Prop where
  bitsLt_bf16_f32 : FTy.bits .bf16 < FTy.bits .f32
  bcast_S_S2x512x1024 : S_.BroadcastsInDim S2x512x1024 (![] : Fin 0 → Fin S2x512x1024.rank)
  bcast_S_S1024x1024 : S_.BroadcastsInDim S1024x1024 (![] : Fin 0 → Fin S1024x1024.rank)

variable [Facts]

def fn {F : FTy → Type} [FloatOps F] (main_arg0 : FVec F S2x512x1024 .bf16) (main_arg1 : FVec F S1024x1024 .bf16) (main_arg2 : FVec F S1024x1024 .bf16) (main_arg3 : FVec F S1024x1024 .bf16) (main_arg4 : FVec F S1024x1024 .bf16) : IVec S2x512x1024 1 × IVec S1024x1024 1 × IVec S1024x1024 1 :=
  let main_v0 : FVec F S2x512x1024 .f32 := (extf .f32 · bitsLt_bf16_f32) main_arg0
  let main_v1 : FVec F S2x512x1024 .f32 := Host.absf main_v0
  let main_cst : FVec F S_ .f32 := constant S_ .f32 0x7F800000#32
  let main_v2 : FVec F S2x512x1024 .f32 := broadcastInDim S2x512x1024 ![] bcast_S_S2x512x1024 main_cst
  let main_v3 : IVec S2x512x1024 1 := cmpf .olt main_v1 main_v2
  let main_v4 : FVec F S1024x1024 .f32 := (extf .f32 · bitsLt_bf16_f32) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_v8 : FVec F S1024x1024 .f32 := (extf .f32 · bitsLt_bf16_f32) main_arg2
  let main_v9 : FVec F S1024x1024 .f32 := Host.absf main_v8
  let main_cst_1 : FVec F S_ .f32 := constant S_ .f32 0x7F800000#32
  let main_v10 : FVec F S1024x1024 .f32 := broadcastInDim S1024x1024 ![] bcast_S_S1024x1024 main_cst_1
  let main_v11 : IVec S1024x1024 1 := cmpf .olt main_v9 main_v10
  (main_v3, main_v7, main_v11)
-- ==== Pre_finite_ReferenceIdeal.lean ====
abbrev S2x4096x1024 : Shape := ⟨3, ![2, 4096, 1024]⟩
abbrev S1024x1024 : Shape := ⟨2, ![1024, 1024]⟩
abbrev S_ : Shape := ⟨0, ![]⟩

class Facts : Prop where
  bitsLt_bf16_f32 : FTy.bits .bf16 < FTy.bits .f32
  bcast_S_S2x4096x1024 : S_.BroadcastsInDim S2x4096x1024 (![] : Fin 0 → Fin S2x4096x1024.rank)
  bcast_S_S1024x1024 : S_.BroadcastsInDim S1024x1024 (![] : Fin 0 → Fin S1024x1024.rank)

variable [Facts]

def fn {F : FTy → Type} [FloatOps F] (main_arg0 : FVec F S2x4096x1024 .bf16) (main_arg1 : FVec F S1024x1024 .bf16) (main_arg2 : FVec F S1024x1024 .bf16) (main_arg3 : FVec F S1024x1024 .bf16) (main_arg4 : FVec F S1024x1024 .bf16) : IVec S2x4096x1024 1 × IVec S1024x1024 1 × IVec S1024x1024 1 :=
  let main_v0 : FVec F S2x4096x1024 .f32 := (extf .f32 · bitsLt_bf16_f32) main_arg0
  let main_v1 : FVec F S2x4096x1024 .f32 := Host.absf main_v0
  let main_cst : FVec F S_ .f32 := constant S_ .f32 0x7F800000#32
  let main_v2 : FVec F S2x4096x1024 .f32 := broadcastInDim S2x4096x1024 ![] bcast_S_S2x4096x1024 main_cst
  let main_v3 : IVec S2x4096x1024 1 := cmpf .olt main_v1 main_v2
  let main_v4 : FVec F S1024x1024 .f32 := (extf .f32 · bitsLt_bf16_f32) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_v8 : FVec F S1024x1024 .f32 := (extf .f32 · bitsLt_bf16_f32) main_arg2
  let main_v9 : FVec F S1024x1024 .f32 := Host.absf main_v8
  let main_cst_1 : FVec F S_ .f32 := constant S_ .f32 0x7F800000#32
  let main_v10 : FVec F S1024x1024 .f32 := broadcastInDim S1024x1024 ![] bcast_S_S1024x1024 main_cst_1
  let main_v11 : IVec S1024x1024 1 := cmpf .olt main_v9 main_v10
  (main_v3, main_v7, main_v11)
-- ==== Kernel.lean ====
abbrev S2x512x1024 : Shape := ⟨3, ![2, 512, 1024]⟩
abbrev S1024x1024 : Shape := ⟨2, ![1024, 1024]⟩
abbrev S8x10 : Shape := ⟨2, ![8, 10]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x64x2 : Shape := ⟨3, ![4096, 64, 2]⟩
abbrev S4096x128 : Shape := ⟨2, ![4096, 128]⟩
abbrev S8x2x512x1024 : Shape := ⟨4, ![8, 2, 512, 1024]⟩
abbrev S2x8x512x128 : Shape := ⟨4, ![2, 8, 512, 128]⟩
abbrev S8x2x2x512x128 : Shape := ⟨5, ![8, 2, 2, 512, 128]⟩
abbrev S2x8x512x1 : Shape := ⟨4, ![2, 8, 512, 1]⟩
abbrev S4 : Shape := ⟨1, ![4]⟩
abbrev S3 : Shape := ⟨1, ![3]⟩
abbrev S1x1 : Shape := ⟨2, ![1, 1]⟩
abbrev S1x2x512x1024 : Shape := ⟨4, ![1, 2, 512, 1024]⟩
abbrev S1 : Shape := ⟨1, ![1]⟩
abbrev S512x128 : Shape := ⟨2, ![512, 128]⟩
abbrev S1x512x1024 : Shape := ⟨3, ![1, 512, 1024]⟩
abbrev S512x1024 : Shape := ⟨2, ![512, 1024]⟩
abbrev S512x127 : Shape := ⟨2, ![512, 127]⟩
abbrev S512x1 : Shape := ⟨2, ![512, 1]⟩
abbrev S1x1x512x128 : Shape := ⟨4, ![1, 1, 512, 128]⟩
abbrev S1x1x512x1024 : Shape := ⟨4, ![1, 1, 512, 1024]⟩
abbrev S1x1x1x512x128 : Shape := ⟨5, ![1, 1, 1, 512, 128]⟩
abbrev S1x512x128 : Shape := ⟨3, ![1, 512, 128]⟩
abbrev S512x512 : Shape := ⟨2, ![512, 512]⟩
abbrev S1x1x512x1 : Shape := ⟨4, ![1, 1, 512, 1]⟩
abbrev S512 : Shape := ⟨1, ![512]⟩
abbrev S1x1x2x512x128 : Shape := ⟨5, ![1, 1, 2, 512, 128]⟩
abbrev S2x512x128 : Shape := ⟨3, ![2, 512, 128]⟩
abbrev S1024x128 : Shape := ⟨2, ![1024, 128]⟩

abbrev nBuf : Space → Nat
  | .hbm => 39
  | .vmem => 15
  | .smem => 1
  | _ => 0

abbrev bufTy : (tb : Table) → Fin (tcTables nBuf tb) → BufTy
  | .hbm, ⟨0, _⟩ => ⟨S2x512x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S8x10, .i32⟩
  | .hbm, ⟨6, _⟩ => ⟨S64, .i32⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S4096, .i32⟩
  | .hbm, ⟨24, _⟩ => ⟨S4096x1, .i32⟩
  | .hbm, ⟨25, _⟩ => ⟨S1x64, .f32⟩
  | .hbm, ⟨26, _⟩ => ⟨S4096x1, .f32⟩
  | .hbm, ⟨27, _⟩ => ⟨S4096x64, .f32⟩
  | .hbm, ⟨28, _⟩ => ⟨S4096x64, .f32⟩
  | .hbm, ⟨29, _⟩ => ⟨S4096x64, .f32⟩
  | .hbm, ⟨30, _⟩ => ⟨S4096x64, .f32⟩
  | .hbm, ⟨31, _⟩ => ⟨S4096x64x2, .f32⟩
  | .hbm, ⟨32, _⟩ => ⟨S4096x128, .f32⟩
  | .hbm, ⟨33, _⟩ => ⟨S4096x128, .bf16⟩
  | .hbm, ⟨34, _⟩ => ⟨S4096x64, .f32⟩
  | .hbm, ⟨35, _⟩ => ⟨S4096x64x2, .f32⟩
  | .hbm, ⟨36, _⟩ => ⟨S4096x128, .f32⟩
  | .hbm, ⟨37, _⟩ => ⟨S4096x128, .bf16⟩
  | .hbm, ⟨38, _⟩ => ⟨S2x512x1024, .bf16⟩
  | .local _ .vmem, ⟨0, _⟩ => ⟨S2x512x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S4096x128, .bf16⟩
  | .local _ .vmem, ⟨6, _⟩ => ⟨S4096x128, .bf16⟩
  | .local _ .vmem, ⟨7, _⟩ => ⟨S2x512x1024, .bf16⟩
  | .local _ .vmem, ⟨8, _⟩ => ⟨S8x2x512x1024, .bf16⟩
  | .local _ .vmem, ⟨9, _⟩ => ⟨S2x8x512x128, .bf16⟩
  | .local _ .vmem, ⟨10, _⟩ => ⟨S8x2x2x512x128, .bf16⟩
  | .local _ .vmem, ⟨11, _⟩ => ⟨S8x2x2x512x128, .bf16⟩
  | .local _ .vmem, ⟨12, _⟩ => ⟨S2x8x512x1, .f32⟩
  | .local _ .vmem, ⟨13, _⟩ => ⟨S2x8x512x128, .f32⟩
  | .local _ .vmem, ⟨14, _⟩ => ⟨S1024x1024, .bf16⟩
  | .local _ .smem, ⟨0, _⟩ => ⟨S8x10, .i32⟩
  | _, _ => ⟨S2x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : Index := Scalar.indexCast v2
  let c0 : Index := 0#32
  ![v3.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v5 : Index := Scalar.indexCast v2
  let c1 : Index := 1#32
  ![v5.toNat, 1]
def k0_dev1 (v6 : BitVec 32) : Nat :=
  let c0_i32 : BitVec 32 := 0#32
  let c1_i32_1 : BitVec 32 := 1#32
  let v8 : BitVec 32 := Scalar.muli v6 c1_i32_1
  let v9 : BitVec 32 := Scalar.addi c0_i32 v8
  v9.toNat

def k0_dev2 (v4 : BitVec 32) : Nat :=
  let c0_i32_4 : BitVec 32 := 0#32
  let c1_i32_3 : BitVec 32 := 1#32
  let v10 : BitVec 32 := Scalar.muli v4 c1_i32_3
  let v11 : BitVec 32 := Scalar.addi c0_i32_4 v10
  v11.toNat

def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v12 : Index := Scalar.indexCast v2
  let c2 : Index := 2#32
  ![v12.toNat, 2]
def k0_off4 (v13 : BitVec 32) : Fin 4 → Nat :=
  let v17 : Index := Scalar.indexCast v13
  let c0_8 : Index := 0#32
  let c0_9 : Index := 0#32
  let c0_10 : Index := 0#32
  ![v17.toNat, 0, 0, 0]

def k0_off5 (v13 : BitVec 32) : Fin 4 → Nat :=
  let c0_i32_15 : BitVec 32 := 0#32
  let c0_i32_16 : BitVec 32 := 0#32
  let c0_i32_17 : BitVec 32 := 0#32
  ![v13.toNat, 0, 0, 0]
def k0_dev3 (v4 : BitVec 32) : Nat :=
  let c0_i32_14 : BitVec 32 := 0#32
  let c1_i32_13 : BitVec 32 := 1#32
  let v21 : BitVec 32 := Scalar.muli v4 c1_i32_13
  let v22 : BitVec 32 := Scalar.addi c0_i32_14 v21
  v22.toNat
def k0_dev4 (v6 : BitVec 32) : Nat :=
  let c0_i32_24 : BitVec 32 := 0#32
  let c1_i32_23 : BitVec 32 := 1#32
  let v31 : BitVec 32 := Scalar.muli v6 c1_i32_23
  let v32 : BitVec 32 := Scalar.addi c0_i32_24 v31
  v32.toNat
def k0_off6 (v13 : BitVec 32) : Fin 2 → Nat :=
  let c512_i32 : BitVec 32 := 512#32
  let v41 : BitVec 32 := Scalar.muli v13 c512_i32
  let v42 : Index := Scalar.indexCast v41
  let c0_31 : Index := 0#32
  ![v42.toNat, 0]
def k0_off7 (v13 : BitVec 32) : Fin 4 → Nat :=
  let v687 : Index := Scalar.indexCast v13
  let c0_262 : Index := 0#32
  let c0_263 : Index := 0#32
  let c0_264 : Index := 0#32
  ![v687.toNat, 0, 0, 0]
def k0_off8 (v13 : BitVec 32) : Fin 4 → Nat :=
  let v1024 : Index := Scalar.indexCast v13
  let c1_415 : Index := 1#32
  let c0_416 : Index := 0#32
  let c0_417 : Index := 0#32
  ![v1024.toNat, 1, 0, 0]
@[reducible] def k0_t1_loop : Scf.Loop 32 :=
  let c0_i32_568 : BitVec 32 := 0#32
  let c16_i32 : BitVec 32 := 16#32
  let v1361 : BitVec 32 := Scalar.addi c0_i32_568 c16_i32
  let c1_i32_569 : BitVec 32 := 1#32
  ⟨c0_i32_568, v1361, c1_i32_569⟩
def k0_off9 (k0_t1 : Fin k0_t1_loop.trips) : Fin 5 → Nat :=
  let c0_i32_568 : BitVec 32 := 0#32
  let c1_i32_569 : BitVec 32 := 1#32
  let arg20 : BitVec 32 := Scf.iv c0_i32_568 c1_i32_569 k0_t1
  let c0_i32_3111 : BitVec 32 := 0#32
  let v6494 : BitVec 1 := Scalar.cmpi .sgt arg20 c0_i32_3111
  let v6495 : BitVec 32 := Scalar.extui v6494
  let c0_i32_3112 : BitVec 32 := 0#32
  let v6496 : BitVec 1 := Scalar.cmpi .slt arg20 c0_i32_3112
  let v6497 : BitVec 32 := Scalar.extui v6496
  let v6498 : BitVec 32 := Scalar.subi v6495 v6497
  let c8_i32_3110 : BitVec 32 := 8#32
  let c0_i32_3113 : BitVec 32 := 0#32
  let v6499 : BitVec 1 := Scalar.cmpi .sgt c8_i32_3110 c0_i32_3113
  let v6500 : BitVec 32 := Scalar.extui v6499
  let c0_i32_3114 : BitVec 32 := 0#32
  let v6501 : BitVec 1 := Scalar.cmpi .slt c8_i32_3110 c0_i32_3114
  let v6502 : BitVec 32 := Scalar.extui v6501
  let v6503 : BitVec 32 := Scalar.subi v6500 v6502
  let v6504 : BitVec 1 := Scalar.cmpi .ne v6498 v6503
  let v6505 : BitVec 32 := Scalar.remsi arg20 c8_i32_3110
  let c0_i32_3115 : BitVec 32 := 0#32
  let v6506 : BitVec 1 := Scalar.cmpi .ne v6505 c0_i32_3115
  let v6507 : BitVec 1 := Scalar.andi v6504 v6506
  let v6493 : BitVec 32 := Scalar.divsi arg20 c8_i32_3110
  let c1_i32_3116 : BitVec 32 := 1#32
  let v6508 : BitVec 32 := Scalar.subi v6493 c1_i32_3116
  let v6509 : BitVec 32 := Scalar.select v6507 v6508 v6493
  let c8_i32_3117 : BitVec 32 := 8#32
  let v6510 : BitVec 32 := Scalar.muli v6509 c8_i32_3117
  let v6511 : BitVec 32 := Scalar.subi arg20 v6510
  let v6512 : Index := Scalar.indexCast v6511
  let v6513 : Index := Scalar.indexCast v6509
  let c0_3118 : Index := 0#32
  let c0_3119 : Index := 0#32
  let c0_3120 : Index := 0#32
  ![v6512.toNat, v6513.toNat, 0, 0, 0]
def k0_off10 (k0_t1 : Fin k0_t1_loop.trips) : Fin 4 → Nat :=
  let c0_i32_568 : BitVec 32 := 0#32
  let c1_i32_569 : BitVec 32 := 1#32
  let arg20 : BitVec 32 := Scf.iv c0_i32_568 c1_i32_569 k0_t1
  let c0_i32_3111 : BitVec 32 := 0#32
  let v6494 : BitVec 1 := Scalar.cmpi .sgt arg20 c0_i32_3111
  let v6495 : BitVec 32 := Scalar.extui v6494
  let c0_i32_3112 : BitVec 32 := 0#32
  let v6496 : BitVec 1 := Scalar.cmpi .slt arg20 c0_i32_3112
  let v6497 : BitVec 32 := Scalar.extui v6496
  let v6498 : BitVec 32 := Scalar.subi v6495 v6497
  let c8_i32_3110 : BitVec 32 := 8#32
  let c0_i32_3113 : BitVec 32 := 0#32
  let v6499 : BitVec 1 := Scalar.cmpi .sgt c8_i32_3110 c0_i32_3113
  let v6500 : BitVec 32 := Scalar.extui v6499
  let c0_i32_3114 : BitVec 32 := 0#32
  let v6501 : BitVec 1 := Scalar.cmpi .slt c8_i32_3110 c0_i32_3114
  let v6502 : BitVec 32 := Scalar.extui v6501
  let v6503 : BitVec 32 := Scalar.subi v6500 v6502
  let v6504 : BitVec 1 := Scalar.cmpi .ne v6498 v6503
  let v6505 : BitVec 32 := Scalar.remsi arg20 c8_i32_3110
  let c0_i32_3115 : BitVec 32 := 0#32
  let v6506 : BitVec 1 := Scalar.cmpi .ne v6505 c0_i32_3115
  let v6507 : BitVec 1 := Scalar.andi v6504 v6506
  let v6493 : BitVec 32 := Scalar.divsi arg20 c8_i32_3110
  let c1_i32_3116 : BitVec 32 := 1#32
  let v6508 : BitVec 32 := Scalar.subi v6493 c1_i32_3116
  let v6509 : BitVec 32 := Scalar.select v6507 v6508 v6493
  let v6522 : Index := Scalar.indexCast v6509
  let c8_i32_3117 : BitVec 32 := 8#32
  let v6510 : BitVec 32 := Scalar.muli v6509 c8_i32_3117
  let v6511 : BitVec 32 := Scalar.subi arg20 v6510
  let v6523 : Index := Scalar.indexCast v6511
  let c0_3124 : Index := 0#32
  let c0_3125 : Index := 0#32
  ![v6522.toNat, v6523.toNat, 0, 0]
def k0_off11 (k0_t1 : Fin k0_t1_loop.trips) : Fin 4 → Nat :=
  let c0_i32_568 : BitVec 32 := 0#32
  let c1_i32_569 : BitVec 32 := 1#32
  let arg20 : BitVec 32 := Scf.iv c0_i32_568 c1_i32_569 k0_t1
  let c0_i32_3111 : BitVec 32 := 0#32
  let v6494 : BitVec 1 := Scalar.cmpi .sgt arg20 c0_i32_3111
  let v6495 : BitVec 32 := Scalar.extui v6494
  let c0_i32_3112 : BitVec 32 := 0#32
  let v6496 : BitVec 1 := Scalar.cmpi .slt arg20 c0_i32_3112
  let v6497 : BitVec 32 := Scalar.extui v6496
  let v6498 : BitVec 32 := Scalar.subi v6495 v6497
  let c8_i32_3110 : BitVec 32 := 8#32
  let c0_i32_3113 : BitVec 32 := 0#32
  let v6499 : BitVec 1 := Scalar.cmpi .sgt c8_i32_3110 c0_i32_3113
  let v6500 : BitVec 32 := Scalar.extui v6499
  let c0_i32_3114 : BitVec 32 := 0#32
  let v6501 : BitVec 1 := Scalar.cmpi .slt c8_i32_3110 c0_i32_3114
  let v6502 : BitVec 32 := Scalar.extui v6501
  let v6503 : BitVec 32 := Scalar.subi v6500 v6502
  let v6504 : BitVec 1 := Scalar.cmpi .ne v6498 v6503
  let v6505 : BitVec 32 := Scalar.remsi arg20 c8_i32_3110
  let c0_i32_3115 : BitVec 32 := 0#32
  let v6506 : BitVec 1 := Scalar.cmpi .ne v6505 c0_i32_3115
  let v6507 : BitVec 1 := Scalar.andi v6504 v6506
  let v6493 : BitVec 32 := Scalar.divsi arg20 c8_i32_3110
  let c1_i32_3116 : BitVec 32 := 1#32
  let v6508 : BitVec 32 := Scalar.subi v6493 c1_i32_3116
  let v6509 : BitVec 32 := Scalar.select v6507 v6508 v6493
  let v6528 : Index := Scalar.indexCast v6509
  let c8_i32_3117 : BitVec 32 := 8#32
  let v6510 : BitVec 32 := Scalar.muli v6509 c8_i32_3117
  let v6511 : BitVec 32 := Scalar.subi arg20 v6510
  let v6529 : Index := Scalar.indexCast v6511
  let c0_3127 : Index := 0#32
  let c0_3128 : Index := 0#32
  ![v6528.toNat, v6529.toNat, 0, 0]
def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1376 : Index := Scalar.indexCast v2
  let c3_590 : Index := 3#32
  ![v1376.toNat, 3]
def k0_off13 (v1377 : BitVec 32) : Fin 4 → Nat :=
  let c0_i32_595 : BitVec 32 := 0#32
  let c0_i32_596 : BitVec 32 := 0#32
  let c0_i32_597 : BitVec 32 := 0#32
  ![v1377.toNat, 0, 0, 0]

def k0_dev5 (v4 : BitVec 32) : Nat :=
  let c0_i32_594 : BitVec 32 := 0#32
  let c1_i32_593 : BitVec 32 := 1#32
  let v1378 : BitVec 32 := Scalar.muli v4 c1_i32_593
  let v1379 : BitVec 32 := Scalar.addi c0_i32_594 v1378
  v1379.toNat
def k0_off14 (v13 : BitVec 32) : Fin 4 → Nat :=
  let c0_i32_604 : BitVec 32 := 0#32
  let c0_i32_605 : BitVec 32 := 0#32
  let c0_i32_606 : BitVec 32 := 0#32
  ![v13.toNat, 0, 0, 0]

def k0_chk3 (v13 : BitVec 32) : Prop :=
  (∀ a, (k0_off4 v13) a + S1x2x512x1024.size a ≤ S8x2x512x1024.size a) ∧
  (∀ (hinb : ∀ a, (k0_off4 v13) a + S1x2x512x1024.size a ≤ S8x2x512x1024.size a), (Rect.unit (s := S8x2x512x1024) (k0_off4 v13) S1x2x512x1024.size hinb).PackedRows (EltTy.packing .bf16)) ∧
  (∀ a, (k0_off5 v13) a + S1x2x512x1024.size a ≤ S8x2x512x1024.size a) ∧
  (∀ (hinb : ∀ a, (k0_off5 v13) a + S1x2x512x1024.size a ≤ S8x2x512x1024.size a), (Rect.unit (s := S8x2x512x1024) (k0_off5 v13) S1x2x512x1024.size hinb).WholeWords (EltTy.packing .bf16)) ∧
  (∀ a, (k0_off6 v13) a + S512x128.size a ≤ S4096x128.size a) ∧
  (∀ a, (k0_off7 v13) a + S1x1x512x1024.size a ≤ S8x2x512x1024.size a) ∧
  (∀ a, (k0_off8 v13) a + S1x1x512x1024.size a ≤ S8x2x512x1024.size a) ∧
  (∀ a, (k0_off14 v13) a + S1x2x512x1024.size a ≤ S8x2x512x1024.size a) ∧
  (∀ (hinb : ∀ a, (k0_off14 v13) a + S1x2x512x1024.size a ≤ S8x2x512x1024.size a), (Rect.unit (s := S8x2x512x1024) (k0_off14 v13) S1x2x512x1024.size hinb).WholeWords (EltTy.packing .bf16))
theorem k0_off4_inb : ∀ (v13 : BitVec 32) (k0_hw3 : k0_chk3 v13), ∀ a, (k0_off4 v13) a + S1x2x512x1024.size a ≤ S8x2x512x1024.size a := fun v13 k0_hw3 => k0_hw3.1
theorem k0_off4_packedbf16 : ∀ (v13 : BitVec 32) (k0_hw3 : k0_chk3 v13), (Rect.unit (s := S8x2x512x1024) (k0_off4 v13) S1x2x512x1024.size (k0_off4_inb v13 k0_hw3)).PackedRows (EltTy.packing .bf16) := fun v13 k0_hw3 => k0_hw3.2.1 (k0_off4_inb v13 k0_hw3)
theorem k0_off5_inb : ∀ (v13 : BitVec 32) (k0_hw3 : k0_chk3 v13), ∀ a, (k0_off5 v13) a + S1x2x512x1024.size a ≤ S8x2x512x1024.size a := fun v13 k0_hw3 => k0_hw3.2.2.1
theorem k0_off5_wordsbf16 : ∀ (v13 : BitVec 32) (k0_hw3 : k0_chk3 v13), (Rect.unit (s := S8x2x512x1024) (k0_off5 v13) S1x2x512x1024.size (k0_off5_inb v13 k0_hw3)).WholeWords (EltTy.packing .bf16) := fun v13 k0_hw3 => k0_hw3.2.2.2.1 (k0_off5_inb v13 k0_hw3)
theorem k0_off6_inb : ∀ (v13 : BitVec 32) (k0_hw3 : k0_chk3 v13), ∀ a, (k0_off6 v13) a + S512x128.size a ≤ S4096x128.size a := fun v13 k0_hw3 => k0_hw3.2.2.2.2.1
theorem k0_off7_inb : ∀ (v13 : BitVec 32) (k0_hw3 : k0_chk3 v13), ∀ a, (k0_off7 v13) a + S1x1x512x1024.size a ≤ S8x2x512x1024.size a := fun v13 k0_hw3 => k0_hw3.2.2.2.2.2.1
theorem k0_off8_inb : ∀ (v13 : BitVec 32) (k0_hw3 : k0_chk3 v13), ∀ a, (k0_off8 v13) a + S1x1x512x1024.size a ≤ S8x2x512x1024.size a := fun v13 k0_hw3 => k0_hw3.2.2.2.2.2.2.1
theorem k0_off14_inb : ∀ (v13 : BitVec 32) (k0_hw3 : k0_chk3 v13), ∀ a, (k0_off14 v13) a + S1x2x512x1024.size a ≤ S8x2x512x1024.size a := fun v13 k0_hw3 => k0_hw3.2.2.2.2.2.2.2.1
theorem k0_off14_wordsbf16 : ∀ (v13 : BitVec 32) (k0_hw3 : k0_chk3 v13), (Rect.unit (s := S8x2x512x1024) (k0_off14 v13) S1x2x512x1024.size (k0_off14_inb v13 k0_hw3)).WholeWords (EltTy.packing .bf16) := fun v13 k0_hw3 => k0_hw3.2.2.2.2.2.2.2.2 (k0_off14_inb v13 k0_hw3)

def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1402 : Index := Scalar.indexCast v2
  let c7_620 : Index := 7#32
  ![v1402.toNat, 7]
def k0_off16 (v1403 : BitVec 32) : Fin 4 → Nat :=
  let c0_i32_625 : BitVec 32 := 0#32
  let c0_i32_626 : BitVec 32 := 0#32
  let c0_i32_627 : BitVec 32 := 0#32
  ![v1403.toNat, 0, 0, 0]

def k0_dev6 (v6 : BitVec 32) : Nat :=
  let c0_i32_624 : BitVec 32 := 0#32
  let c1_i32_623 : BitVec 32 := 1#32
  let v1404 : BitVec 32 := Scalar.muli v6 c1_i32_623
  let v1405 : BitVec 32 := Scalar.addi c0_i32_624 v1404
  v1405.toNat
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1414 : Index := Scalar.indexCast v2
  let c3_631 : Index := 3#32
  ![v1414.toNat, 3]
def k0_off18 (v1415 : BitVec 32) : Fin 2 → Nat :=
  let c512_i32_632 : BitVec 32 := 512#32
  let v1416 : BitVec 32 := Scalar.muli v1415 c512_i32_632
  let v1417 : Index := Scalar.indexCast v1416
  let c0_633 : Index := 0#32
  ![v1417.toNat, 0]

def k0_off19 (v1415 : BitVec 32) : Fin 4 → Nat :=
  let v1426 : Index := Scalar.indexCast v1415
  let c0_636 : Index := 0#32
  let c0_637 : Index := 0#32
  let c0_638 : Index := 0#32
  ![v1426.toNat, 0, 0, 0]
def k0_off20 (v1415 : BitVec 32) : Fin 4 → Nat :=
  let v1763 : Index := Scalar.indexCast v1415
  let c1_789 : Index := 1#32
  let c0_790 : Index := 0#32
  let c0_791 : Index := 0#32
  ![v1763.toNat, 1, 0, 0]

def k0_chk6 (v1415 : BitVec 32) : Prop :=
  (∀ a, (k0_off18 v1415) a + S512x128.size a ≤ S4096x128.size a) ∧
  (∀ a, (k0_off19 v1415) a + S1x1x512x1024.size a ≤ S8x2x512x1024.size a) ∧
  (∀ a, (k0_off20 v1415) a + S1x1x512x1024.size a ≤ S8x2x512x1024.size a)
theorem k0_off18_inb : ∀ (v1415 : BitVec 32) (k0_hw6 : k0_chk6 v1415), ∀ a, (k0_off18 v1415) a + S512x128.size a ≤ S4096x128.size a := fun v1415 k0_hw6 => k0_hw6.1
theorem k0_off19_inb : ∀ (v1415 : BitVec 32) (k0_hw6 : k0_chk6 v1415), ∀ a, (k0_off19 v1415) a + S1x1x512x1024.size a ≤ S8x2x512x1024.size a := fun v1415 k0_hw6 => k0_hw6.2.1
theorem k0_off20_inb : ∀ (v1415 : BitVec 32) (k0_hw6 : k0_chk6 v1415), ∀ a, (k0_off20 v1415) a + S1x1x512x1024.size a ≤ S8x2x512x1024.size a := fun v1415 k0_hw6 => k0_hw6.2.2

def k0_off21 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2100 : Index := Scalar.indexCast v2
  let c7_942 : Index := 7#32
  ![v2100.toNat, 7]
def k0_off22 (v2101 : BitVec 32) : Fin 2 → Nat :=
  let c512_i32_943 : BitVec 32 := 512#32
  let v2102 : BitVec 32 := Scalar.muli v2101 c512_i32_943
  let v2103 : Index := Scalar.indexCast v2102
  let c0_944 : Index := 0#32
  ![v2103.toNat, 0]

def k0_off23 (v2101 : BitVec 32) : Fin 4 → Nat :=
  let v2112 : Index := Scalar.indexCast v2101
  let c0_947 : Index := 0#32
  let c0_948 : Index := 0#32
  let c0_949 : Index := 0#32
  ![v2112.toNat, 0, 0, 0]
def k0_off24 (v2101 : BitVec 32) : Fin 4 → Nat :=
  let v2449 : Index := Scalar.indexCast v2101
  let c1_1100 : Index := 1#32
  let c0_1101 : Index := 0#32
  let c0_1102 : Index := 0#32
  ![v2449.toNat, 1, 0, 0]

def k0_chk7 (v2101 : BitVec 32) : Prop :=
  (∀ a, (k0_off22 v2101) a + S512x128.size a ≤ S4096x128.size a) ∧
  (∀ a, (k0_off23 v2101) a + S1x1x512x1024.size a ≤ S8x2x512x1024.size a) ∧
  (∀ a, (k0_off24 v2101) a + S1x1x512x1024.size a ≤ S8x2x512x1024.size a)
theorem k0_off22_inb : ∀ (v2101 : BitVec 32) (k0_hw7 : k0_chk7 v2101), ∀ a, (k0_off22 v2101) a + S512x128.size a ≤ S4096x128.size a := fun v2101 k0_hw7 => k0_hw7.1
theorem k0_off23_inb : ∀ (v2101 : BitVec 32) (k0_hw7 : k0_chk7 v2101), ∀ a, (k0_off23 v2101) a + S1x1x512x1024.size a ≤ S8x2x512x1024.size a := fun v2101 k0_hw7 => k0_hw7.2.1
theorem k0_off24_inb : ∀ (v2101 : BitVec 32) (k0_hw7 : k0_chk7 v2101), ∀ a, (k0_off24 v2101) a + S1x1x512x1024.size a ≤ S8x2x512x1024.size a := fun v2101 k0_hw7 => k0_hw7.2.2

@[reducible] def k0_t2_loop : Scf.Loop 32 :=
  let c0_i32_1253 : BitVec 32 := 0#32
  let c16_i32_1254 : BitVec 32 := 16#32
  let v2786 : BitVec 32 := Scalar.addi c0_i32_1253 c16_i32_1254
  let c1_i32_1255 : BitVec 32 := 1#32
  ⟨c0_i32_1253, v2786, c1_i32_1255⟩
def k0_off25 (k0_t2 : Fin k0_t2_loop.trips) : Fin 5 → Nat :=
  let c0_i32_1253 : BitVec 32 := 0#32
  let c1_i32_1255 : BitVec 32 := 1#32
  let arg20 : BitVec 32 := Scf.iv c0_i32_1253 c1_i32_1255 k0_t2
  let c0_i32_3111 : BitVec 32 := 0#32
  let v6494 : BitVec 1 := Scalar.cmpi .sgt arg20 c0_i32_3111
  let v6495 : BitVec 32 := Scalar.extui v6494
  let c0_i32_3112 : BitVec 32 := 0#32
  let v6496 : BitVec 1 := Scalar.cmpi .slt arg20 c0_i32_3112
  let v6497 : BitVec 32 := Scalar.extui v6496
  let v6498 : BitVec 32 := Scalar.subi v6495 v6497
  let c8_i32_3110 : BitVec 32 := 8#32
  let c0_i32_3113 : BitVec 32 := 0#32
  let v6499 : BitVec 1 := Scalar.cmpi .sgt c8_i32_3110 c0_i32_3113
  let v6500 : BitVec 32 := Scalar.extui v6499
  let c0_i32_3114 : BitVec 32 := 0#32
  let v6501 : BitVec 1 := Scalar.cmpi .slt c8_i32_3110 c0_i32_3114
  let v6502 : BitVec 32 := Scalar.extui v6501
  let v6503 : BitVec 32 := Scalar.subi v6500 v6502
  let v6504 : BitVec 1 := Scalar.cmpi .ne v6498 v6503
  let v6505 : BitVec 32 := Scalar.remsi arg20 c8_i32_3110
  let c0_i32_3115 : BitVec 32 := 0#32
  let v6506 : BitVec 1 := Scalar.cmpi .ne v6505 c0_i32_3115
  let v6507 : BitVec 1 := Scalar.andi v6504 v6506
  let v6493 : BitVec 32 := Scalar.divsi arg20 c8_i32_3110
  let c1_i32_3116 : BitVec 32 := 1#32
  let v6508 : BitVec 32 := Scalar.subi v6493 c1_i32_3116
  let v6509 : BitVec 32 := Scalar.select v6507 v6508 v6493
  let c8_i32_3117 : BitVec 32 := 8#32
  let v6510 : BitVec 32 := Scalar.muli v6509 c8_i32_3117
  let v6511 : BitVec 32 := Scalar.subi arg20 v6510
  let v6512 : Index := Scalar.indexCast v6511
  let v6513 : Index := Scalar.indexCast v6509
  let c0_3118 : Index := 0#32
  let c0_3119 : Index := 0#32
  let c0_3120 : Index := 0#32
  ![v6512.toNat, v6513.toNat, 0, 0, 0]
def k0_off26 (k0_t2 : Fin k0_t2_loop.trips) : Fin 4 → Nat :=
  let c0_i32_1253 : BitVec 32 := 0#32
  let c1_i32_1255 : BitVec 32 := 1#32
  let arg20 : BitVec 32 := Scf.iv c0_i32_1253 c1_i32_1255 k0_t2
  let c0_i32_3111 : BitVec 32 := 0#32
  let v6494 : BitVec 1 := Scalar.cmpi .sgt arg20 c0_i32_3111
  let v6495 : BitVec 32 := Scalar.extui v6494
  let c0_i32_3112 : BitVec 32 := 0#32
  let v6496 : BitVec 1 := Scalar.cmpi .slt arg20 c0_i32_3112
  let v6497 : BitVec 32 := Scalar.extui v6496
  let v6498 : BitVec 32 := Scalar.subi v6495 v6497
  let c8_i32_3110 : BitVec 32 := 8#32
  let c0_i32_3113 : BitVec 32 := 0#32
  let v6499 : BitVec 1 := Scalar.cmpi .sgt c8_i32_3110 c0_i32_3113
  let v6500 : BitVec 32 := Scalar.extui v6499
  let c0_i32_3114 : BitVec 32 := 0#32
  let v6501 : BitVec 1 := Scalar.cmpi .slt c8_i32_3110 c0_i32_3114
  let v6502 : BitVec 32 := Scalar.extui v6501
  let v6503 : BitVec 32 := Scalar.subi v6500 v6502
  let v6504 : BitVec 1 := Scalar.cmpi .ne v6498 v6503
  let v6505 : BitVec 32 := Scalar.remsi arg20 c8_i32_3110
  let c0_i32_3115 : BitVec 32 := 0#32
  let v6506 : BitVec 1 := Scalar.cmpi .ne v6505 c0_i32_3115
  let v6507 : BitVec 1 := Scalar.andi v6504 v6506
  let v6493 : BitVec 32 := Scalar.divsi arg20 c8_i32_3110
  let c1_i32_3116 : BitVec 32 := 1#32
  let v6508 : BitVec 32 := Scalar.subi v6493 c1_i32_3116
  let v6509 : BitVec 32 := Scalar.select v6507 v6508 v6493
  let v6522 : Index := Scalar.indexCast v6509
  let c8_i32_3117 : BitVec 32 := 8#32
  let v6510 : BitVec 32 := Scalar.muli v6509 c8_i32_3117
  let v6511 : BitVec 32 := Scalar.subi arg20 v6510
  let v6523 : Index := Scalar.indexCast v6511
  let c0_3124 : Index := 0#32
  let c0_3125 : Index := 0#32
  ![v6522.toNat, v6523.toNat, 0, 0]
def k0_off27 (k0_t2 : Fin k0_t2_loop.trips) : Fin 4 → Nat :=
  let c0_i32_1253 : BitVec 32 := 0#32
  let c1_i32_1255 : BitVec 32 := 1#32
  let arg20 : BitVec 32 := Scf.iv c0_i32_1253 c1_i32_1255 k0_t2
  let c0_i32_3111 : BitVec 32 := 0#32
  let v6494 : BitVec 1 := Scalar.cmpi .sgt arg20 c0_i32_3111
  let v6495 : BitVec 32 := Scalar.extui v6494
  let c0_i32_3112 : BitVec 32 := 0#32
  let v6496 : BitVec 1 := Scalar.cmpi .slt arg20 c0_i32_3112
  let v6497 : BitVec 32 := Scalar.extui v6496
  let v6498 : BitVec 32 := Scalar.subi v6495 v6497
  let c8_i32_3110 : BitVec 32 := 8#32
  let c0_i32_3113 : BitVec 32 := 0#32
  let v6499 : BitVec 1 := Scalar.cmpi .sgt c8_i32_3110 c0_i32_3113
  let v6500 : BitVec 32 := Scalar.extui v6499
  let c0_i32_3114 : BitVec 32 := 0#32
  let v6501 : BitVec 1 := Scalar.cmpi .slt c8_i32_3110 c0_i32_3114
  let v6502 : BitVec 32 := Scalar.extui v6501
  let v6503 : BitVec 32 := Scalar.subi v6500 v6502
  let v6504 : BitVec 1 := Scalar.cmpi .ne v6498 v6503
  let v6505 : BitVec 32 := Scalar.remsi arg20 c8_i32_3110
  let c0_i32_3115 : BitVec 32 := 0#32
  let v6506 : BitVec 1 := Scalar.cmpi .ne v6505 c0_i32_3115
  let v6507 : BitVec 1 := Scalar.andi v6504 v6506
  let v6493 : BitVec 32 := Scalar.divsi arg20 c8_i32_3110
  let c1_i32_3116 : BitVec 32 := 1#32
  let v6508 : BitVec 32 := Scalar.subi v6493 c1_i32_3116
  let v6509 : BitVec 32 := Scalar.select v6507 v6508 v6493
  let v6528 : Index := Scalar.indexCast v6509
  let c8_i32_3117 : BitVec 32 := 8#32
  let v6510 : BitVec 32 := Scalar.muli v6509 c8_i32_3117
  let v6511 : BitVec 32 := Scalar.subi arg20 v6510
  let v6529 : Index := Scalar.indexCast v6511
  let c0_3127 : Index := 0#32
  let c0_3128 : Index := 0#32
  ![v6528.toNat, v6529.toNat, 0, 0]
def k0_off28 (v1377 : BitVec 32) : Fin 4 → Nat :=
  let c0_i32_1260 : BitVec 32 := 0#32
  let c0_i32_1261 : BitVec 32 := 0#32
  let c0_i32_1262 : BitVec 32 := 0#32
  ![v1377.toNat, 0, 0, 0]

def k0_chk4 (v1377 : BitVec 32) : Prop :=
  (∀ a, (k0_off13 v1377) a + S1x2x512x1024.size a ≤ S8x2x512x1024.size a) ∧
  (∀ (hinb : ∀ a, (k0_off13 v1377) a + S1x2x512x1024.size a ≤ S8x2x512x1024.size a), (Rect.unit (s := S8x2x512x1024) (k0_off13 v1377) S1x2x512x1024.size hinb).WholeWords (EltTy.packing .bf16)) ∧
  (∀ a, (k0_off28 v1377) a + S1x2x512x1024.size a ≤ S8x2x512x1024.size a) ∧
  (∀ (hinb : ∀ a, (k0_off28 v1377) a + S1x2x512x1024.size a ≤ S8x2x512x1024.size a), (Rect.unit (s := S8x2x512x1024) (k0_off28 v1377) S1x2x512x1024.size hinb).WholeWords (EltTy.packing .bf16))
theorem k0_off13_inb : ∀ (v1377 : BitVec 32) (k0_hw4 : k0_chk4 v1377), ∀ a, (k0_off13 v1377) a + S1x2x512x1024.size a ≤ S8x2x512x1024.size a := fun v1377 k0_hw4 => k0_hw4.1
theorem k0_off13_wordsbf16 : ∀ (v1377 : BitVec 32) (k0_hw4 : k0_chk4 v1377), (Rect.unit (s := S8x2x512x1024) (k0_off13 v1377) S1x2x512x1024.size (k0_off13_inb v1377 k0_hw4)).WholeWords (EltTy.packing .bf16) := fun v1377 k0_hw4 => k0_hw4.2.1 (k0_off13_inb v1377 k0_hw4)
theorem k0_off28_inb : ∀ (v1377 : BitVec 32) (k0_hw4 : k0_chk4 v1377), ∀ a, (k0_off28 v1377) a + S1x2x512x1024.size a ≤ S8x2x512x1024.size a := fun v1377 k0_hw4 => k0_hw4.2.2.1
theorem k0_off28_wordsbf16 : ∀ (v1377 : BitVec 32) (k0_hw4 : k0_chk4 v1377), (Rect.unit (s := S8x2x512x1024) (k0_off28 v1377) S1x2x512x1024.size (k0_off28_inb v1377 k0_hw4)).WholeWords (EltTy.packing .bf16) := fun v1377 k0_hw4 => k0_hw4.2.2.2 (k0_off28_inb v1377 k0_hw4)

def k0_off29 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2801 : Index := Scalar.indexCast v2
  let c4_1276 : Index := 4#32
  ![v2801.toNat, 4]
def k0_off30 (v2802 : BitVec 32) : Fin 4 → Nat :=
  let c0_i32_1281 : BitVec 32 := 0#32
  let c0_i32_1282 : BitVec 32 := 0#32
  let c0_i32_1283 : BitVec 32 := 0#32
  ![v2802.toNat, 0, 0, 0]

def k0_dev7 (v4 : BitVec 32) : Nat :=
  let c0_i32_1280 : BitVec 32 := 0#32
  let c1_i32_1279 : BitVec 32 := 1#32
  let v2803 : BitVec 32 := Scalar.muli v4 c1_i32_1279
  let v2804 : BitVec 32 := Scalar.addi c0_i32_1280 v2803
  v2804.toNat
def k0_off31 (v1403 : BitVec 32) : Fin 4 → Nat :=
  let c0_i32_1290 : BitVec 32 := 0#32
  let c0_i32_1291 : BitVec 32 := 0#32
  let c0_i32_1292 : BitVec 32 := 0#32
  ![v1403.toNat, 0, 0, 0]

def k0_chk5 (v1403 : BitVec 32) : Prop :=
  (∀ a, (k0_off16 v1403) a + S1x2x512x1024.size a ≤ S8x2x512x1024.size a) ∧
  (∀ (hinb : ∀ a, (k0_off16 v1403) a + S1x2x512x1024.size a ≤ S8x2x512x1024.size a), (Rect.unit (s := S8x2x512x1024) (k0_off16 v1403) S1x2x512x1024.size hinb).WholeWords (EltTy.packing .bf16)) ∧
  (∀ a, (k0_off31 v1403) a + S1x2x512x1024.size a ≤ S8x2x512x1024.size a) ∧
  (∀ (hinb : ∀ a, (k0_off31 v1403) a + S1x2x512x1024.size a ≤ S8x2x512x1024.size a), (Rect.unit (s := S8x2x512x1024) (k0_off31 v1403) S1x2x512x1024.size hinb).WholeWords (EltTy.packing .bf16))
theorem k0_off16_inb : ∀ (v1403 : BitVec 32) (k0_hw5 : k0_chk5 v1403), ∀ a, (k0_off16 v1403) a + S1x2x512x1024.size a ≤ S8x2x512x1024.size a := fun v1403 k0_hw5 => k0_hw5.1
theorem k0_off16_wordsbf16 : ∀ (v1403 : BitVec 32) (k0_hw5 : k0_chk5 v1403), (Rect.unit (s := S8x2x512x1024) (k0_off16 v1403) S1x2x512x1024.size (k0_off16_inb v1403 k0_hw5)).WholeWords (EltTy.packing .bf16) := fun v1403 k0_hw5 => k0_hw5.2.1 (k0_off16_inb v1403 k0_hw5)
theorem k0_off31_inb : ∀ (v1403 : BitVec 32) (k0_hw5 : k0_chk5 v1403), ∀ a, (k0_off31 v1403) a + S1x2x512x1024.size a ≤ S8x2x512x1024.size a := fun v1403 k0_hw5 => k0_hw5.2.2.1
theorem k0_off31_wordsbf16 : ∀ (v1403 : BitVec 32) (k0_hw5 : k0_chk5 v1403), (Rect.unit (s := S8x2x512x1024) (k0_off31 v1403) S1x2x512x1024.size (k0_off31_inb v1403 k0_hw5)).WholeWords (EltTy.packing .bf16) := fun v1403 k0_hw5 => k0_hw5.2.2.2 (k0_off31_inb v1403 k0_hw5)

def k0_off32 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2827 : Index := Scalar.indexCast v2
  let c8 : Index := 8#32
  ![v2827.toNat, 8]
def k0_off33 (v2828 : BitVec 32) : Fin 4 → Nat :=
  let c0_i32_1310 : BitVec 32 := 0#32
  let c0_i32_1311 : BitVec 32 := 0#32
  let c0_i32_1312 : BitVec 32 := 0#32
  ![v2828.toNat, 0, 0, 0]

def k0_dev8 (v6 : BitVec 32) : Nat :=
  let c0_i32_1309 : BitVec 32 := 0#32
  let c1_i32_1308 : BitVec 32 := 1#32
  let v2829 : BitVec 32 := Scalar.muli v6 c1_i32_1308
  let v2830 : BitVec 32 := Scalar.addi c0_i32_1309 v2829
  v2830.toNat

def k0_chk1 (v6 : BitVec 32) : Prop :=
  ((k0_dev1 v6) < nD) ∧
  ((k0_dev4 v6) < nD) ∧
  ((k0_dev6 v6) < nD) ∧
  ((k0_dev8 v6) < nD)
theorem k0_dev1_lt : ∀ (v6 : BitVec 32) (k0_hw1 : k0_chk1 v6), (k0_dev1 v6) < nD := fun v6 k0_hw1 => k0_hw1.1
theorem k0_dev4_lt : ∀ (v6 : BitVec 32) (k0_hw1 : k0_chk1 v6), (k0_dev4 v6) < nD := fun v6 k0_hw1 => k0_hw1.2.1
theorem k0_dev6_lt : ∀ (v6 : BitVec 32) (k0_hw1 : k0_chk1 v6), (k0_dev6 v6) < nD := fun v6 k0_hw1 => k0_hw1.2.2.1
theorem k0_dev8_lt : ∀ (v6 : BitVec 32) (k0_hw1 : k0_chk1 v6), (k0_dev8 v6) < nD := fun v6 k0_hw1 => k0_hw1.2.2.2

def k0_off34 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2839 : Index := Scalar.indexCast v2
  let c4_1316 : Index := 4#32
  ![v2839.toNat, 4]
def k0_off35 (v2840 : BitVec 32) : Fin 2 → Nat :=
  let c512_i32_1317 : BitVec 32 := 512#32
  let v2841 : BitVec 32 := Scalar.muli v2840 c512_i32_1317
  let v2842 : Index := Scalar.indexCast v2841
  let c0_1318 : Index := 0#32
  ![v2842.toNat, 0]

def k0_off36 (v2840 : BitVec 32) : Fin 4 → Nat :=
  let v2851 : Index := Scalar.indexCast v2840
  let c0_1321 : Index := 0#32
  let c0_1322 : Index := 0#32
  let c0_1323 : Index := 0#32
  ![v2851.toNat, 0, 0, 0]
def k0_off37 (v2840 : BitVec 32) : Fin 4 → Nat :=
  let v3188 : Index := Scalar.indexCast v2840
  let c1_1474 : Index := 1#32
  let c0_1475 : Index := 0#32
  let c0_1476 : Index := 0#32
  ![v3188.toNat, 1, 0, 0]

def k0_chk10 (v2840 : BitVec 32) : Prop :=
  (∀ a, (k0_off35 v2840) a + S512x128.size a ≤ S4096x128.size a) ∧
  (∀ a, (k0_off36 v2840) a + S1x1x512x1024.size a ≤ S8x2x512x1024.size a) ∧
  (∀ a, (k0_off37 v2840) a + S1x1x512x1024.size a ≤ S8x2x512x1024.size a)
theorem k0_off35_inb : ∀ (v2840 : BitVec 32) (k0_hw10 : k0_chk10 v2840), ∀ a, (k0_off35 v2840) a + S512x128.size a ≤ S4096x128.size a := fun v2840 k0_hw10 => k0_hw10.1
theorem k0_off36_inb : ∀ (v2840 : BitVec 32) (k0_hw10 : k0_chk10 v2840), ∀ a, (k0_off36 v2840) a + S1x1x512x1024.size a ≤ S8x2x512x1024.size a := fun v2840 k0_hw10 => k0_hw10.2.1
theorem k0_off37_inb : ∀ (v2840 : BitVec 32) (k0_hw10 : k0_chk10 v2840), ∀ a, (k0_off37 v2840) a + S1x1x512x1024.size a ≤ S8x2x512x1024.size a := fun v2840 k0_hw10 => k0_hw10.2.2

def k0_off38 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3525 : Index := Scalar.indexCast v2
  let c8_1627 : Index := 8#32
  ![v3525.toNat, 8]
def k0_off39 (v3526 : BitVec 32) : Fin 2 → Nat :=
  let c512_i32_1628 : BitVec 32 := 512#32
  let v3527 : BitVec 32 := Scalar.muli v3526 c512_i32_1628
  let v3528 : Index := Scalar.indexCast v3527
  let c0_1629 : Index := 0#32
  ![v3528.toNat, 0]

def k0_off40 (v3526 : BitVec 32) : Fin 4 → Nat :=
  let v3537 : Index := Scalar.indexCast v3526
  let c0_1632 : Index := 0#32
  let c0_1633 : Index := 0#32
  let c0_1634 : Index := 0#32
  ![v3537.toNat, 0, 0, 0]
def k0_off41 (v3526 : BitVec 32) : Fin 4 → Nat :=
  let v3874 : Index := Scalar.indexCast v3526
  let c1_1785 : Index := 1#32
  let c0_1786 : Index := 0#32
  let c0_1787 : Index := 0#32
  ![v3874.toNat, 1, 0, 0]

def k0_chk11 (v3526 : BitVec 32) : Prop :=
  (∀ a, (k0_off39 v3526) a + S512x128.size a ≤ S4096x128.size a) ∧
  (∀ a, (k0_off40 v3526) a + S1x1x512x1024.size a ≤ S8x2x512x1024.size a) ∧
  (∀ a, (k0_off41 v3526) a + S1x1x512x1024.size a ≤ S8x2x512x1024.size a)
theorem k0_off39_inb : ∀ (v3526 : BitVec 32) (k0_hw11 : k0_chk11 v3526), ∀ a, (k0_off39 v3526) a + S512x128.size a ≤ S4096x128.size a := fun v3526 k0_hw11 => k0_hw11.1
theorem k0_off40_inb : ∀ (v3526 : BitVec 32) (k0_hw11 : k0_chk11 v3526), ∀ a, (k0_off40 v3526) a + S1x1x512x1024.size a ≤ S8x2x512x1024.size a := fun v3526 k0_hw11 => k0_hw11.2.1
theorem k0_off41_inb : ∀ (v3526 : BitVec 32) (k0_hw11 : k0_chk11 v3526), ∀ a, (k0_off41 v3526) a + S1x1x512x1024.size a ≤ S8x2x512x1024.size a := fun v3526 k0_hw11 => k0_hw11.2.2

@[reducible] def k0_t3_loop : Scf.Loop 32 :=
  let c0_i32_1938 : BitVec 32 := 0#32
  let c16_i32_1939 : BitVec 32 := 16#32
  let v4211 : BitVec 32 := Scalar.addi c0_i32_1938 c16_i32_1939
  let c1_i32_1940 : BitVec 32 := 1#32
  ⟨c0_i32_1938, v4211, c1_i32_1940⟩
def k0_off42 (k0_t3 : Fin k0_t3_loop.trips) : Fin 5 → Nat :=
  let c0_i32_1938 : BitVec 32 := 0#32
  let c1_i32_1940 : BitVec 32 := 1#32
  let arg20 : BitVec 32 := Scf.iv c0_i32_1938 c1_i32_1940 k0_t3
  let c0_i32_3111 : BitVec 32 := 0#32
  let v6494 : BitVec 1 := Scalar.cmpi .sgt arg20 c0_i32_3111
  let v6495 : BitVec 32 := Scalar.extui v6494
  let c0_i32_3112 : BitVec 32 := 0#32
  let v6496 : BitVec 1 := Scalar.cmpi .slt arg20 c0_i32_3112
  let v6497 : BitVec 32 := Scalar.extui v6496
  let v6498 : BitVec 32 := Scalar.subi v6495 v6497
  let c8_i32_3110 : BitVec 32 := 8#32
  let c0_i32_3113 : BitVec 32 := 0#32
  let v6499 : BitVec 1 := Scalar.cmpi .sgt c8_i32_3110 c0_i32_3113
  let v6500 : BitVec 32 := Scalar.extui v6499
  let c0_i32_3114 : BitVec 32 := 0#32
  let v6501 : BitVec 1 := Scalar.cmpi .slt c8_i32_3110 c0_i32_3114
  let v6502 : BitVec 32 := Scalar.extui v6501
  let v6503 : BitVec 32 := Scalar.subi v6500 v6502
  let v6504 : BitVec 1 := Scalar.cmpi .ne v6498 v6503
  let v6505 : BitVec 32 := Scalar.remsi arg20 c8_i32_3110
  let c0_i32_3115 : BitVec 32 := 0#32
  let v6506 : BitVec 1 := Scalar.cmpi .ne v6505 c0_i32_3115
  let v6507 : BitVec 1 := Scalar.andi v6504 v6506
  let v6493 : BitVec 32 := Scalar.divsi arg20 c8_i32_3110
  let c1_i32_3116 : BitVec 32 := 1#32
  let v6508 : BitVec 32 := Scalar.subi v6493 c1_i32_3116
  let v6509 : BitVec 32 := Scalar.select v6507 v6508 v6493
  let c8_i32_3117 : BitVec 32 := 8#32
  let v6510 : BitVec 32 := Scalar.muli v6509 c8_i32_3117
  let v6511 : BitVec 32 := Scalar.subi arg20 v6510
  let v6512 : Index := Scalar.indexCast v6511
  let v6513 : Index := Scalar.indexCast v6509
  let c0_3118 : Index := 0#32
  let c0_3119 : Index := 0#32
  let c0_3120 : Index := 0#32
  ![v6512.toNat, v6513.toNat, 0, 0, 0]
def k0_off43 (k0_t3 : Fin k0_t3_loop.trips) : Fin 4 → Nat :=
  let c0_i32_1938 : BitVec 32 := 0#32
  let c1_i32_1940 : BitVec 32 := 1#32
  let arg20 : BitVec 32 := Scf.iv c0_i32_1938 c1_i32_1940 k0_t3
  let c0_i32_3111 : BitVec 32 := 0#32
  let v6494 : BitVec 1 := Scalar.cmpi .sgt arg20 c0_i32_3111
  let v6495 : BitVec 32 := Scalar.extui v6494
  let c0_i32_3112 : BitVec 32 := 0#32
  let v6496 : BitVec 1 := Scalar.cmpi .slt arg20 c0_i32_3112
  let v6497 : BitVec 32 := Scalar.extui v6496
  let v6498 : BitVec 32 := Scalar.subi v6495 v6497
  let c8_i32_3110 : BitVec 32 := 8#32
  let c0_i32_3113 : BitVec 32 := 0#32
  let v6499 : BitVec 1 := Scalar.cmpi .sgt c8_i32_3110 c0_i32_3113
  let v6500 : BitVec 32 := Scalar.extui v6499
  let c0_i32_3114 : BitVec 32 := 0#32
  let v6501 : BitVec 1 := Scalar.cmpi .slt c8_i32_3110 c0_i32_3114
  let v6502 : BitVec 32 := Scalar.extui v6501
  let v6503 : BitVec 32 := Scalar.subi v6500 v6502
  let v6504 : BitVec 1 := Scalar.cmpi .ne v6498 v6503
  let v6505 : BitVec 32 := Scalar.remsi arg20 c8_i32_3110
  let c0_i32_3115 : BitVec 32 := 0#32
  let v6506 : BitVec 1 := Scalar.cmpi .ne v6505 c0_i32_3115
  let v6507 : BitVec 1 := Scalar.andi v6504 v6506
  let v6493 : BitVec 32 := Scalar.divsi arg20 c8_i32_3110
  let c1_i32_3116 : BitVec 32 := 1#32
  let v6508 : BitVec 32 := Scalar.subi v6493 c1_i32_3116
  let v6509 : BitVec 32 := Scalar.select v6507 v6508 v6493
  let v6522 : Index := Scalar.indexCast v6509
  let c8_i32_3117 : BitVec 32 := 8#32
  let v6510 : BitVec 32 := Scalar.muli v6509 c8_i32_3117
  let v6511 : BitVec 32 := Scalar.subi arg20 v6510
  let v6523 : Index := Scalar.indexCast v6511
  let c0_3124 : Index := 0#32
  let c0_3125 : Index := 0#32
  ![v6522.toNat, v6523.toNat, 0, 0]
def k0_off44 (k0_t3 : Fin k0_t3_loop.trips) : Fin 4 → Nat :=
  let c0_i32_1938 : BitVec 32 := 0#32
  let c1_i32_1940 : BitVec 32 := 1#32
  let arg20 : BitVec 32 := Scf.iv c0_i32_1938 c1_i32_1940 k0_t3
  let c0_i32_3111 : BitVec 32 := 0#32
  let v6494 : BitVec 1 := Scalar.cmpi .sgt arg20 c0_i32_3111
  let v6495 : BitVec 32 := Scalar.extui v6494
  let c0_i32_3112 : BitVec 32 := 0#32
  let v6496 : BitVec 1 := Scalar.cmpi .slt arg20 c0_i32_3112
  let v6497 : BitVec 32 := Scalar.extui v6496
  let v6498 : BitVec 32 := Scalar.subi v6495 v6497
  let c8_i32_3110 : BitVec 32 := 8#32
  let c0_i32_3113 : BitVec 32 := 0#32
  let v6499 : BitVec 1 := Scalar.cmpi .sgt c8_i32_3110 c0_i32_3113
  let v6500 : BitVec 32 := Scalar.extui v6499
  let c0_i32_3114 : BitVec 32 := 0#32
  let v6501 : BitVec 1 := Scalar.cmpi .slt c8_i32_3110 c0_i32_3114
  let v6502 : BitVec 32 := Scalar.extui v6501
  let v6503 : BitVec 32 := Scalar.subi v6500 v6502
  let v6504 : BitVec 1 := Scalar.cmpi .ne v6498 v6503
  let v6505 : BitVec 32 := Scalar.remsi arg20 c8_i32_3110
  let c0_i32_3115 : BitVec 32 := 0#32
  let v6506 : BitVec 1 := Scalar.cmpi .ne v6505 c0_i32_3115
  let v6507 : BitVec 1 := Scalar.andi v6504 v6506
  let v6493 : BitVec 32 := Scalar.divsi arg20 c8_i32_3110
  let c1_i32_3116 : BitVec 32 := 1#32
  let v6508 : BitVec 32 := Scalar.subi v6493 c1_i32_3116
  let v6509 : BitVec 32 := Scalar.select v6507 v6508 v6493
  let v6528 : Index := Scalar.indexCast v6509
  let c8_i32_3117 : BitVec 32 := 8#32
  let v6510 : BitVec 32 := Scalar.muli v6509 c8_i32_3117
  let v6511 : BitVec 32 := Scalar.subi arg20 v6510
  let v6529 : Index := Scalar.indexCast v6511
  let c0_3127 : Index := 0#32
  let c0_3128 : Index := 0#32
  ![v6528.toNat, v6529.toNat, 0, 0]
def k0_off45 (v2802 : BitVec 32) : Fin 4 → Nat :=
  let c0_i32_1945 : BitVec 32 := 0#32
  let c0_i32_1946 : BitVec 32 := 0#32
  let c0_i32_1947 : BitVec 32 := 0#32
  ![v2802.toNat, 0, 0, 0]

def k0_chk8 (v2802 : BitVec 32) : Prop :=
  (∀ a, (k0_off30 v2802) a + S1x2x512x1024.size a ≤ S8x2x512x1024.size a) ∧
  (∀ (hinb : ∀ a, (k0_off30 v2802) a + S1x2x512x1024.size a ≤ S8x2x512x1024.size a), (Rect.unit (s := S8x2x512x1024) (k0_off30 v2802) S1x2x512x1024.size hinb).WholeWords (EltTy.packing .bf16)) ∧
  (∀ a, (k0_off45 v2802) a + S1x2x512x1024.size a ≤ S8x2x512x1024.size a) ∧
  (∀ (hinb : ∀ a, (k0_off45 v2802) a + S1x2x512x1024.size a ≤ S8x2x512x1024.size a), (Rect.unit (s := S8x2x512x1024) (k0_off45 v2802) S1x2x512x1024.size hinb).WholeWords (EltTy.packing .bf16))
theorem k0_off30_inb : ∀ (v2802 : BitVec 32) (k0_hw8 : k0_chk8 v2802), ∀ a, (k0_off30 v2802) a + S1x2x512x1024.size a ≤ S8x2x512x1024.size a := fun v2802 k0_hw8 => k0_hw8.1
theorem k0_off30_wordsbf16 : ∀ (v2802 : BitVec 32) (k0_hw8 : k0_chk8 v2802), (Rect.unit (s := S8x2x512x1024) (k0_off30 v2802) S1x2x512x1024.size (k0_off30_inb v2802 k0_hw8)).WholeWords (EltTy.packing .bf16) := fun v2802 k0_hw8 => k0_hw8.2.1 (k0_off30_inb v2802 k0_hw8)
theorem k0_off45_inb : ∀ (v2802 : BitVec 32) (k0_hw8 : k0_chk8 v2802), ∀ a, (k0_off45 v2802) a + S1x2x512x1024.size a ≤ S8x2x512x1024.size a := fun v2802 k0_hw8 => k0_hw8.2.2.1
theorem k0_off45_wordsbf16 : ∀ (v2802 : BitVec 32) (k0_hw8 : k0_chk8 v2802), (Rect.unit (s := S8x2x512x1024) (k0_off45 v2802) S1x2x512x1024.size (k0_off45_inb v2802 k0_hw8)).WholeWords (EltTy.packing .bf16) := fun v2802 k0_hw8 => k0_hw8.2.2.2 (k0_off45_inb v2802 k0_hw8)

def k0_off46 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4226 : Index := Scalar.indexCast v2
  let c5_1961 : Index := 5#32
  ![v4226.toNat, 5]
def k0_off47 (v4227 : BitVec 32) : Fin 4 → Nat :=
  let c0_i32_1965 : BitVec 32 := 0#32
  let c0_i32_1966 : BitVec 32 := 0#32
  let c0_i32_1967 : BitVec 32 := 0#32
  ![v4227.toNat, 0, 0, 0]

def k0_dev9 (v4 : BitVec 32) : Nat :=
  let c0_i32_1964 : BitVec 32 := 0#32
  let c1_i32_1963 : BitVec 32 := 1#32
  let v4228 : BitVec 32 := Scalar.muli v4 c1_i32_1963
  let v4229 : BitVec 32 := Scalar.addi c0_i32_1964 v4228
  v4229.toNat

def k0_chk2 (v4 : BitVec 32) : Prop :=
  ((k0_dev2 v4) < nD) ∧
  ((k0_dev3 v4) < nD) ∧
  ((k0_dev5 v4) < nD) ∧
  ((k0_dev7 v4) < nD) ∧
  ((k0_dev9 v4) < nD)
theorem k0_dev2_lt : ∀ (v4 : BitVec 32) (k0_hw2 : k0_chk2 v4), (k0_dev2 v4) < nD := fun v4 k0_hw2 => k0_hw2.1
theorem k0_dev3_lt : ∀ (v4 : BitVec 32) (k0_hw2 : k0_chk2 v4), (k0_dev3 v4) < nD := fun v4 k0_hw2 => k0_hw2.2.1
theorem k0_dev5_lt : ∀ (v4 : BitVec 32) (k0_hw2 : k0_chk2 v4), (k0_dev5 v4) < nD := fun v4 k0_hw2 => k0_hw2.2.2.1
theorem k0_dev7_lt : ∀ (v4 : BitVec 32) (k0_hw2 : k0_chk2 v4), (k0_dev7 v4) < nD := fun v4 k0_hw2 => k0_hw2.2.2.2.1
theorem k0_dev9_lt : ∀ (v4 : BitVec 32) (k0_hw2 : k0_chk2 v4), (k0_dev9 v4) < nD := fun v4 k0_hw2 => k0_hw2.2.2.2.2

def k0_off48 (v2828 : BitVec 32) : Fin 4 → Nat :=
  let c0_i32_1974 : BitVec 32 := 0#32
  let c0_i32_1975 : BitVec 32 := 0#32
  let c0_i32_1976 : BitVec 32 := 0#32
  ![v2828.toNat, 0, 0, 0]

def k0_chk9 (v2828 : BitVec 32) : Prop :=
  (∀ a, (k0_off33 v2828) a + S1x2x512x1024.size a ≤ S8x2x512x1024.size a) ∧
  (∀ (hinb : ∀ a, (k0_off33 v2828) a + S1x2x512x1024.size a ≤ S8x2x512x1024.size a), (Rect.unit (s := S8x2x512x1024) (k0_off33 v2828) S1x2x512x1024.size hinb).WholeWords (EltTy.packing .bf16)) ∧
  (∀ a, (k0_off48 v2828) a + S1x2x512x1024.size a ≤ S8x2x512x1024.size a) ∧
  (∀ (hinb : ∀ a, (k0_off48 v2828) a + S1x2x512x1024.size a ≤ S8x2x512x1024.size a), (Rect.unit (s := S8x2x512x1024) (k0_off48 v2828) S1x2x512x1024.size hinb).WholeWords (EltTy.packing .bf16))
theorem k0_off33_inb : ∀ (v2828 : BitVec 32) (k0_hw9 : k0_chk9 v2828), ∀ a, (k0_off33 v2828) a + S1x2x512x1024.size a ≤ S8x2x512x1024.size a := fun v2828 k0_hw9 => k0_hw9.1
theorem k0_off33_wordsbf16 : ∀ (v2828 : BitVec 32) (k0_hw9 : k0_chk9 v2828), (Rect.unit (s := S8x2x512x1024) (k0_off33 v2828) S1x2x512x1024.size (k0_off33_inb v2828 k0_hw9)).WholeWords (EltTy.packing .bf16) := fun v2828 k0_hw9 => k0_hw9.2.1 (k0_off33_inb v2828 k0_hw9)
theorem k0_off48_inb : ∀ (v2828 : BitVec 32) (k0_hw9 : k0_chk9 v2828), ∀ a, (k0_off48 v2828) a + S1x2x512x1024.size a ≤ S8x2x512x1024.size a := fun v2828 k0_hw9 => k0_hw9.2.2.1
theorem k0_off48_wordsbf16 : ∀ (v2828 : BitVec 32) (k0_hw9 : k0_chk9 v2828), (Rect.unit (s := S8x2x512x1024) (k0_off48 v2828) S1x2x512x1024.size (k0_off48_inb v2828 k0_hw9)).WholeWords (EltTy.packing .bf16) := fun v2828 k0_hw9 => k0_hw9.2.2.2 (k0_off48_inb v2828 k0_hw9)

def k0_off49 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4252 : Index := Scalar.indexCast v2
  let c5_1990 : Index := 5#32
  ![v4252.toNat, 5]
def k0_off50 (v4253 : BitVec 32) : Fin 2 → Nat :=
  let c512_i32_1991 : BitVec 32 := 512#32
  let v4254 : BitVec 32 := Scalar.muli v4253 c512_i32_1991
  let v4255 : Index := Scalar.indexCast v4254
  let c0_1992 : Index := 0#32
  ![v4255.toNat, 0]

def k0_off51 (v4253 : BitVec 32) : Fin 4 → Nat :=
  let v4264 : Index := Scalar.indexCast v4253
  let c0_1995 : Index := 0#32
  let c0_1996 : Index := 0#32
  let c0_1997 : Index := 0#32
  ![v4264.toNat, 0, 0, 0]
def k0_off52 (v4253 : BitVec 32) : Fin 4 → Nat :=
  let v4601 : Index := Scalar.indexCast v4253
  let c1_2148 : Index := 1#32
  let c0_2149 : Index := 0#32
  let c0_2150 : Index := 0#32
  ![v4601.toNat, 1, 0, 0]

def k0_chk13 (v4253 : BitVec 32) : Prop :=
  (∀ a, (k0_off50 v4253) a + S512x128.size a ≤ S4096x128.size a) ∧
  (∀ a, (k0_off51 v4253) a + S1x1x512x1024.size a ≤ S8x2x512x1024.size a) ∧
  (∀ a, (k0_off52 v4253) a + S1x1x512x1024.size a ≤ S8x2x512x1024.size a)
theorem k0_off50_inb : ∀ (v4253 : BitVec 32) (k0_hw13 : k0_chk13 v4253), ∀ a, (k0_off50 v4253) a + S512x128.size a ≤ S4096x128.size a := fun v4253 k0_hw13 => k0_hw13.1
theorem k0_off51_inb : ∀ (v4253 : BitVec 32) (k0_hw13 : k0_chk13 v4253), ∀ a, (k0_off51 v4253) a + S1x1x512x1024.size a ≤ S8x2x512x1024.size a := fun v4253 k0_hw13 => k0_hw13.2.1
theorem k0_off52_inb : ∀ (v4253 : BitVec 32) (k0_hw13 : k0_chk13 v4253), ∀ a, (k0_off52 v4253) a + S1x1x512x1024.size a ≤ S8x2x512x1024.size a := fun v4253 k0_hw13 => k0_hw13.2.2

def k0_off53 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4938 : Index := Scalar.indexCast v2
  let c9 : Index := 9#32
  ![v4938.toNat, 9]
def k0_off54 (v4939 : BitVec 32) : Fin 2 → Nat :=
  let c512_i32_2301 : BitVec 32 := 512#32
  let v4940 : BitVec 32 := Scalar.muli v4939 c512_i32_2301
  let v4941 : Index := Scalar.indexCast v4940
  let c0_2302 : Index := 0#32
  ![v4941.toNat, 0]

def k0_off55 (v4939 : BitVec 32) : Fin 4 → Nat :=
  let v4950 : Index := Scalar.indexCast v4939
  let c0_2305 : Index := 0#32
  let c0_2306 : Index := 0#32
  let c0_2307 : Index := 0#32
  ![v4950.toNat, 0, 0, 0]
def k0_off56 (v4939 : BitVec 32) : Fin 4 → Nat :=
  let v5287 : Index := Scalar.indexCast v4939
  let c1_2458 : Index := 1#32
  let c0_2459 : Index := 0#32
  let c0_2460 : Index := 0#32
  ![v5287.toNat, 1, 0, 0]

def k0_chk14 (v4939 : BitVec 32) : Prop :=
  (∀ a, (k0_off54 v4939) a + S512x128.size a ≤ S4096x128.size a) ∧
  (∀ a, (k0_off55 v4939) a + S1x1x512x1024.size a ≤ S8x2x512x1024.size a) ∧
  (∀ a, (k0_off56 v4939) a + S1x1x512x1024.size a ≤ S8x2x512x1024.size a)
theorem k0_off54_inb : ∀ (v4939 : BitVec 32) (k0_hw14 : k0_chk14 v4939), ∀ a, (k0_off54 v4939) a + S512x128.size a ≤ S4096x128.size a := fun v4939 k0_hw14 => k0_hw14.1
theorem k0_off55_inb : ∀ (v4939 : BitVec 32) (k0_hw14 : k0_chk14 v4939), ∀ a, (k0_off55 v4939) a + S1x1x512x1024.size a ≤ S8x2x512x1024.size a := fun v4939 k0_hw14 => k0_hw14.2.1
theorem k0_off56_inb : ∀ (v4939 : BitVec 32) (k0_hw14 : k0_chk14 v4939), ∀ a, (k0_off56 v4939) a + S1x1x512x1024.size a ≤ S8x2x512x1024.size a := fun v4939 k0_hw14 => k0_hw14.2.2

@[reducible] def k0_t4_loop : Scf.Loop 32 :=
  let c0_i32_2611 : BitVec 32 := 0#32
  let c16_i32_2612 : BitVec 32 := 16#32
  let v5624 : BitVec 32 := Scalar.addi c0_i32_2611 c16_i32_2612
  let c1_i32_2613 : BitVec 32 := 1#32
  ⟨c0_i32_2611, v5624, c1_i32_2613⟩
def k0_off57 (k0_t4 : Fin k0_t4_loop.trips) : Fin 5 → Nat :=
  let c0_i32_2611 : BitVec 32 := 0#32
  let c1_i32_2613 : BitVec 32 := 1#32
  let arg20 : BitVec 32 := Scf.iv c0_i32_2611 c1_i32_2613 k0_t4
  let c0_i32_3111 : BitVec 32 := 0#32
  let v6494 : BitVec 1 := Scalar.cmpi .sgt arg20 c0_i32_3111
  let v6495 : BitVec 32 := Scalar.extui v6494
  let c0_i32_3112 : BitVec 32 := 0#32
  let v6496 : BitVec 1 := Scalar.cmpi .slt arg20 c0_i32_3112
  let v6497 : BitVec 32 := Scalar.extui v6496
  let v6498 : BitVec 32 := Scalar.subi v6495 v6497
  let c8_i32_3110 : BitVec 32 := 8#32
  let c0_i32_3113 : BitVec 32 := 0#32
  let v6499 : BitVec 1 := Scalar.cmpi .sgt c8_i32_3110 c0_i32_3113
  let v6500 : BitVec 32 := Scalar.extui v6499
  let c0_i32_3114 : BitVec 32 := 0#32
  let v6501 : BitVec 1 := Scalar.cmpi .slt c8_i32_3110 c0_i32_3114
  let v6502 : BitVec 32 := Scalar.extui v6501
  let v6503 : BitVec 32 := Scalar.subi v6500 v6502
  let v6504 : BitVec 1 := Scalar.cmpi .ne v6498 v6503
  let v6505 : BitVec 32 := Scalar.remsi arg20 c8_i32_3110
  let c0_i32_3115 : BitVec 32 := 0#32
  let v6506 : BitVec 1 := Scalar.cmpi .ne v6505 c0_i32_3115
  let v6507 : BitVec 1 := Scalar.andi v6504 v6506
  let v6493 : BitVec 32 := Scalar.divsi arg20 c8_i32_3110
  let c1_i32_3116 : BitVec 32 := 1#32
  let v6508 : BitVec 32 := Scalar.subi v6493 c1_i32_3116
  let v6509 : BitVec 32 := Scalar.select v6507 v6508 v6493
  let c8_i32_3117 : BitVec 32 := 8#32
  let v6510 : BitVec 32 := Scalar.muli v6509 c8_i32_3117
  let v6511 : BitVec 32 := Scalar.subi arg20 v6510
  let v6512 : Index := Scalar.indexCast v6511
  let v6513 : Index := Scalar.indexCast v6509
  let c0_3118 : Index := 0#32
  let c0_3119 : Index := 0#32
  let c0_3120 : Index := 0#32
  ![v6512.toNat, v6513.toNat, 0, 0, 0]
def k0_off58 (k0_t4 : Fin k0_t4_loop.trips) : Fin 4 → Nat :=
  let c0_i32_2611 : BitVec 32 := 0#32
  let c1_i32_2613 : BitVec 32 := 1#32
  let arg20 : BitVec 32 := Scf.iv c0_i32_2611 c1_i32_2613 k0_t4
  let c0_i32_3111 : BitVec 32 := 0#32
  let v6494 : BitVec 1 := Scalar.cmpi .sgt arg20 c0_i32_3111
  let v6495 : BitVec 32 := Scalar.extui v6494
  let c0_i32_3112 : BitVec 32 := 0#32
  let v6496 : BitVec 1 := Scalar.cmpi .slt arg20 c0_i32_3112
  let v6497 : BitVec 32 := Scalar.extui v6496
  let v6498 : BitVec 32 := Scalar.subi v6495 v6497
  let c8_i32_3110 : BitVec 32 := 8#32
  let c0_i32_3113 : BitVec 32 := 0#32
  let v6499 : BitVec 1 := Scalar.cmpi .sgt c8_i32_3110 c0_i32_3113
  let v6500 : BitVec 32 := Scalar.extui v6499
  let c0_i32_3114 : BitVec 32 := 0#32
  let v6501 : BitVec 1 := Scalar.cmpi .slt c8_i32_3110 c0_i32_3114
  let v6502 : BitVec 32 := Scalar.extui v6501
  let v6503 : BitVec 32 := Scalar.subi v6500 v6502
  let v6504 : BitVec 1 := Scalar.cmpi .ne v6498 v6503
  let v6505 : BitVec 32 := Scalar.remsi arg20 c8_i32_3110
  let c0_i32_3115 : BitVec 32 := 0#32
  let v6506 : BitVec 1 := Scalar.cmpi .ne v6505 c0_i32_3115
  let v6507 : BitVec 1 := Scalar.andi v6504 v6506
  let v6493 : BitVec 32 := Scalar.divsi arg20 c8_i32_3110
  let c1_i32_3116 : BitVec 32 := 1#32
  let v6508 : BitVec 32 := Scalar.subi v6493 c1_i32_3116
  let v6509 : BitVec 32 := Scalar.select v6507 v6508 v6493
  let v6522 : Index := Scalar.indexCast v6509
  let c8_i32_3117 : BitVec 32 := 8#32
  let v6510 : BitVec 32 := Scalar.muli v6509 c8_i32_3117
  let v6511 : BitVec 32 := Scalar.subi arg20 v6510
  let v6523 : Index := Scalar.indexCast v6511
  let c0_3124 : Index := 0#32
  let c0_3125 : Index := 0#32
  ![v6522.toNat, v6523.toNat, 0, 0]
def k0_off59 (k0_t4 : Fin k0_t4_loop.trips) : Fin 4 → Nat :=
  let c0_i32_2611 : BitVec 32 := 0#32
  let c1_i32_2613 : BitVec 32 := 1#32
  let arg20 : BitVec 32 := Scf.iv c0_i32_2611 c1_i32_2613 k0_t4
  let c0_i32_3111 : BitVec 32 := 0#32
  let v6494 : BitVec 1 := Scalar.cmpi .sgt arg20 c0_i32_3111
  let v6495 : BitVec 32 := Scalar.extui v6494
  let c0_i32_3112 : BitVec 32 := 0#32
  let v6496 : BitVec 1 := Scalar.cmpi .slt arg20 c0_i32_3112
  let v6497 : BitVec 32 := Scalar.extui v6496
  let v6498 : BitVec 32 := Scalar.subi v6495 v6497
  let c8_i32_3110 : BitVec 32 := 8#32
  let c0_i32_3113 : BitVec 32 := 0#32
  let v6499 : BitVec 1 := Scalar.cmpi .sgt c8_i32_3110 c0_i32_3113
  let v6500 : BitVec 32 := Scalar.extui v6499
  let c0_i32_3114 : BitVec 32 := 0#32
  let v6501 : BitVec 1 := Scalar.cmpi .slt c8_i32_3110 c0_i32_3114
  let v6502 : BitVec 32 := Scalar.extui v6501
  let v6503 : BitVec 32 := Scalar.subi v6500 v6502
  let v6504 : BitVec 1 := Scalar.cmpi .ne v6498 v6503
  let v6505 : BitVec 32 := Scalar.remsi arg20 c8_i32_3110
  let c0_i32_3115 : BitVec 32 := 0#32
  let v6506 : BitVec 1 := Scalar.cmpi .ne v6505 c0_i32_3115
  let v6507 : BitVec 1 := Scalar.andi v6504 v6506
  let v6493 : BitVec 32 := Scalar.divsi arg20 c8_i32_3110
  let c1_i32_3116 : BitVec 32 := 1#32
  let v6508 : BitVec 32 := Scalar.subi v6493 c1_i32_3116
  let v6509 : BitVec 32 := Scalar.select v6507 v6508 v6493
  let v6528 : Index := Scalar.indexCast v6509
  let c8_i32_3117 : BitVec 32 := 8#32
  let v6510 : BitVec 32 := Scalar.muli v6509 c8_i32_3117
  let v6511 : BitVec 32 := Scalar.subi arg20 v6510
  let v6529 : Index := Scalar.indexCast v6511
  let c0_3127 : Index := 0#32
  let c0_3128 : Index := 0#32
  ![v6528.toNat, v6529.toNat, 0, 0]
def k0_off60 (v4227 : BitVec 32) : Fin 4 → Nat :=
  let c0_i32_2618 : BitVec 32 := 0#32
  let c0_i32_2619 : BitVec 32 := 0#32
  let c0_i32_2620 : BitVec 32 := 0#32
  ![v4227.toNat, 0, 0, 0]

def k0_chk12 (v4227 : BitVec 32) : Prop :=
  (∀ a, (k0_off47 v4227) a + S1x2x512x1024.size a ≤ S8x2x512x1024.size a) ∧
  (∀ (hinb : ∀ a, (k0_off47 v4227) a + S1x2x512x1024.size a ≤ S8x2x512x1024.size a), (Rect.unit (s := S8x2x512x1024) (k0_off47 v4227) S1x2x512x1024.size hinb).WholeWords (EltTy.packing .bf16)) ∧
  (∀ a, (k0_off60 v4227) a + S1x2x512x1024.size a ≤ S8x2x512x1024.size a) ∧
  (∀ (hinb : ∀ a, (k0_off60 v4227) a + S1x2x512x1024.size a ≤ S8x2x512x1024.size a), (Rect.unit (s := S8x2x512x1024) (k0_off60 v4227) S1x2x512x1024.size hinb).WholeWords (EltTy.packing .bf16))
theorem k0_off47_inb : ∀ (v4227 : BitVec 32) (k0_hw12 : k0_chk12 v4227), ∀ a, (k0_off47 v4227) a + S1x2x512x1024.size a ≤ S8x2x512x1024.size a := fun v4227 k0_hw12 => k0_hw12.1
theorem k0_off47_wordsbf16 : ∀ (v4227 : BitVec 32) (k0_hw12 : k0_chk12 v4227), (Rect.unit (s := S8x2x512x1024) (k0_off47 v4227) S1x2x512x1024.size (k0_off47_inb v4227 k0_hw12)).WholeWords (EltTy.packing .bf16) := fun v4227 k0_hw12 => k0_hw12.2.1 (k0_off47_inb v4227 k0_hw12)
theorem k0_off60_inb : ∀ (v4227 : BitVec 32) (k0_hw12 : k0_chk12 v4227), ∀ a, (k0_off60 v4227) a + S1x2x512x1024.size a ≤ S8x2x512x1024.size a := fun v4227 k0_hw12 => k0_hw12.2.2.1
theorem k0_off60_wordsbf16 : ∀ (v4227 : BitVec 32) (k0_hw12 : k0_chk12 v4227), (Rect.unit (s := S8x2x512x1024) (k0_off60 v4227) S1x2x512x1024.size (k0_off60_inb v4227 k0_hw12)).WholeWords (EltTy.packing .bf16) := fun v4227 k0_hw12 => k0_hw12.2.2.2 (k0_off60_inb v4227 k0_hw12)

def k0_off61 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v5639 : Index := Scalar.indexCast v2
  let c6_2634 : Index := 6#32
  ![v5639.toNat, 6]
def k0_off62 (v5640 : BitVec 32) : Fin 2 → Nat :=
  let c512_i32_2635 : BitVec 32 := 512#32
  let v5641 : BitVec 32 := Scalar.muli v5640 c512_i32_2635
  let v5642 : Index := Scalar.indexCast v5641
  let c0_2636 : Index := 0#32
  ![v5642.toNat, 0]

def k0_off63 (v5640 : BitVec 32) : Fin 4 → Nat :=
  let v5651 : Index := Scalar.indexCast v5640
  let c0_2639 : Index := 0#32
  let c0_2640 : Index := 0#32
  let c0_2641 : Index := 0#32
  ![v5651.toNat, 0, 0, 0]
def k0_off64 (v5640 : BitVec 32) : Fin 4 → Nat :=
  let v5988 : Index := Scalar.indexCast v5640
  let c1_2792 : Index := 1#32
  let c0_2793 : Index := 0#32
  let c0_2794 : Index := 0#32
  ![v5988.toNat, 1, 0, 0]

def k0_chk15 (v5640 : BitVec 32) : Prop :=
  (∀ a, (k0_off62 v5640) a + S512x128.size a ≤ S4096x128.size a) ∧
  (∀ a, (k0_off63 v5640) a + S1x1x512x1024.size a ≤ S8x2x512x1024.size a) ∧
  (∀ a, (k0_off64 v5640) a + S1x1x512x1024.size a ≤ S8x2x512x1024.size a)
theorem k0_off62_inb : ∀ (v5640 : BitVec 32) (k0_hw15 : k0_chk15 v5640), ∀ a, (k0_off62 v5640) a + S512x128.size a ≤ S4096x128.size a := fun v5640 k0_hw15 => k0_hw15.1
theorem k0_off63_inb : ∀ (v5640 : BitVec 32) (k0_hw15 : k0_chk15 v5640), ∀ a, (k0_off63 v5640) a + S1x1x512x1024.size a ≤ S8x2x512x1024.size a := fun v5640 k0_hw15 => k0_hw15.2.1
theorem k0_off64_inb : ∀ (v5640 : BitVec 32) (k0_hw15 : k0_chk15 v5640), ∀ a, (k0_off64 v5640) a + S1x1x512x1024.size a ≤ S8x2x512x1024.size a := fun v5640 k0_hw15 => k0_hw15.2.2

@[reducible] def k0_t5_loop : Scf.Loop 32 :=
  let c0_i32_2945 : BitVec 32 := 0#32
  let c16_i32_2946 : BitVec 32 := 16#32
  let v6325 : BitVec 32 := Scalar.addi c0_i32_2945 c16_i32_2946
  let c1_i32_2947 : BitVec 32 := 1#32
  ⟨c0_i32_2945, v6325, c1_i32_2947⟩
def k0_off65 (k0_t5 : Fin k0_t5_loop.trips) : Fin 5 → Nat :=
  let c0_i32_2945 : BitVec 32 := 0#32
  let c1_i32_2947 : BitVec 32 := 1#32
  let arg20 : BitVec 32 := Scf.iv c0_i32_2945 c1_i32_2947 k0_t5
  let c0_i32_3111 : BitVec 32 := 0#32
  let v6494 : BitVec 1 := Scalar.cmpi .sgt arg20 c0_i32_3111
  let v6495 : BitVec 32 := Scalar.extui v6494
  let c0_i32_3112 : BitVec 32 := 0#32
  let v6496 : BitVec 1 := Scalar.cmpi .slt arg20 c0_i32_3112
  let v6497 : BitVec 32 := Scalar.extui v6496
  let v6498 : BitVec 32 := Scalar.subi v6495 v6497
  let c8_i32_3110 : BitVec 32 := 8#32
  let c0_i32_3113 : BitVec 32 := 0#32
  let v6499 : BitVec 1 := Scalar.cmpi .sgt c8_i32_3110 c0_i32_3113
  let v6500 : BitVec 32 := Scalar.extui v6499
  let c0_i32_3114 : BitVec 32 := 0#32
  let v6501 : BitVec 1 := Scalar.cmpi .slt c8_i32_3110 c0_i32_3114
  let v6502 : BitVec 32 := Scalar.extui v6501
  let v6503 : BitVec 32 := Scalar.subi v6500 v6502
  let v6504 : BitVec 1 := Scalar.cmpi .ne v6498 v6503
  let v6505 : BitVec 32 := Scalar.remsi arg20 c8_i32_3110
  let c0_i32_3115 : BitVec 32 := 0#32
  let v6506 : BitVec 1 := Scalar.cmpi .ne v6505 c0_i32_3115
  let v6507 : BitVec 1 := Scalar.andi v6504 v6506
  let v6493 : BitVec 32 := Scalar.divsi arg20 c8_i32_3110
  let c1_i32_3116 : BitVec 32 := 1#32
  let v6508 : BitVec 32 := Scalar.subi v6493 c1_i32_3116
  let v6509 : BitVec 32 := Scalar.select v6507 v6508 v6493
  let c8_i32_3117 : BitVec 32 := 8#32
  let v6510 : BitVec 32 := Scalar.muli v6509 c8_i32_3117
  let v6511 : BitVec 32 := Scalar.subi arg20 v6510
  let v6512 : Index := Scalar.indexCast v6511
  let v6513 : Index := Scalar.indexCast v6509
  let c0_3118 : Index := 0#32
  let c0_3119 : Index := 0#32
  let c0_3120 : Index := 0#32
  ![v6512.toNat, v6513.toNat, 0, 0, 0]
def k0_off66 (k0_t5 : Fin k0_t5_loop.trips) : Fin 4 → Nat :=
  let c0_i32_2945 : BitVec 32 := 0#32
  let c1_i32_2947 : BitVec 32 := 1#32
  let arg20 : BitVec 32 := Scf.iv c0_i32_2945 c1_i32_2947 k0_t5
  let c0_i32_3111 : BitVec 32 := 0#32
  let v6494 : BitVec 1 := Scalar.cmpi .sgt arg20 c0_i32_3111
  let v6495 : BitVec 32 := Scalar.extui v6494
  let c0_i32_3112 : BitVec 32 := 0#32
  let v6496 : BitVec 1 := Scalar.cmpi .slt arg20 c0_i32_3112
  let v6497 : BitVec 32 := Scalar.extui v6496
  let v6498 : BitVec 32 := Scalar.subi v6495 v6497
  let c8_i32_3110 : BitVec 32 := 8#32
  let c0_i32_3113 : BitVec 32 := 0#32
  let v6499 : BitVec 1 := Scalar.cmpi .sgt c8_i32_3110 c0_i32_3113
  let v6500 : BitVec 32 := Scalar.extui v6499
  let c0_i32_3114 : BitVec 32 := 0#32
  let v6501 : BitVec 1 := Scalar.cmpi .slt c8_i32_3110 c0_i32_3114
  let v6502 : BitVec 32 := Scalar.extui v6501
  let v6503 : BitVec 32 := Scalar.subi v6500 v6502
  let v6504 : BitVec 1 := Scalar.cmpi .ne v6498 v6503
  let v6505 : BitVec 32 := Scalar.remsi arg20 c8_i32_3110
  let c0_i32_3115 : BitVec 32 := 0#32
  let v6506 : BitVec 1 := Scalar.cmpi .ne v6505 c0_i32_3115
  let v6507 : BitVec 1 := Scalar.andi v6504 v6506
  let v6493 : BitVec 32 := Scalar.divsi arg20 c8_i32_3110
  let c1_i32_3116 : BitVec 32 := 1#32
  let v6508 : BitVec 32 := Scalar.subi v6493 c1_i32_3116
  let v6509 : BitVec 32 := Scalar.select v6507 v6508 v6493
  let v6522 : Index := Scalar.indexCast v6509
  let c8_i32_3117 : BitVec 32 := 8#32
  let v6510 : BitVec 32 := Scalar.muli v6509 c8_i32_3117
  let v6511 : BitVec 32 := Scalar.subi arg20 v6510
  let v6523 : Index := Scalar.indexCast v6511
  let c0_3124 : Index := 0#32
  let c0_3125 : Index := 0#32
  ![v6522.toNat, v6523.toNat, 0, 0]
def k0_off67 (k0_t5 : Fin k0_t5_loop.trips) : Fin 4 → Nat :=
  let c0_i32_2945 : BitVec 32 := 0#32
  let c1_i32_2947 : BitVec 32 := 1#32
  let arg20 : BitVec 32 := Scf.iv c0_i32_2945 c1_i32_2947 k0_t5
  let c0_i32_3111 : BitVec 32 := 0#32
  let v6494 : BitVec 1 := Scalar.cmpi .sgt arg20 c0_i32_3111
  let v6495 : BitVec 32 := Scalar.extui v6494
  let c0_i32_3112 : BitVec 32 := 0#32
  let v6496 : BitVec 1 := Scalar.cmpi .slt arg20 c0_i32_3112
  let v6497 : BitVec 32 := Scalar.extui v6496
  let v6498 : BitVec 32 := Scalar.subi v6495 v6497
  let c8_i32_3110 : BitVec 32 := 8#32
  let c0_i32_3113 : BitVec 32 := 0#32
  let v6499 : BitVec 1 := Scalar.cmpi .sgt c8_i32_3110 c0_i32_3113
  let v6500 : BitVec 32 := Scalar.extui v6499
  let c0_i32_3114 : BitVec 32 := 0#32
  let v6501 : BitVec 1 := Scalar.cmpi .slt c8_i32_3110 c0_i32_3114
  let v6502 : BitVec 32 := Scalar.extui v6501
  let v6503 : BitVec 32 := Scalar.subi v6500 v6502
  let v6504 : BitVec 1 := Scalar.cmpi .ne v6498 v6503
  let v6505 : BitVec 32 := Scalar.remsi arg20 c8_i32_3110
  let c0_i32_3115 : BitVec 32 := 0#32
  let v6506 : BitVec 1 := Scalar.cmpi .ne v6505 c0_i32_3115
  let v6507 : BitVec 1 := Scalar.andi v6504 v6506
  let v6493 : BitVec 32 := Scalar.divsi arg20 c8_i32_3110
  let c1_i32_3116 : BitVec 32 := 1#32
  let v6508 : BitVec 32 := Scalar.subi v6493 c1_i32_3116
  let v6509 : BitVec 32 := Scalar.select v6507 v6508 v6493
  let v6528 : Index := Scalar.indexCast v6509
  let c8_i32_3117 : BitVec 32 := 8#32
  let v6510 : BitVec 32 := Scalar.muli v6509 c8_i32_3117
  let v6511 : BitVec 32 := Scalar.subi arg20 v6510
  let v6529 : Index := Scalar.indexCast v6511
  let c0_3127 : Index := 0#32
  let c0_3128 : Index := 0#32
  ![v6528.toNat, v6529.toNat, 0, 0]
abbrev stage0_0 : Fin 1 → Memref sig .tc .smem S8x10 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== KernelIdeal.lean ====
variable {F : FTy → Type} [FloatOps F] [Named F]
def κ : String → Option EReal := fun
  | "scale_log2e" => some (((11863283 / 134217728) * (Real.log 2)⁻¹ : ℝ) : EReal)
  | _ => none
-- ==== ReferenceIdeal.lean ====
abbrev S2x4096x1024 : Shape := ⟨3, ![2, 4096, 1024]⟩
abbrev S1024x1024 : Shape := ⟨2, ![1024, 1024]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x64x2 : Shape := ⟨3, ![4096, 64, 2]⟩
abbrev S4096x128 : Shape := ⟨2, ![4096, 128]⟩
abbrev S2x4096x8x128 : Shape := ⟨4, ![2, 4096, 8, 128]⟩
abbrev S2x4096x8x64x2 : Shape := ⟨5, ![2, 4096, 8, 64, 2]⟩
abbrev S2x4096x8x64x1 : Shape := ⟨5, ![2, 4096, 8, 64, 1]⟩
abbrev S2x4096x8x64 : Shape := ⟨4, ![2, 4096, 8, 64]⟩
abbrev S1x4096x1x128 : Shape := ⟨4, ![1, 4096, 1, 128]⟩
abbrev S2x8x4096x4096 : Shape := ⟨4, ![2, 8, 4096, 4096]⟩
abbrev S2x8x4096 : Shape := ⟨3, ![2, 8, 4096]⟩
abbrev S2x8x4096x1 : Shape := ⟨4, ![2, 8, 4096, 1]⟩
abbrev S2x8x128x4096 : Shape := ⟨4, ![2, 8, 128, 4096]⟩

abbrev nBuf : Space → Nat
  | .hbm => 100
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S2x4096x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S64, .i32⟩
  | .hbm, ⟨11, _⟩ => ⟨S_, .i32⟩
  | .hbm, ⟨12, _⟩ => ⟨S64, .i32⟩
  | .hbm, ⟨13, _⟩ => ⟨S64, .i32⟩
  | .hbm, ⟨14, _⟩ => ⟨S_, .i32⟩
  | .hbm, ⟨15, _⟩ => ⟨S64, .i32⟩
  | .hbm, ⟨16, _⟩ => ⟨S64, .i32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S4096, .i32⟩
  | .hbm, ⟨28, _⟩ => ⟨S4096x1, .i32⟩
  | .hbm, ⟨29, _⟩ => ⟨S1x64, .f32⟩
  | .hbm, ⟨30, _⟩ => ⟨S4096x1, .f32⟩
  | .hbm, ⟨31, _⟩ => ⟨S4096x64, .f32⟩
  | .hbm, ⟨32, _⟩ => ⟨S4096x64, .f32⟩
  | .hbm, ⟨33, _⟩ => ⟨S4096x64, .f32⟩
  | .hbm, ⟨34, _⟩ => ⟨S4096x64, .f32⟩
  | .hbm, ⟨35, _⟩ => ⟨S4096x64x2, .f32⟩
  | .hbm, ⟨36, _⟩ => ⟨S4096x128, .f32⟩
  | .hbm, ⟨37, _⟩ => ⟨S4096x64, .f32⟩
  | .hbm, ⟨38, _⟩ => ⟨S4096x64x2, .f32⟩
  | .hbm, ⟨39, _⟩ => ⟨S4096x128, .f32⟩
  | .hbm, ⟨40, _⟩ => ⟨S2x4096x1024, .f32⟩
  | .hbm, ⟨41, _⟩ => ⟨S2x4096x8x128, .f32⟩
  | .hbm, ⟨42, _⟩ => ⟨S2x4096x8x64x2, .f32⟩
  | .hbm, ⟨43, _⟩ => ⟨S2x4096x8x64x1, .f32⟩
  | .hbm, ⟨44, _⟩ => ⟨S2x4096x8x64, .f32⟩
  | .hbm, ⟨45, _⟩ => ⟨S2x4096x8x64, .f32⟩
  | .hbm, ⟨46, _⟩ => ⟨S2x4096x8x64x1, .f32⟩
  | .hbm, ⟨47, _⟩ => ⟨S2x4096x8x64, .f32⟩
  | .hbm, ⟨48, _⟩ => ⟨S2x4096x8x64x1, .f32⟩
  | .hbm, ⟨49, _⟩ => ⟨S2x4096x8x64x1, .f32⟩
  | .hbm, ⟨50, _⟩ => ⟨S2x4096x8x64x2, .f32⟩
  | .hbm, ⟨51, _⟩ => ⟨S2x4096x8x128, .f32⟩
  | .hbm, ⟨52, _⟩ => ⟨S1x4096x1x128, .f32⟩
  | .hbm, ⟨53, _⟩ => ⟨S2x4096x8x128, .f32⟩
  | .hbm, ⟨54, _⟩ => ⟨S2x4096x8x128, .f32⟩
  | .hbm, ⟨55, _⟩ => ⟨S1x4096x1x128, .f32⟩
  | .hbm, ⟨56, _⟩ => ⟨S2x4096x8x128, .f32⟩
  | .hbm, ⟨57, _⟩ => ⟨S2x4096x8x128, .f32⟩
  | .hbm, ⟨58, _⟩ => ⟨S2x4096x8x128, .f32⟩
  | .hbm, ⟨59, _⟩ => ⟨S2x4096x1024, .f32⟩
  | .hbm, ⟨60, _⟩ => ⟨S2x4096x8x128, .f32⟩
  | .hbm, ⟨61, _⟩ => ⟨S2x4096x8x64x2, .f32⟩
  | .hbm, ⟨62, _⟩ => ⟨S2x4096x8x64x1, .f32⟩
  | .hbm, ⟨63, _⟩ => ⟨S2x4096x8x64, .f32⟩
  | .hbm, ⟨64, _⟩ => ⟨S2x4096x8x64, .f32⟩
  | .hbm, ⟨65, _⟩ => ⟨S2x4096x8x64x1, .f32⟩
  | .hbm, ⟨66, _⟩ => ⟨S2x4096x8x64, .f32⟩
  | .hbm, ⟨67, _⟩ => ⟨S2x4096x8x64x1, .f32⟩
  | .hbm, ⟨68, _⟩ => ⟨S2x4096x8x64x1, .f32⟩
  | .hbm, ⟨69, _⟩ => ⟨S2x4096x8x64x2, .f32⟩
  | .hbm, ⟨70, _⟩ => ⟨S2x4096x8x128, .f32⟩
  | .hbm, ⟨71, _⟩ => ⟨S1x4096x1x128, .f32⟩
  | .hbm, ⟨72, _⟩ => ⟨S2x4096x8x128, .f32⟩
  | .hbm, ⟨73, _⟩ => ⟨S2x4096x8x128, .f32⟩
  | .hbm, ⟨74, _⟩ => ⟨S1x4096x1x128, .f32⟩
  | .hbm, ⟨75, _⟩ => ⟨S2x4096x8x128, .f32⟩
  | .hbm, ⟨76, _⟩ => ⟨S2x4096x8x128, .f32⟩
  | .hbm, ⟨77, _⟩ => ⟨S2x4096x8x128, .f32⟩
  | .hbm, ⟨78, _⟩ => ⟨S2x4096x1024, .f32⟩
  | .hbm, ⟨79, _⟩ => ⟨S2x4096x8x128, .f32⟩
  | .hbm, ⟨80, _⟩ => ⟨S2x8x4096x4096, .f32⟩
  | .hbm, ⟨81, _⟩ => ⟨S_, .f32⟩
  | .hbm, ⟨82, _⟩ => ⟨S2x8x4096x4096, .f32⟩
  | .hbm, ⟨83, _⟩ => ⟨S2x8x4096x4096, .f32⟩
  | .hbm, ⟨84, _⟩ => ⟨S_, .f32⟩
  | .hbm, ⟨85, _⟩ => ⟨S2x8x4096, .f32⟩
  | .hbm, ⟨86, _⟩ => ⟨S2x8x4096x1, .f32⟩
  | .hbm, ⟨87, _⟩ => ⟨S2x8x4096x4096, .f32⟩
  | .hbm, ⟨88, _⟩ => ⟨S2x8x4096x4096, .f32⟩
  | .hbm, ⟨89, _⟩ => ⟨S2x8x4096x4096, .f32⟩
  | .hbm, ⟨90, _⟩ => ⟨S_, .f32⟩
  | .hbm, ⟨91, _⟩ => ⟨S2x8x4096, .f32⟩
  | .hbm, ⟨92, _⟩ => ⟨S2x8x4096x1, .f32⟩
  | .hbm, ⟨93, _⟩ => ⟨S2x8x4096x4096, .f32⟩
  | .hbm, ⟨94, _⟩ => ⟨S2x8x4096x4096, .f32⟩
  | .hbm, ⟨95, _⟩ => ⟨S2x8x128x4096, .f32⟩
  | .hbm, ⟨96, _⟩ => ⟨S2x4096x8x128, .f32⟩
  | .hbm, ⟨97, _⟩ => ⟨S2x4096x1024, .f32⟩
  | .hbm, ⟨98, _⟩ => ⟨S2x4096x1024, .f32⟩
  | .hbm, ⟨99, _⟩ => ⟨S2x4096x1024, .bf16⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_cst_3 : Ref sig .tc := ⟨.hbm, 81, rfl⟩
abbrev main_v71 : Ref sig .tc := ⟨.hbm, 82, rfl⟩
abbrev main_v72 : Ref sig .tc := ⟨.hbm, 83, rfl⟩
abbrev main_cst_4 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_cst_5 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩

abbrev nD : Nat := 1
abbrev τ : Topo := Topo.v7x

variable {F : FTy → Type} [FloatOps F]
-- ==== Proof.Clean.lean ====
/-
  The kernel's body written once with its repeated pieces named: a head's rotary embedding, a block's projection to keys and
  values, one pass over the heads. `cc0_body_clean` states that the printed body is this program.
-/
module

public import proofs.«01_k».proof.Proof.Gen.KernelIdeal.Skeleton
public import proofs.«01_k».proof.Proof.Gen.KernelIdeal.Points

@[expose] public section

set_option maxRecDepth 16384

noncomputable section

namespace Cert.KernelIdeal.Clean

open Idealize.ShloMosaic Idealize.ShloMosaic.TcCoe Idealize.SL.Sem
open Cert.KernelIdeal Cert.KernelIdeal.Gen

variable {F : FTy → Type} [FloatOps F] [Named F]

/-- The programs of the kernel's core. -/
abbrev PK (F : FTy → Type) [FloatOps F] [Named F] := Prog (TpuEff nD τ sig (Elt F) Λ₀ .tc)

/-! ## The buffers -/

abbrev gTab : Memref sig .tc .smem S8x10 .i32 := Memref.whole cc0_stg0_0
abbrev gX : Memref sig .tc .vmem S2x512x1024 .bf16 := Memref.whole cc0_stg1_0
abbrev gWq : Memref sig .tc .vmem S1024x1024 .bf16 := Memref.whole cc0_stg2_0
abbrev gWk : Memref sig .tc .vmem S1024x1024 .bf16 := Memref.whole cc0_stg3_0
abbrev gWv : Memref sig .tc .vmem S1024x1024 .bf16 := Memref.whole cc0_stg4_0
abbrev gWo : Memref sig .tc .vmem S1024x1024 .bf16 := Memref.whole cc0_stg5_0
abbrev gCos : Memref sig .tc .vmem S4096x128 .bf16 := Memref.whole cc0_stg6_0
abbrev gSin : Memref sig .tc .vmem S4096x128 .bf16 := Memref.whole cc0_stg7_0
abbrev gOut : Memref sig .tc .vmem S2x512x1024 .bf16 := Memref.whole cc0_stg8_0
abbrev gAll : Memref sig .tc .vmem S8x2x512x1024 .bf16 := Memref.whole cc0_scratch0
abbrev gQ : Memref sig .tc .vmem S2x8x512x128 .bf16 := Memref.whole cc0_scratch1
abbrev gK : Memref sig .tc .vmem S8x2x2x512x128 .bf16 := Memref.whole cc0_scratch2
abbrev gV : Memref sig .tc .vmem S8x2x2x512x128 .bf16 := Memref.whole cc0_scratch3
abbrev gL : Memref sig .tc .vmem S2x8x512x1 .f32 := Memref.whole cc0_scratch4
abbrev gAcc : Memref sig .tc .vmem S2x8x512x128 .f32 := Memref.whole cc0_scratch5
abbrev gCtx : Memref sig .tc .vmem S1024x1024 .bf16 := Memref.whole cc0_scratch6

/-! ## Words and rectangles -/

/-- A statement that holds of the eight words holds of every word below eight. -/
theorem word_cases {P : BitVec 32 → Prop} (h : ∀ i : Fin 8, P (BitVec.ofNat 32 i.val)) (w : BitVec 32) (hw : w.toNat < 8) : P w := by
  have := h ⟨w.toNat, hw⟩
  rwa [show BitVec.ofNat 32 (⟨w.toNat, hw⟩ : Fin 8).val = w from by simp] at this

abbrev qO (b : Fin 2) (h : Fin 8) : Fin 4 → Nat := ![b.val, h.val, 0, 0]
abbrev kO (h : Fin 8) (b j : Fin 2) : Fin 5 → Nat := ![h.val, b.val, j.val, 0, 0]
abbrev xO (o : BitVec 32) : Fin 4 → Nat := ![o.toNat, 0, 0, 0]
abbrev xbO (o : BitVec 32) (b : Fin 2) : Fin 4 → Nat := ![o.toNat, b.val, 0, 0]
abbrev cO (o : BitVec 32) : Fin 2 → Nat := ![(Scalar.muli o 512#32).toNat, 0]
abbrev eO (b : Fin 2) (h : Fin 8) : Fin 2 → Nat := ![512 * b.val, 128 * h.val]
abbrev hO (h : Fin 8) : Fin 2 → Nat := ![0, 128 * h.val]

/-- A head's block of queries lies within the query scratch. -/
theorem q_inb (b : Fin 2) (h : Fin 8) : ∀ a, qO b h a + S1x1x512x128.size a ≤ S2x8x512x128.size a := by
  revert b h; decide +kernel
/-- A head's column lies within the scratch of weights' sums. -/
theorem l_inb (b : Fin 2) (h : Fin 8) : ∀ a, qO b h a + S1x1x512x1.size a ≤ S2x8x512x1.size a := by
  revert b h; decide +kernel
/-- A head's block lies within a scratch of keys or values. -/
theorem k_inb (h : Fin 8) (b j : Fin 2) : ∀ a, kO h b j a + S1x1x1x512x128.size a ≤ S8x2x2x512x128.size a := by
  revert b h j; decide +kernel
/-- A block whose number is below eight lies within the gathered input. -/
theorem x_inb (o : BitVec 32) (ho : o.toNat < 8) : ∀ a, xO o a + S1x2x512x1024.size a ≤ S8x2x512x1024.size a :=
  word_cases (P := fun o => ∀ a, xO o a + S1x2x512x1024.size a ≤ S8x2x512x1024.size a) (by decide +kernel) o ho
/-- A row block of such a block lies within the gathered input. -/
theorem xb_inb (o : BitVec 32) (ho : o.toNat < 8) (b : Fin 2) : ∀ a, xbO o b a + S1x1x512x1024.size a ≤ S8x2x512x1024.size a :=
  word_cases (P := fun o => ∀ (b : Fin 2) a, xbO o b a + S1x1x512x1024.size a ≤ S8x2x512x1024.size a) (by decide +kernel) o ho b
/-- The rows of such a block lie within a rotation table. -/
theorem c_inb (o : BitVec 32) (ho : o.toNat < 8) : ∀ a, cO o a + S512x128.size a ≤ S4096x128.size a :=
  word_cases (P := fun o => ∀ a, cO o a + S512x128.size a ≤ S4096x128.size a) (by decide +kernel) o ho
/-- A head's block lies within the context scratch. -/
theorem e_inb (b : Fin 2) (h : Fin 8) : ∀ a, eO b h a + S512x128.size a ≤ S1024x1024.size a := by
  revert b h; decide +kernel
/-- A head's columns are a slice of a projection. -/
theorem h_sl (h : Fin 8) : S512x1024.Slices (hO h) S512x128 := by revert h; decide +kernel
/-- A row block lies within the device's own input. -/
theorem b_inb (b : Fin 2) : ∀ a, (![b.val, 0, 0] : Fin 3 → Nat) a + S1x512x1024.size a ≤ S2x512x1024.size a := by
  revert b; decide +kernel

abbrev qR (b : Fin 2) (h : Fin 8) : Rect S2x8x512x128 := Rect.unit (s := S2x8x512x128) (qO b h) S1x1x512x128.size (q_inb b h)
abbrev lR (b : Fin 2) (h : Fin 8) : Rect S2x8x512x1 := Rect.unit (s := S2x8x512x1) (qO b h) S1x1x512x1.size (l_inb b h)
abbrev kR (h : Fin 8) (b j : Fin 2) : Rect S8x2x2x512x128 := Rect.unit (s := S8x2x2x512x128) (kO h b j) S1x1x1x512x128.size (k_inb h b j)
abbrev xR (o : BitVec 32) (ho : o.toNat < 8) : Rect S8x2x512x1024 := Rect.unit (s := S8x2x512x1024) (xO o) S1x2x512x1024.size (x_inb o ho)
abbrev xbR (o : BitVec 32) (ho : o.toNat < 8) (b : Fin 2) : Rect S8x2x512x1024 := Rect.unit (s := S8x2x512x1024) (xbO o b) S1x1x512x1024.size (xb_inb o ho b)
abbrev cR (o : BitVec 32) (ho : o.toNat < 8) : Rect S4096x128 := Rect.unit (s := S4096x128) (cO o) S512x128.size (c_inb o ho)
abbrev eR (b : Fin 2) (h : Fin 8) : Rect S1024x1024 := Rect.unit (s := S1024x1024) (eO b h) S512x128.size (e_inb b h)

/-- A head's block of queries is made of whole packed rows. -/
theorem q_packed (b : Fin 2) (h : Fin 8) : (qR b h).PackedRows (EltTy.packing .bf16) := by
  revert b h; decide +kernel
/-- A head's block of keys or values is made of whole packed rows. -/
theorem k_packed (h : Fin 8) (b j : Fin 2) : (kR h b j).PackedRows (EltTy.packing .bf16) := by
  revert b h j; decide +kernel
/-- A head's block of the context is made of whole packed rows. -/
theorem e_packed (b : Fin 2) (h : Fin 8) : (eR b h).PackedRows (EltTy.packing .bf16) := by
  revert b h; decide +kernel
/-- A block of the gathered input is made of whole packed rows. -/
theorem x_packed (o : BitVec 32) (ho : o.toNat < 8) : (xR o ho).PackedRows (EltTy.packing .bf16) :=
  word_cases (P := fun o => ∀ ho : o.toNat < 8, (xR o ho).PackedRows (EltTy.packing .bf16)) (by decide +kernel) o ho ho
/-- A block of the gathered input is made of whole words. -/
theorem x_words (o : BitVec 32) (ho : o.toNat < 8) : (xR o ho).WholeWords (EltTy.packing .bf16) :=
  word_cases (P := fun o => ∀ ho : o.toNat < 8, (xR o ho).WholeWords (EltTy.packing .bf16)) (by decide +kernel) o ho ho

/-! ## The values -/

/-- Which columns are even, as the kernel computes it. -/
def evens : IVec S512x128 1 :=
  let d : BitVec 32 := Scalar.select (Scalar.cmpi .eq 2#32 0#32) 1#32 2#32
  let r : IVec S512x128 32 := remsi (iota .tc S512x128 32 [1] iota_S512x128_d1_w32) (broadcast S512x128 d)
  cmpi .eq (select (andi (xori (cmpi .slt r (broadcast S512x128 0#32)) (broadcastTo S512x128 (broadcast S512x128 (Scalar.cmpi .slt d 0#32)) broadcasts_S512x128_S512x128))
      (cmpi .ne r (broadcast S512x128 0#32))) (addi r (broadcast S512x128 d)) r) (broadcast S512x128 0#32)

/-- The pairs of columns exchanged, the even one negated. -/
def rot (x : FVec F S512x128 .f32) : FVec F S512x128 .f32 :=
  select evens
    (subf (broadcast S512x128 (Scalar.ofBits .f32 0x00000000#32))
      (concatenate S512x128 1 [⟨S512x127, extractStridedSlice S512x127 ![0, 1] x slices_S512x128_o0_1_S512x127⟩, ⟨S512x1, extractStridedSlice S512x1 ![0, 0] x slices_S512x128_o0_0_S512x1⟩] concatenates_S512x127_S512x1_S512x128_d1))
    (concatenate S512x128 1 [⟨S512x1, extractStridedSlice S512x1 ![0, 127] x slices_S512x128_o0_127_S512x1⟩, ⟨S512x127, extractStridedSlice S512x127 ![0, 0] x slices_S512x128_o0_0_S512x127⟩] concatenates_S512x1_S512x127_S512x128_d1)

/-- The rotary embedding of one head. -/
def rope (c s x : FVec F S512x128 .f32) : FVec F S512x128 .f32 := addf (mulf x c) (mulf (rot x) s)

/-- A block of a rotation table, widened. -/
def wide (v : Vec F S512x128 .bf16) : FVec F S512x128 .f32 := extf .f32 (shapeCast S512x128 v shapeCasts_S512x128_S512x128) bitsLt_bf16_f32

/-- Head `h` of a projection. -/
def head (h : Fin 8) (p : FVec F S512x1024 .f32) : FVec F S512x128 .f32 := extractStridedSlice S512x128 (hO h) p (h_sl h)

/-- A projection's product. -/
def proj (x : FVec F S512x1024 .bf16) (w : Vec F S1024x1024 .bf16) : FVec F S512x1024 .f32 :=
  matmul dot_S512x1024_S1024x1024_S512x1024_1_0_0_1_n_n none x (shapeCast S1024x1024 w shapeCasts_S1024x1024_S1024x1024) (constant S512x1024 .f32 0x00000000#32)

/-- Head `h`'s queries: its part of the projection, rotated and scaled. -/
def qVal (c s : FVec F S512x128 .f32) (h : Fin 8) (p : FVec F S512x1024 .f32) : FVec F S1x1x512x128 .bf16 :=
  shapeCast S1x1x512x128 (truncf .bf16 (mulf (rope c s (head h p)) (broadcast S512x128 (Named.named κ "scale_log2e" 0x3E0293EE#32))) bitsLt_bf16_f32) shapeCasts_S512x128_S1x1x512x128

/-- Head `h`'s keys: its part of the projection, rotated. -/
def kVal (c s : FVec F S512x128 .f32) (h : Fin 8) (p : FVec F S512x1024 .f32) : FVec F S1x1x1x512x128 .bf16 :=
  shapeCast S1x1x1x512x128 (truncf .bf16 (rope c s (head h p)) bitsLt_bf16_f32) shapeCasts_S512x128_S1x1x1x512x128

/-- Head `h`'s values: its part of the projection. -/
def vVal (h : Fin 8) (p : FVec F S512x1024 .f32) : FVec F S1x1x1x512x128 .bf16 :=
  shapeCast S1x1x1x512x128 (truncf .bf16 (head h p) bitsLt_bf16_f32) shapeCasts_S512x128_S1x1x1x512x128

/-- The device's own input as a block of the gathered one. -/
def xVal (v : Vec F S2x512x1024 .bf16) : FVec F S1x2x512x1024 .bf16 :=
  shapeCast S1x2x512x1024 (shapeCast S1x2x512x1024 (shapeCast S2x512x1024 v shapeCasts_S2x512x1024_S2x512x1024) shapeCasts_S2x512x1024_S1x2x512x1024) shapeCasts_S1x2x512x1024_S1x2x512x1024

/-! ## The pieces -/

/-- Run `f` at the eight heads in turn. -/
def seq8 (f : Fin 8 → PK F PUnit) : PK F PUnit := do
  f 0; f 1; f 2; f 3; f 4; f 5; f 6; f 7

/-- Read the ring table's column `n` of this device's row. -/
def ringWord (d : Dev nD) (n : Fin 10) : PK F (Elt F .i32) :=
  smemLoad gTab (Rect.unit (s := S8x10) ![(Scalar.remsi (Scalar.divsi (Dev.word d) 1#32) 8#32).toNat, n.val] S1x1.size
    (by revert d n; decide +kernel)) numel1_S1x1 rfl

/-- Store a head's queries. -/
def putQ (b : Fin 2) (h : Fin 8) (v : FVec F S1x1x512x128 .bf16) : PK F PUnit := do
  let _ ← Prog.lift (.load gQ (qR b h).toLoadRect (View.loadsAt_vmem h_S1x1x512x128))
  Prog.lift (.store gQ (qR b h) v Finset.univ (View.stores_vmem h_S1x1x512x128 ((Memref.isWhole_whole _).storeExact_slice rfl _ (q_packed b h)) (fun _ => rfl)) (.inl rfl))

/-- Store a head's keys in slot `j`. -/
def putK (h : Fin 8) (b j : Fin 2) (v : FVec F S1x1x1x512x128 .bf16) : PK F PUnit := do
  let _ ← Prog.lift (.load gK (kR h b j).toLoadRect (View.loadsAt_vmem h_S1x1x1x512x128))
  Prog.lift (.store gK (kR h b j) v Finset.univ (View.stores_vmem h_S1x1x1x512x128 ((Memref.isWhole_whole _).storeExact_slice rfl _ (k_packed h b j)) (fun _ => rfl)) (.inl rfl))

/-- Store a head's values in slot `j`. -/
def putV (h : Fin 8) (b j : Fin 2) (v : FVec F S1x1x1x512x128 .bf16) : PK F PUnit := do
  let _ ← Prog.lift (.load gV (kR h b j).toLoadRect (View.loadsAt_vmem h_S1x1x1x512x128))
  Prog.lift (.store gV (kR h b j) v Finset.univ (View.stores_vmem h_S1x1x1x512x128 ((Memref.isWhole_whole _).storeExact_slice rfl _ (k_packed h b j)) (fun _ => rfl)) (.inl rfl))

/-- A block of a rotation table. -/
def table (g : Memref sig .tc .vmem S4096x128 .bf16) (o : BitVec 32) (ho : o.toNat < 8) : PK F (Vec F S512x128 .bf16) :=
  Prog.lift (.load g (cR o ho).toLoadRect (View.loadsAt_vmem h_S512x128))

/-- A whole weight. -/
def weight (g : Memref sig .tc .vmem S1024x1024 .bf16) : PK F (Vec F S1024x1024 .bf16) :=
  Prog.lift (.load g (Rect.unit (s := S1024x1024) ![0, 0] S1024x1024.size inb_S1024x1024_S1024x1024_0_0).toLoadRect (View.loadsAt_vmem h_S1024x1024))

/-- The own queries of batch `b`. -/
def queries (c s : FVec F S512x128 .f32) (b : Fin 2) : PK F PUnit := do
  let x : Vec F S1x512x1024 .bf16 ← Prog.lift (.load gX (Rect.unit (s := S2x512x1024) ![b.val, 0, 0] S1x512x1024.size (b_inb b)).toLoadRect (View.loadsAt_vmem h_S1x512x1024))
  let w ← weight gWq
  seq8 fun h => putQ b h (qVal c s h (proj (shapeCast S512x1024 x shapeCasts_S1x512x1024_S512x1024) w))

/-- The keys and values of batch `b` of the block `o`, into slot `j`. -/
def stageRow (c s : FVec F S512x128 .f32) (o : BitVec 32) (ho : o.toNat < 8) (j b : Fin 2) : PK F PUnit := do
  let x : Vec F S1x1x512x1024 .bf16 ← Prog.lift (.load gAll (xbR o ho b).toLoadRect (View.loadsAt_vmem h_S1x1x512x1024))
  let w ← weight gWk
  seq8 fun h => putK h b j (kVal c s h (proj (shapeCast S512x1024 x shapeCasts_S1x1x512x1024_S512x1024) w))
  let w ← weight gWv
  seq8 fun h => putV h b j (vVal h (proj (shapeCast S512x1024 x shapeCasts_S1x1x512x1024_S512x1024) w))

/-- The keys and values of the block `o`, into slot `j`. -/
def stage (o : BitVec 32) (ho : o.toNat < 8) (j : Fin 2) : PK F PUnit := do
  let c ← table gCos o ho
  let s ← table gSin o ho
  stageRow (wide c) (wide s) o ho j 0
  stageRow (wide c) (wide s) o ho j 1

/-- One head of a pass over slot 0: the weights' sums and the weighted values grow. -/
def step1 (t : Fin k0_t1_loop.trips) : PK F PUnit := do
  let k : Vec F S1x1x1x512x128 .bf16 ← Prog.lift (.load gK (Rect.unit (s := S8x2x2x512x128) (k0_off9 t) S1x1x1x512x128.size (k0_off9_inb t)).toLoadRect (View.loadsAt_vmem h_S1x1x1x512x128))
  let v : Vec F S1x1x1x512x128 .bf16 ← Prog.lift (.load gV (Rect.unit (s := S8x2x2x512x128) (k0_off9 t) S1x1x1x512x128.size (k0_off9_inb t)).toLoadRect (View.loadsAt_vmem h_S1x1x1x512x128))
  let q : Vec F S1x1x512x128 .bf16 ← Prog.lift (.load gQ (Rect.unit (s := S2x8x512x128) (k0_off10 t) S1x1x512x128.size (k0_off10_inb t)).toLoadRect (View.loadsAt_vmem h_S1x1x512x128))
  let l : Vec F S1x1x512x1 .f32 ← Prog.lift (.load gL (Rect.unit (s := S2x8x512x1) (k0_off11 t) S1x1x512x1.size (k0_off11_inb t)).toLoadRect (View.loadsAt_vmem h_S1x1x512x1))
  let _ : Vec F S1x1x512x1 .f32 ← Prog.lift (.load gL (Rect.unit (s := S2x8x512x1) (k0_off11 t) S1x1x512x1.size (k0_off11_inb t)).toLoadRect (View.loadsAt_vmem h_S1x1x512x1))
  Prog.lift (.store gL (Rect.unit (s := S2x8x512x1) (k0_off11 t) S1x1x512x1.size (k0_off11_inb t)) (k0_pay147 (k0_pay3 k q) (k0_pay4 l)) Finset.univ (View.stores_vmem_bits_univ h_S1x1x512x1 rfl) (.inl rfl))
  let a : Vec F S1x1x512x128 .f32 ← Prog.lift (.load gAcc (Rect.unit (s := S2x8x512x128) (k0_off10 t) S1x1x512x128.size (k0_off10_inb t)).toLoadRect (View.loadsAt_vmem h_S1x1x512x128))
  let _ : Vec F S1x1x512x128 .f32 ← Prog.lift (.load gAcc (Rect.unit (s := S2x8x512x128) (k0_off10 t) S1x1x512x128.size (k0_off10_inb t)).toLoadRect (View.loadsAt_vmem h_S1x1x512x128))
  Prog.lift (.store gAcc (Rect.unit (s := S2x8x512x128) (k0_off10 t) S1x1x512x128.size (k0_off10_inb t)) (k0_pay148 (k0_pay2 v) (k0_pay3 k q) a) Finset.univ (View.stores_vmem_bits_univ h_S1x1x512x128 rfl) (.inl rfl))

/-- A pass over slot 0. -/
def attn1 : PK F PUnit := do
  Scf.Loop.for k0_t1_loop k0_t1_ok ⟨⟩ fun t _ => step1 t

/-- One head of a pass over both slots. -/
def step2 (t : Fin k0_t2_loop.trips) : PK F PUnit := do
  let k : Vec F S1x1x2x512x128 .bf16 ← Prog.lift (.load gK (Rect.unit (s := S8x2x2x512x128) (k0_off25 t) S1x1x2x512x128.size (k0_off25_inb t)).toLoadRect (View.loadsAt_vmem h_S1x1x2x512x128))
  let v : Vec F S1x1x2x512x128 .bf16 ← Prog.lift (.load gV (Rect.unit (s := S8x2x2x512x128) (k0_off25 t) S1x1x2x512x128.size (k0_off25_inb t)).toLoadRect (View.loadsAt_vmem h_S1x1x2x512x128))
  let q : Vec F S1x1x512x128 .bf16 ← Prog.lift (.load gQ (Rect.unit (s := S2x8x512x128) (k0_off26 t) S1x1x512x128.size (k0_off26_inb t)).toLoadRect (View.loadsAt_vmem h_S1x1x512x128))
  let l : Vec F S1x1x512x1 .f32 ← Prog.lift (.load gL (Rect.unit (s := S2x8x512x1) (k0_off27 t) S1x1x512x1.size (k0_off27_inb t)).toLoadRect (View.loadsAt_vmem h_S1x1x512x1))
  let _ : Vec F S1x1x512x1 .f32 ← Prog.lift (.load gL (Rect.unit (s := S2x8x512x1) (k0_off27 t) S1x1x512x1.size (k0_off27_inb t)).toLoadRect (View.loadsAt_vmem h_S1x1x512x1))
  Prog.lift (.store gL (Rect.unit (s := S2x8x512x1) (k0_off27 t) S1x1x512x1.size (k0_off27_inb t)) (k0_pay292 (k0_pay6 k q) (k0_pay7 l)) Finset.univ (View.stores_vmem_bits_univ h_S1x1x512x1 rfl) (.inl rfl))
  let a : Vec F S1x1x512x128 .f32 ← Prog.lift (.load gAcc (Rect.unit (s := S2x8x512x128) (k0_off26 t) S1x1x512x128.size (k0_off26_inb t)).toLoadRect (View.loadsAt_vmem h_S1x1x512x128))
  let _ : Vec F S1x1x512x128 .f32 ← Prog.lift (.load gAcc (Rect.unit (s := S2x8x512x128) (k0_off26 t) S1x1x512x128.size (k0_off26_inb t)).toLoadRect (View.loadsAt_vmem h_S1x1x512x128))
  Prog.lift (.store gAcc (Rect.unit (s := S2x8x512x128) (k0_off26 t) S1x1x512x128.size (k0_off26_inb t)) (k0_pay293 (k0_pay5 v) (k0_pay6 k q) a) Finset.univ (View.stores_vmem_bits_univ h_S1x1x512x128 rfl) (.inl rfl))

/-- A pass over both slots. -/
def attn2 : PK F PUnit := do
  Scf.Loop.for k0_t2_loop k0_t2_ok ⟨⟩ fun t _ => step2 t

/-- The device a ring word names. -/
abbrev devN (w : BitVec 32) : Nat := (Scalar.addi 0#32 (Scalar.muli w 1#32)).toNat

/-- The device number of a word is the word's value. -/
theorem devN_eq (w : BitVec 32) : devN w = w.toNat := by
  show (0#32 + w * 1#32).toNat = _
  simp

/-- A word below eight names a device. -/
theorem devN_lt (w : BitVec 32) (hw : w.toNat < 8) : devN w < nD :=
  word_cases (P := fun w => devN w < nD) (by decide +kernel) w hw

/-- The peer a ring word names. -/
abbrev peer (w : BitVec 32) (hw : w.toNat < 8) : Dev nD := ⟨devN w, devN_lt w hw⟩

/-- The block `o` of the gathered input, as the copies name it. -/
abbrev slot (o : BitVec 32) (ho : o.toNat < 8) : Memref sig .tc .vmem S2x512x1024 .bf16 :=
  (gAll.slice (xR o ho) (fun _ => rfl)).squeeze S2x512x1024 squeezes_S1x2x512x1024_S2x512x1024

/-- A block of the gathered input is made of whole words, as a view. -/
theorem slot_words (o : BitVec 32) (ho : o.toNat < 8) : (slot o ho).view.WordExact :=
  ((Memref.isWhole_whole cc0_scratch0).wordExact_slice rfl _ (x_words o ho)).reshape _ _

abbrev semSR (t : Fin 4) : DmaSem sig := ((cc0_scratch7.slice (Rect.unit (s := S4) ![t.val] S1.size (by revert t; decide +kernel))).squeeze S_ squeezes_S1_S_).sem
abbrev semRR (t : Fin 4) : DmaSem sig := ((cc0_scratch8.slice (Rect.unit (s := S4) ![t.val] S1.size (by revert t; decide +kernel))).squeeze S_ squeezes_S1_S_).sem
abbrev semSL (t : Fin 3) : DmaSem sig := ((cc0_scratch9.slice (Rect.unit (s := S3) ![t.val] S1.size (by revert t; decide +kernel))).squeeze S_ squeezes_S1_S_).sem
abbrev semRL (t : Fin 3) : DmaSem sig := ((cc0_scratch10.slice (Rect.unit (s := S3) ![t.val] S1.size (by revert t; decide +kernel))).squeeze S_ squeezes_S1_S_).sem

/-- Copy the block `o` to the peer `w`. -/
def send (w : BitVec 32) (hw : w.toNat < 8) (o : BitVec 32) (ho : o.toNat < 8) (sS sR : DmaSem sig) : PK F PUnit :=
  Prog.lift (.enqueueDma (slot o ho) (.remote (Dev.tc (peer w hw)) (slot o ho) (.dma sS)) (.dma sR) (slot_words o ho) (slot_words o ho) ⟨⟨rfl, Or.inl rfl⟩, trivial⟩)

/-- Wait on `s` for a copy of one block. -/
def waitCopy (s : DmaSem sig) (o : BitVec 32) (ho : o.toNat < 8) : PK F PUnit :=
  Prog.lift (.waitDma2 s (slot o ho) (slot o ho) (slot_words o ho) (slot_words o ho))

/-- The barrier's semaphore. -/
abbrev barSem : Sem sig := (SemArray.scalar (sig.barrier 0 rfl) : Sems sig S_).sem

/-- Meet both neighbours. -/
def meet (left right : BitVec 32) (hl : left.toNat < 8) (hr : right.toNat < 8) : PK F PUnit := do
  semSignalWord (peer left hl) barSem 1#32
  semSignalWord (peer right hr) barSem 1#32
  semWaitWord barSem 2#32

/-- The own block into the gathered input. -/
def ownBlock (o : BitVec 32) (ho : o.toNat < 8) : PK F PUnit := do
  let x : Vec F S2x512x1024 .bf16 ← Prog.lift (.load gX (Rect.unit (s := S2x512x1024) ![0, 0, 0] S2x512x1024.size inb_S2x512x1024_S2x512x1024_0_0_0).toLoadRect (View.loadsAt_vmem h_S2x512x1024))
  let _ : Vec F S1x2x512x1024 .bf16 ← Prog.lift (.load gAll (xR o ho).toLoadRect (View.loadsAt_vmem h_S1x2x512x1024))
  Prog.lift (.store gAll (xR o ho) (xVal x) Finset.univ (View.stores_vmem h_S1x2x512x1024 ((Memref.isWhole_whole _).storeExact_slice rfl _ (x_packed o ho)) (fun _ => rfl)) (.inl rfl))

/-- The own queries. -/
def allQueries (o : BitVec 32) (ho : o.toNat < 8) : PK F PUnit := do
  let c ← table gCos o ho
  let s ← table gSin o ho
  queries (wide c) (wide s) 0
  queries (wide c) (wide s) 1

/-- The sums start at zero. -/
def zeros : PK F PUnit := do
  let _ : Vec F S2x8x512x1 .f32 ← Prog.lift (.load gL (Rect.unit (s := S2x8x512x1) ![0, 0, 0, 0] S2x8x512x1.size inb_S2x8x512x1_S2x8x512x1_0_0_0_0).toLoadRect (View.loadsAt_vmem h_S2x8x512x1))
  Prog.lift (.store gL (Rect.unit (s := S2x8x512x1) ![0, 0, 0, 0] S2x8x512x1.size inb_S2x8x512x1_S2x8x512x1_0_0_0_0) (k0_pay72 (broadcast S2x8x512x1 (Scalar.ofBits .f32 0x00000000#32))) Finset.univ (View.stores_vmem_bits_univ h_S2x8x512x1 rfl) (.inl rfl))
  let _ : Vec F S2x8x512x128 .f32 ← Prog.lift (.load gAcc (Rect.unit (s := S2x8x512x128) ![0, 0, 0, 0] S2x8x512x128.size inb_S2x8x512x128_S2x8x512x128_0_0_0_0).toLoadRect (View.loadsAt_vmem h_S2x8x512x128))
  Prog.lift (.store gAcc (Rect.unit (s := S2x8x512x128) ![0, 0, 0, 0] S2x8x512x128.size inb_S2x8x512x128_S2x8x512x128_0_0_0_0) k0_pay73 Finset.univ (View.stores_vmem_bits_univ h_S2x8x512x128 rfl) (.inl rfl))

/-- One head's quotient into the context. -/
def quot (b : Fin 2) (h : Fin 8) : PK F PUnit := do
  let a : Vec F S1x1x512x128 .f32 ← Prog.lift (.load gAcc (qR b h).toLoadRect (View.loadsAt_vmem h_S1x1x512x128))
  let l : Vec F S1x1x512x1 .f32 ← Prog.lift (.load gL (lR b h).toLoadRect (View.loadsAt_vmem h_S1x1x512x1))
  let _ : Vec F S512x128 .bf16 ← Prog.lift (.load gCtx (eR b h).toLoadRect (View.loadsAt_vmem h_S512x128))
  Prog.lift (.store gCtx (eR b h) (k0_pay682 a l) Finset.univ (View.stores_vmem h_S512x128 ((Memref.isWhole_whole _).storeExact_slice rfl _ (e_packed b h)) (fun _ => rfl)) (.inl rfl))

/-- The context times the output weight. -/
def output : PK F PUnit := do
  let x ← weight gCtx
  let w ← weight gWo
  let _ : Vec F S2x512x1024 .bf16 ← Prog.lift (.load gOut (Rect.unit (s := S2x512x1024) ![0, 0, 0] S2x512x1024.size inb_S2x512x1024_S2x512x1024_0_0_0).toLoadRect (View.loadsAt_vmem h_S2x512x1024))
  Prog.lift (.store gOut (Rect.unit (s := S2x512x1024) ![0, 0, 0] S2x512x1024.size inb_S2x512x1024_S2x512x1024_0_0_0) (k0_pay1 (k0_pay702 x w)) Finset.univ (View.stores_vmem h_S2x512x1024 ((Memref.isWhole_whole _).storeExact_slice rfl _ packedbf16_S2x512x1024_S2x512x1024_0_0_0) (fun _ => rfl)) (.inl rfl))

/-! ## The checks say a word is below eight -/

/-- Check 2 says its word is below eight. -/
theorem chk2_lt (w : BitVec 32) (h : k0_chk2 w) : w.toNat < 8 := by
  have : devN w < nD := h.1
  rw [devN_eq] at this; exact this

/-- A word whose block lies within the gathered input is below eight. -/
theorem slot_lt (w : BitVec 32) (h : ∀ a, xO w a + S1x2x512x1024.size a ≤ S8x2x512x1024.size a) : w.toNat < 8 := by
  have : w.toNat + 1 ≤ 8 := h 0
  omega

/-- A word whose row block lies within the gathered input is below eight. -/
theorem row_lt (w : BitVec 32) (h : ∀ a, xbO w 0 a + S1x1x512x1024.size a ≤ S8x2x512x1024.size a) : w.toNat < 8 := by
  have : w.toNat + 1 ≤ 8 := h 0
  omega

/-- Check 1 says its word is below eight. -/
theorem chk1_lt (w : BitVec 32) (h : k0_chk1 w) : w.toNat < 8 := by
  have : devN w < nD := h.1
  rw [devN_eq] at this; exact this
/-- Check 3 says its word is below eight. -/
theorem chk3_lt (w : BitVec 32) (h : k0_chk3 w) : w.toNat < 8 := slot_lt w h.1
/-- Check 4 says its word is below eight. -/
theorem chk4_lt (w : BitVec 32) (h : k0_chk4 w) : w.toNat < 8 := slot_lt w h.1
/-- Check 5 says its word is below eight. -/
theorem chk5_lt (w : BitVec 32) (h : k0_chk5 w) : w.toNat < 8 := slot_lt w h.1
/-- Check 8 says its word is below eight. -/
theorem chk8_lt (w : BitVec 32) (h : k0_chk8 w) : w.toNat < 8 := slot_lt w h.1
/-- Check 9 says its word is below eight. -/
theorem chk9_lt (w : BitVec 32) (h : k0_chk9 w) : w.toNat < 8 := slot_lt w h.1
/-- Check 12 says its word is below eight. -/
theorem chk12_lt (w : BitVec 32) (h : k0_chk12 w) : w.toNat < 8 := slot_lt w h.1
/-- Check 6 says its word is below eight. -/
theorem chk6_lt (w : BitVec 32) (h : k0_chk6 w) : w.toNat < 8 := row_lt w h.2.1
/-- Check 7 says its word is below eight. -/
theorem chk7_lt (w : BitVec 32) (h : k0_chk7 w) : w.toNat < 8 := row_lt w h.2.1
/-- Check 10 says its word is below eight. -/
theorem chk10_lt (w : BitVec 32) (h : k0_chk10 w) : w.toNat < 8 := row_lt w h.2.1
/-- Check 11 says its word is below eight. -/
theorem chk11_lt (w : BitVec 32) (h : k0_chk11 w) : w.toNat < 8 := row_lt w h.2.1
/-- Check 13 says its word is below eight. -/
theorem chk13_lt (w : BitVec 32) (h : k0_chk13 w) : w.toNat < 8 := row_lt w h.2.1
/-- Check 14 says its word is below eight. -/
theorem chk14_lt (w : BitVec 32) (h : k0_chk14 w) : w.toNat < 8 := row_lt w h.2.1
/-- Check 15 says its word is below eight. -/
theorem chk15_lt (w : BitVec 32) (h : k0_chk15 w) : w.toNat < 8 := row_lt w h.2.1

/-! ## The body -/

/-- Go on with a word below eight, where the check `C` says that it is. -/
def checked (C : BitVec 32 → Prop) (dec : ∀ w, Decidable (C w)) (lt : ∀ w, C w → w.toNat < 8) (w : BitVec 32) (k : w.toNat < 8 → PK F PUnit) : PK F PUnit := do
  have h : C w := (← Prog.lift (TpuEff.assume (C w) (dec w))).down
  k (lt w h)

/-- The body. -/
def body : PK F PUnit := do
  let d : Dev nD ← Prog.lift .deviceId
  let right ← ringWord d 0
  checked k0_chk2 k0_chk2.dec chk2_lt right fun hr => do
  let left ← ringWord d 1
  checked k0_chk1 k0_chk1.dec chk1_lt left fun hl => do
  meet left right hl hr
  let me ← ringWord d 2
  checked k0_chk3 k0_chk3.dec chk3_lt me fun hme => do
  ownBlock me hme
  send right hr me hme (semSR 0) (semRR 0)
  send left hl me hme (semSL 0) (semRL 0)
  allQueries me hme
  zeros
  stage me hme 0
  attn1
  waitCopy (semSR 0) me hme
  waitCopy (semRR 0) me hme
  let p1 ← ringWord d 3
  checked k0_chk4 k0_chk4.dec chk4_lt p1 fun hp1 => do
  send right hr p1 hp1 (semSR 1) (semRR 1)
  waitCopy (semSL 0) me hme
  waitCopy (semRL 0) me hme
  let n1 ← ringWord d 7
  checked k0_chk5 k0_chk5.dec chk5_lt n1 fun hn1 => do
  send left hl n1 hn1 (semSL 1) (semRL 1)
  let o ← ringWord d 3
  checked k0_chk6 k0_chk6.dec chk6_lt o fun ho => do
  stage o ho 0
  let o ← ringWord d 7
  checked k0_chk7 k0_chk7.dec chk7_lt o fun ho => do
  stage o ho 1
  attn2
  waitCopy (semSR 1) p1 hp1
  waitCopy (semRR 1) p1 hp1
  let p2 ← ringWord d 4
  checked k0_chk8 k0_chk8.dec chk8_lt p2 fun hp2 => do
  send right hr p2 hp2 (semSR 2) (semRR 2)
  waitCopy (semSL 1) n1 hn1
  waitCopy (semRL 1) n1 hn1
  let n2 ← ringWord d 8
  checked k0_chk9 k0_chk9.dec chk9_lt n2 fun hn2 => do
  send left hl n2 hn2 (semSL 2) (semRL 2)
  let o ← ringWord d 4
  checked k0_chk10 k0_chk10.dec chk10_lt o fun ho => do
  stage o ho 0
  let o ← ringWord d 8
  checked k0_chk11 k0_chk11.dec chk11_lt o fun ho => do
  stage o ho 1
  attn2
  waitCopy (semSR 2) p2 hp2
  waitCopy (semRR 2) p2 hp2
  let p3 ← ringWord d 5
  checked k0_chk12 k0_chk12.dec chk12_lt p3 fun hp3 => do
  send right hr p3 hp3 (semSR 3) (semRR 3)
  waitCopy (semSL 2) n2 hn2
  waitCopy (semRL 2) n2 hn2
  let o ← ringWord d 5
  checked k0_chk13 k0_chk13.dec chk13_lt o fun ho => do
  stage o ho 0
  let o ← ringWord d 9
  checked k0_chk14 k0_chk14.dec chk14_lt o fun ho => do
  stage o ho 1
  attn2
  waitCopy (semSR 3) p3 hp3
  waitCopy (semRR 3) p3 hp3
  let o ← ringWord d 6
  checked k0_chk15 k0_chk15.dec chk15_lt o fun ho => do
  stage o ho 0
  attn1
  seq8 (quot 0)
  seq8 (quot 1)
  output

end Cert.KernelIdeal.Clean

end
-- ==== Proof.BodyEq.lean ====
/-
  The printed body is the body of the pieces: the same operations in the same order.
-/
module

public import proofs.«01_k».proof.Proof.Clean

@[expose] public section

set_option maxRecDepth 100000

noncomputable section

namespace Cert.KernelIdeal.Clean

open Idealize.ShloMosaic Idealize.ShloMosaic.TcCoe
open Idealize.SL.Sem
open Cert.KernelIdeal Cert.KernelIdeal.Gen

variable {F : FTy → Type} [FloatOps F] [Named F]

/-- Two programs that start with the same effect and go on equally are equal. -/
theorem op_step.{u} {E : Type → Type u} {α β : Type} {e : E β} {k k' : β → Prog E α} (h : ∀ x, k x = k' x) : Prog.op e k = Prog.op e k' := by rw [funext h]
/-- The same of a loop: equal bodies, equal continuations. -/
theorem loop_step.{u} {E : Type → Type u} {α β : Type} {w : Nat} {l : Scf.Loop w} {hok : l.OK} {a : β} {f f' : Fin l.trips → β → Prog E β} {k k' : β → Prog E α}
    (he : ∀ t b, f t b = f' t b) (h : ∀ x, k x = k' x) : (Scf.Loop.for l hok a f).bind k = (Scf.Loop.for l hok a f').bind k' := by
  rw [funext h, funext fun t => funext (he t)]

set_option maxHeartbeats 2000000 in
/-- The printed body, at the buffers it is called with, is `body`. -/
theorem cc0_body_clean : (cc0_body (F := F) gTab (Memref.isWhole_whole _) gX (Memref.isWhole_whole _) gWq (Memref.isWhole_whole _) gWk (Memref.isWhole_whole _)
    gWv (Memref.isWhole_whole _) gWo (Memref.isWhole_whole _) gCos (Memref.isWhole_whole _) gSin (Memref.isWhole_whole _) gOut (Memref.isWhole_whole _)
    gAll (Memref.isWhole_whole _) gQ (Memref.isWhole_whole _) gK (Memref.isWhole_whole _) gV (Memref.isWhole_whole _) gL (Memref.isWhole_whole _)
    gAcc (Memref.isWhole_whole _) gCtx (Memref.isWhole_whole _) cc0_scratch7 cc0_scratch8 cc0_scratch9 cc0_scratch10) = body := by
  iterate 5
    repeat (refine op_step ?_; intro _)
    repeat (refine (Prog.bind_assoc _ _ _).trans ?_)
    refine loop_step (fun t _ => ?_) fun _ => ?_
    · repeat (refine op_step ?_; intro _)
      rfl
  repeat (refine op_step ?_; intro _)
  rfl

end Cert.KernelIdeal.Clean

end
-- ==== Proof.State.lean ====
/-
  What the kernel's scratch buffers hold, block by block, and how the kernel's reads and writes act on that.
-/
module

public import proofs.«01_k».proof.Proof.Clean
public import Idealize.ShloMosaic.Lib.ValueIdxCore
public import Idealize.ShloMosaic.Lib.Pipeline.Value
public import Idealize.ShloMosaic.Lib.ViewIndex

@[expose] public section

set_option maxRecDepth 16384

noncomputable section

namespace Cert.KernelIdeal.Clean

open Idealize.ShloMosaic Idealize.ShloMosaic.TcCoe Idealize.SL.Sem Idealize.ShloMosaic.ValueIdx
open Cert.KernelIdeal Cert.KernelIdeal.Gen

variable {F : FTy → Type} [FloatOps F] [Named F]

/-- A key or value scratch: one block of rows per head, batch and slot. -/
def Kof (A : Fin 8 → Fin 2 → Fin 2 → Vec F S1x1x1x512x128 .bf16) : Vec F S8x2x2x512x128 .bf16 :=
  fun i => A (i 0) (i 1) (i 2) (ix5 (0 : Fin 1) (0 : Fin 1) (0 : Fin 1) (i 3) (i 4))
/-- The query scratch: one block of rows per batch and head. -/
def Qof (A : Fin 2 → Fin 8 → Vec F S1x1x512x128 .bf16) : Vec F S2x8x512x128 .bf16 :=
  fun i => A (i 0) (i 1) (ix4 (0 : Fin 1) (0 : Fin 1) (i 2) (i 3))
/-- The scratch of weights' sums: one column per batch and head. -/
def Lof (A : Fin 2 → Fin 8 → Vec F S1x1x512x1 .f32) : Vec F S2x8x512x1 .f32 :=
  fun i => A (i 0) (i 1) (ix4 (0 : Fin 1) (0 : Fin 1) (i 2) (i 3))
/-- The scratch of weighted values: one block of rows per batch and head. -/
def Aof (A : Fin 2 → Fin 8 → Vec F S1x1x512x128 .f32) : Vec F S2x8x512x128 .f32 :=
  fun i => A (i 0) (i 1) (ix4 (0 : Fin 1) (0 : Fin 1) (i 2) (i 3))
/-- The context scratch: one block per batch and head. -/
def Cof (A : Fin 2 → Fin 8 → Vec F S512x128 .bf16) : Vec F S1024x1024 .bf16 :=
  fun i => A ⟨(i 0).val / 512, by have : (i 0).val < 1024 := (i 0).isLt; omega⟩ ⟨(i 1).val / 128, by have : (i 1).val < 1024 := (i 1).isLt; omega⟩
    (ix2 ⟨(i 0).val % 512, Nat.mod_lt _ (by decide)⟩ ⟨(i 1).val % 128, Nat.mod_lt _ (by decide)⟩)

/-! ## Every contents is of that form -/

/-- Any contents of a key or value scratch is a table of blocks. -/
theorem exists_Kof (f : Vec F S8x2x2x512x128 .bf16) : ∃ A, f = Kof A :=
  ⟨fun h b j i => f (ix5 h b j (i 3) (i 4)), by funext i; exact congrArg f (eq_ix5 i)⟩
/-- Any contents of the query scratch is a table of blocks. -/
theorem exists_Qof (f : Vec F S2x8x512x128 .bf16) : ∃ A, f = Qof A :=
  ⟨fun b h i => f (ix4 b h (i 2) (i 3)), by funext i; exact congrArg f (eq_ix4 i)⟩
/-- Any contents of the context scratch is a table of blocks. -/
theorem exists_Cof (f : Vec F S1024x1024 .bf16) : ∃ A, f = Cof A :=
  ⟨fun b h i => f (ix2 (⟨512 * b.val + (i 0).val, by have : (i 0).val < 512 := (i 0).isLt; omega⟩ : Fin 1024) (⟨128 * h.val + (i 1).val, by have : (i 1).val < 128 := (i 1).isLt; omega⟩ : Fin 1024)), by
    funext i; refine (congrArg f (eq_ix2 i)).trans (congrArg f ?_)
    funext a
    match a with
    | ⟨0, _⟩ => exact Fin.ext (Nat.div_add_mod _ _).symm
    | ⟨1, _⟩ => exact Fin.ext (Nat.div_add_mod _ _).symm⟩

/-! ## Reads -/

/-- An index whose first three dimensions have size one. -/
theorem ix5_unit {n m : Nat} (i : (⟨5, ![1, 1, 1, n, m]⟩ : Shape).Idx) : i = ix5 (0 : Fin 1) (0 : Fin 1) (0 : Fin 1) (i 3) (i 4) := by
  have h0 : (i 0).val < 1 := (i 0).isLt
  have h1 : (i 1).val < 1 := (i 1).isLt
  have h2 : (i 2).val < 1 := (i 2).isLt
  funext a
  match a with
  | ⟨0, _⟩ => exact Fin.ext (Nat.lt_one_iff.mp h0)
  | ⟨1, _⟩ => exact Fin.ext (Nat.lt_one_iff.mp h1)
  | ⟨2, _⟩ => exact Fin.ext (Nat.lt_one_iff.mp h2)
  | ⟨3, _⟩ => rfl
  | ⟨4, _⟩ => rfl
/-- An index whose first two dimensions have size one. -/
theorem ix4_unit {n m : Nat} (i : (⟨4, ![1, 1, n, m]⟩ : Shape).Idx) : i = ix4 (0 : Fin 1) (0 : Fin 1) (i 2) (i 3) := by
  have h0 : (i 0).val < 1 := (i 0).isLt
  have h1 : (i 1).val < 1 := (i 1).isLt
  funext a
  match a with
  | ⟨0, _⟩ => exact Fin.ext (Nat.lt_one_iff.mp h0)
  | ⟨1, _⟩ => exact Fin.ext (Nat.lt_one_iff.mp h1)
  | ⟨2, _⟩ => rfl
  | ⟨3, _⟩ => rfl

/-- An index of a rectangle, as an index of the whole: the offset added. -/
theorem emb_val {s : Shape} (off size : Fin s.rank → Nat) (inb : ∀ a, off a + size a ≤ s.size a) (i : (Rect.unit off size inb).shape.Idx) (a : Fin s.rank) :
    ((Rect.unit off size inb).emb i a).val = off a + (i a).val := by
  rw [Rect.emb_apply]; show off a + 1 * (i a).val = _; omega

/-- An index of a head's block, as an index of the key or value scratch. -/
theorem kR_emb (h : Fin 8) (b j : Fin 2) (i : S1x1x1x512x128.Idx) : (kR h b j).emb i = ix5 h b j (i 3) (i 4) := by
  funext a; apply Fin.ext; refine (emb_val _ _ _ _ _).trans ?_
  have h0 : (i 0).val < 1 := (i 0).isLt
  have h1 : (i 1).val < 1 := (i 1).isLt
  have h2 : (i 2).val < 1 := (i 2).isLt
  match a with
  | ⟨0, _⟩ => show h.val + (i 0).val = h.val; omega
  | ⟨1, _⟩ => show b.val + (i 1).val = b.val; omega
  | ⟨2, _⟩ => show j.val + (i 2).val = j.val; omega
  | ⟨3, _⟩ => exact Nat.zero_add _
  | ⟨4, _⟩ => exact Nat.zero_add _

/-- An index of a head's block, as an index of the query scratch. -/
theorem qR_emb (b : Fin 2) (h : Fin 8) (i : S1x1x512x128.Idx) : (qR b h).emb i = ix4 b h (i 2) (i 3) := by
  funext a; apply Fin.ext; refine (emb_val _ _ _ _ _).trans ?_
  have h0 : (i 0).val < 1 := (i 0).isLt
  have h1 : (i 1).val < 1 := (i 1).isLt
  match a with
  | ⟨0, _⟩ => show b.val + (i 0).val = b.val; omega
  | ⟨1, _⟩ => show h.val + (i 1).val = h.val; omega
  | ⟨2, _⟩ => exact Nat.zero_add _
  | ⟨3, _⟩ => exact Nat.zero_add _

/-- An index of a head's column, as an index of the scratch of sums. -/
theorem lR_emb (b : Fin 2) (h : Fin 8) (i : S1x1x512x1.Idx) : (lR b h).emb i = ix4 b h (i 2) (i 3) := by
  funext a; apply Fin.ext; refine (emb_val _ _ _ _ _).trans ?_
  have h0 : (i 0).val < 1 := (i 0).isLt
  have h1 : (i 1).val < 1 := (i 1).isLt
  match a with
  | ⟨0, _⟩ => show b.val + (i 0).val = b.val; omega
  | ⟨1, _⟩ => show h.val + (i 1).val = h.val; omega
  | ⟨2, _⟩ => exact Nat.zero_add _
  | ⟨3, _⟩ => exact Nat.zero_add _

/-- A read of a whole buffer at a rectangle is the contents at the rectangle's indices. -/
theorem read_at {sp : Space} (b : Ref sig .tc) (r : Rect b.ty.shape) (f : b.ty.Contents (Elt F)) (i : r.shape.Idx) :
    ((Memref.whole b).access r : View sig .tc _ _ _).read (Elt F) f i = f (r.emb i) := rfl

/-- A head's keys, read. -/
theorem read_K (A) (h : Fin 8) (b j : Fin 2) : (gK.access (kR h b j)).read (Elt F) (Kof A) = A h b j := by
  funext i
  show Kof A ((kR h b j).emb i) = _
  rw [kR_emb]; exact congrArg (A h b j) (ix5_unit i).symm
/-- A head's values, read. -/
theorem read_V (A) (h : Fin 8) (b j : Fin 2) : (gV.access (kR h b j)).read (Elt F) (Kof A) = A h b j := by
  funext i
  show Kof A ((kR h b j).emb i) = _
  rw [kR_emb]; exact congrArg (A h b j) (ix5_unit i).symm
/-- A head's queries, read. -/
theorem read_Q (A) (b : Fin 2) (h : Fin 8) : (gQ.access (qR b h)).read (Elt F) (Qof A) = A b h := by
  funext i
  show Qof A ((qR b h).emb i) = _
  rw [qR_emb]; exact congrArg (A b h) (ix4_unit i).symm
/-- A head's weighted values, read. -/
theorem read_A (A) (b : Fin 2) (h : Fin 8) : (gAcc.access (qR b h)).read (Elt F) (Aof A) = A b h := by
  funext i
  show Aof A ((qR b h).emb i) = _
  rw [qR_emb]; exact congrArg (A b h) (ix4_unit i).symm
/-- A head's sums of weights, read. -/
theorem read_L (A) (b : Fin 2) (h : Fin 8) : (gL.access (lR b h)).read (Elt F) (Lof A) = A b h := by
  funext i
  show Lof A ((lR b h).emb i) = _
  rw [lR_emb]; exact congrArg (A b h) (ix4_unit i).symm

/-! ## Writes -/

/-- A write through a rectangle of a whole buffer is `g` when `g` is the payload on the rectangle and the old contents off it. -/
theorem write_eq (b : Ref sig .tc) (r : Rect b.ty.shape) (f g : b.ty.Contents (Elt F)) (w : r.shape.Idx → Elt F b.ty.elt)
    (hin : ∀ x, g (r.emb x) = w x) (hout : ∀ i, (∀ x, r.emb x ≠ i) → g i = f i) :
    ((Memref.whole b).access r : View sig .tc _ _ _).write (Elt F) f w Finset.univ = g := by
  funext i
  by_cases h : ∃ x, r.emb x = i
  · obtain ⟨x, rfl⟩ := h
    rw [hin]
    exact (View.write_emb_of_mem (v := ((Memref.whole b).access r : View sig .tc _ _ _)) f w (Finset.mem_univ x))
  · have h' : ∀ x, r.emb x ≠ i := fun x e => h ⟨x, e⟩
    rw [hout i h']
    refine View.write_of_not_mem _ _ _ fun hmem => ?_
    rw [View.setOn_univ] at hmem
    obtain ⟨x, hx⟩ := View.exists_of_mem_set_slice hmem
    exact h' x hx

/-- With one block replaced, the contents on that block are the new ones. -/
theorem Kof_in (A : Fin 8 → Fin 2 → Fin 2 → Vec F S1x1x1x512x128 .bf16) (h : Fin 8) (b j : Fin 2) (v : Vec F S1x1x1x512x128 .bf16) (x : S1x1x1x512x128.Idx) :
    Kof (fun h' b' j' => if h' = h ∧ b' = b ∧ j' = j then v else A h' b' j') ((kR h b j).emb x) = v x := by
  rw [kR_emb]
  show (if h = h ∧ b = b ∧ j = j then v else A h b j) _ = _
  rw [if_pos ⟨rfl, rfl, rfl⟩]; exact congrArg v (ix5_unit x).symm
/-- With one block replaced, the contents off that block are the old ones. -/
theorem Kof_out (A : Fin 8 → Fin 2 → Fin 2 → Vec F S1x1x1x512x128 .bf16) (h : Fin 8) (b j : Fin 2) (v : Vec F S1x1x1x512x128 .bf16) (i : S8x2x2x512x128.Idx)
    (hi : ∀ x, (kR h b j).emb x ≠ i) : Kof (fun h' b' j' => if h' = h ∧ b' = b ∧ j' = j then v else A h' b' j') i = Kof A i := by
  refine congrFun (if_neg fun hc => ?_) _
  obtain ⟨h0, h1, h2⟩ := hc
  refine hi (ix5 (0 : Fin 1) (0 : Fin 1) (0 : Fin 1) (i 3) (i 4)) ?_
  rw [kR_emb, ← h0, ← h1, ← h2]; exact (eq_ix5 i).symm
/-- Writing a head's keys replaces that entry of the table. -/
theorem write_K (A) (h : Fin 8) (b j : Fin 2) (v : Vec F S1x1x1x512x128 .bf16) :
    (gK.access (kR h b j)).write (Elt F) (Kof A) v Finset.univ = Kof (fun h' b' j' => if h' = h ∧ b' = b ∧ j' = j then v else A h' b' j') :=
  write_eq cc0_scratch2 (kR h b j) _ _ _ (Kof_in A h b j v) (Kof_out A h b j v)
/-- Writing a head's values replaces that entry of the table. -/
theorem write_V (A) (h : Fin 8) (b j : Fin 2) (v : Vec F S1x1x1x512x128 .bf16) :
    (gV.access (kR h b j)).write (Elt F) (Kof A) v Finset.univ = Kof (fun h' b' j' => if h' = h ∧ b' = b ∧ j' = j then v else A h' b' j') :=
  write_eq cc0_scratch3 (kR h b j) _ _ _ (Kof_in A h b j v) (Kof_out A h b j v)
/-- Writing a head's queries replaces that entry of the table. -/
theorem write_Q (A) (b : Fin 2) (h : Fin 8) (v : Vec F S1x1x512x128 .bf16) :
    (gQ.access (qR b h)).write (Elt F) (Qof A) v Finset.univ = Qof (fun b' h' => if b' = b ∧ h' = h then v else A b' h') := by
  refine write_eq cc0_scratch1 (qR b h) _ _ _ (fun x => ?_) (fun i hi => ?_)
  · rw [qR_emb]
    show (if b = b ∧ h = h then v else A b h) _ = _
    rw [if_pos ⟨rfl, rfl⟩]; exact congrArg v (ix4_unit x).symm
  · refine congrFun (if_neg fun hc => ?_) _
    obtain ⟨h0, h1⟩ := hc
    refine hi (ix4 (0 : Fin 1) (0 : Fin 1) (i 2) (i 3)) ?_
    rw [qR_emb, ← h0, ← h1]; exact (eq_ix4 i).symm
/-- Writing a head's weighted values replaces that entry of the table. -/
theorem write_A (A) (b : Fin 2) (h : Fin 8) (v : Vec F S1x1x512x128 .f32) :
    (gAcc.access (qR b h)).write (Elt F) (Aof A) v Finset.univ = Aof (fun b' h' => if b' = b ∧ h' = h then v else A b' h') := by
  refine write_eq cc0_scratch5 (qR b h) _ _ _ (fun x => ?_) (fun i hi => ?_)
  · rw [qR_emb]
    show (if b = b ∧ h = h then v else A b h) _ = _
    rw [if_pos ⟨rfl, rfl⟩]; exact congrArg v (ix4_unit x).symm
  · refine congrFun (if_neg fun hc => ?_) _
    obtain ⟨h0, h1⟩ := hc
    refine hi (ix4 (0 : Fin 1) (0 : Fin 1) (i 2) (i 3)) ?_
    rw [qR_emb, ← h0, ← h1]; exact (eq_ix4 i).symm
/-- Writing a head's sums of weights replaces that entry of the table. -/
theorem write_L (A) (b : Fin 2) (h : Fin 8) (v : Vec F S1x1x512x1 .f32) :
    (gL.access (lR b h)).write (Elt F) (Lof A) v Finset.univ = Lof (fun b' h' => if b' = b ∧ h' = h then v else A b' h') := by
  refine write_eq cc0_scratch4 (lR b h) _ _ _ (fun x => ?_) (fun i hi => ?_)
  · rw [lR_emb]
    show (if b = b ∧ h = h then v else A b h) _ = _
    rw [if_pos ⟨rfl, rfl⟩]; exact congrArg v (ix4_unit x).symm
  · refine congrFun (if_neg fun hc => ?_) _
    obtain ⟨h0, h1⟩ := hc
    refine hi (ix4 (0 : Fin 1) (0 : Fin 1) (i 2) (i 3)) ?_
    rw [lR_emb, ← h0, ← h1]; exact (eq_ix4 i).symm

/-- The row in the context scratch of an index of a head's block. -/
theorem eR_emb0 (b : Fin 2) (h : Fin 8) (i : S512x128.Idx) : ((eR b h).emb i 0).val = 512 * b.val + (i 0).val := emb_val _ _ _ _ _
/-- The column in the context scratch of an index of a head's block. -/
theorem eR_emb1 (b : Fin 2) (h : Fin 8) (i : S512x128.Idx) : ((eR b h).emb i 1).val = 128 * h.val + (i 1).val := emb_val _ _ _ _ _

/-- The context scratch on a head's block is that entry of the table. -/
theorem Cof_emb (A : Fin 2 → Fin 8 → Vec F S512x128 .bf16) (b : Fin 2) (h : Fin 8) (i : S512x128.Idx) : Cof A ((eR b h).emb i) = A b h i := by
  have h0 : (i 0).val < 512 := (i 0).isLt
  have h1 : (i 1).val < 128 := (i 1).isLt
  have e0 := eR_emb0 b h i
  have e1 := eR_emb1 b h i
  have key : ∀ (b' : Fin 2) (h' : Fin 8) (i' : S512x128.Idx), b' = b → h' = h → i' = i → A b' h' i' = A b h i := by
    rintro _ _ _ rfl rfl rfl; rfl
  refine key _ _ _ (Fin.ext ?_) (Fin.ext ?_) ?_
  · show ((eR b h).emb i 0).val / 512 = b.val; omega
  · show ((eR b h).emb i 1).val / 128 = h.val; omega
  · funext a
    match a with
    | ⟨0, _⟩ => apply Fin.ext; show ((eR b h).emb i 0).val % 512 = (i 0).val; omega
    | ⟨1, _⟩ => apply Fin.ext; show ((eR b h).emb i 1).val % 128 = (i 1).val; omega

/-- Writing a head's block of the context replaces that entry of the table. -/
theorem write_C (A) (b : Fin 2) (h : Fin 8) (v : Vec F S512x128 .bf16) :
    (gCtx.access (eR b h)).write (Elt F) (Cof A) v Finset.univ = Cof (fun b' h' => if b' = b ∧ h' = h then v else A b' h') := by
  refine write_eq cc0_scratch6 (eR b h) _ _ _ (fun x => ?_) (fun i hi => ?_)
  · rw [Cof_emb, if_pos ⟨rfl, rfl⟩]
  · refine congrFun (if_neg fun hc => ?_) _
    obtain ⟨h0, h1⟩ := hc
    refine hi (ix2 ⟨(i 0).val % 512, Nat.mod_lt _ (by decide)⟩ ⟨(i 1).val % 128, Nat.mod_lt _ (by decide)⟩) ?_
    funext a
    apply Fin.ext
    match a with
    | ⟨0, _⟩ =>
      refine (emb_val _ _ _ _ _).trans ?_
      show 512 * b.val + (i 0).val % 512 = (i 0).val
      have : (i 0).val / 512 = b.val := congrArg Fin.val h0
      omega
    | ⟨1, _⟩ =>
      refine (emb_val _ _ _ _ _).trans ?_
      show 128 * h.val + (i 1).val % 128 = (i 1).val
      have : (i 1).val / 128 = h.val := congrArg Fin.val h1
      omega

/-! ## The passes' offsets -/

/-- The batch that step `t` of a pass works on. -/
def bt (t : Fin 16) : Fin 2 := ⟨t.val / 8, by omega⟩
/-- The head that step `t` of a pass works on. -/
def hd (t : Fin 16) : Fin 8 := ⟨t.val % 8, by omega⟩

/-- A pass over one slot has sixteen steps. -/
theorem trips1 : k0_t1_loop.trips = 16 := by decide +kernel
/-- A pass over both slots has sixteen steps. -/
theorem trips2 : k0_t2_loop.trips = 16 := by decide +kernel
/-- In the pass over one slot, step `t` reads keys and values at its head's block. -/
theorem off9_eq (t : Fin k0_t1_loop.trips) : k0_off9 t = kO (hd (t.cast trips1)) (bt (t.cast trips1)) 0 := by revert t; decide +kernel
/-- In the pass over one slot, step `t` reads queries at its head's block. -/
theorem off10_eq (t : Fin k0_t1_loop.trips) : k0_off10 t = qO (bt (t.cast trips1)) (hd (t.cast trips1)) := by revert t; decide +kernel
/-- In the pass over one slot, step `t` reads and writes sums at its head's block. -/
theorem off11_eq (t : Fin k0_t1_loop.trips) : k0_off11 t = qO (bt (t.cast trips1)) (hd (t.cast trips1)) := by revert t; decide +kernel
/-- In the pass over both slots, step `t` reads keys and values at its head's blocks. -/
theorem off25_eq (t : Fin k0_t2_loop.trips) : k0_off25 t = kO (hd (t.cast trips2)) (bt (t.cast trips2)) 0 := by revert t; decide +kernel
/-- In the pass over both slots, step `t` reads queries at its head's block. -/
theorem off26_eq (t : Fin k0_t2_loop.trips) : k0_off26 t = qO (bt (t.cast trips2)) (hd (t.cast trips2)) := by revert t; decide +kernel
/-- In the pass over both slots, step `t` reads and writes sums at its head's block. -/
theorem off27_eq (t : Fin k0_t2_loop.trips) : k0_off27 t = qO (bt (t.cast trips2)) (hd (t.cast trips2)) := by revert t; decide +kernel

/-- Both slots of one head and batch. -/
def both (A : Fin 8 → Fin 2 → Fin 2 → Vec F S1x1x1x512x128 .bf16) (h : Fin 8) (b : Fin 2) : Vec F S1x1x2x512x128 .bf16 :=
  fun i => A h b (i 2) (ix5 (0 : Fin 1) (0 : Fin 1) (0 : Fin 1) (i 3) (i 4))

/-- The scratch on both slots of a head is both slots' entries. -/
theorem Kof_both (A : Fin 8 → Fin 2 → Fin 2 → Vec F S1x1x1x512x128 .bf16) (h : Fin 8) (b : Fin 2) (inb) (i : S1x1x2x512x128.Idx) :
    Kof A ((Rect.unit (s := S8x2x2x512x128) (kO h b 0) S1x1x2x512x128.size inb).emb i) = both A h b i := by
  have h0 : (i 0).val < 1 := (i 0).isLt
  have h1 : (i 1).val < 1 := (i 1).isLt
  have he : (Rect.unit (s := S8x2x2x512x128) (kO h b 0) S1x1x2x512x128.size inb).emb i = ix5 h b (i 2) (i 3) (i 4) := by
    funext a; apply Fin.ext; refine (emb_val _ _ _ _ _).trans ?_
    match a with
    | ⟨0, _⟩ => show h.val + (i 0).val = h.val; omega
    | ⟨1, _⟩ => show b.val + (i 1).val = b.val; omega
    | ⟨2, _⟩ => exact Nat.zero_add _
    | ⟨3, _⟩ => exact Nat.zero_add _
    | ⟨4, _⟩ => exact Nat.zero_add _
  rw [he]; rfl

/-- Both slots of a head's keys, read. -/
theorem read_bothK (A) (h : Fin 8) (b : Fin 2) (off : Fin 5 → Nat) (e : off = kO h b 0) (inb) :
    (gK.access (Rect.unit (s := S8x2x2x512x128) off S1x1x2x512x128.size inb)).read (Elt F) (Kof A) = both A h b := by
  subst e; exact funext (Kof_both A h b inb)
/-- Both slots of a head's values, read. -/
theorem read_bothV (A) (h : Fin 8) (b : Fin 2) (off : Fin 5 → Nat) (e : off = kO h b 0) (inb) :
    (gV.access (Rect.unit (s := S8x2x2x512x128) off S1x1x2x512x128.size inb)).read (Elt F) (Kof A) = both A h b := by
  subst e; exact funext (Kof_both A h b inb)

end Cert.KernelIdeal.Clean

end
-- ==== Proof.Pieces.lean ====
/-
  The kernel's local pieces run: each takes the buffers it reads and writes, and gives them back with what it left in them.
-/
module

public import proofs.«01_k».proof.Proof.State
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.Lib.Pipeline.RegionTalk
public import Idealize.ShloMosaic.Harness.Basic

@[expose] public section

set_option maxRecDepth 16384

noncomputable section

namespace Cert.KernelIdeal.Clean

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-- The staging cells' part of the protocol's state, and the part of the cells the devices meet and copy through. -/
abbrev UU : Type := UR sig nD τ × Rounds.URounds (GSem nD τ sig) Bool

local notation "𝕄" => MT nD τ sig Unit (Elt F) ℕ UU ℕ

abbrev 𝒱₀ : Variants := Variants.none

/-- A program of core `c` run to `Q`. -/
abbrev WP {α : Type} (c : Dev nD) (p : PK F α) (Q : α → sProp 𝕄) : sProp 𝕄 :=
  wp frame (wpE (defs₀ (F := F)) 𝒱₀ (c : Thread nD τ) none) Set.univ p Q

/-- Core `c`'s buffer `b`, whole, at `f`. -/
abbrev pt (c : Dev nD) (b : Ref sig .tc) (q : PosShare TreeShare) (f : b.ty.Contents (Elt F)) : sProp 𝕄 :=
  ((c : Thread nD τ).loc b) ↦{q} f

/-! ## One load, one store -/

/-- A load gives the buffer's contents at the rectangle and leaves them. -/
theorem wp_ld {cs : CoreSpace} {s : Shape} {e : EltTy} {α : Type} (c : Dev nD) (m : Memref sig .tc cs s e) (r : Rect s) (hl) (k : (r.shape.Idx → Elt F e) → PK F α) (Q)
    {S : Finset (Idx ((m.access r).loc (c : Thread nD τ)))} {q : PosShare TreeShare} {f : Buf (Elt F) ((m.access r).loc (c : Thread nD τ))}
    (hS : (m.access r).set ⊆ S) :
    ((m.access r).loc (c : Thread nD τ) ↦[S]{q} f)
      ⊢ iprop((((m.access r).loc (c : Thread nD τ) ↦[S]{q} f) -∗ WP c (k ((m.access r).read (Elt F) f)) Q)
        -∗ WP c (Prog.lift (.load m r.toLoadRect hl) >>= k) Q) :=
  wp_load_rect 𝒱₀ (c : Thread nD τ) none Set.univ hS

/-- A store leaves the buffer with the rectangle's elements replaced. -/
theorem wp_st {cs : CoreSpace} {s : Shape} {e : EltTy} {α : Type} (c : Dev nD) (m : Memref sig .tc cs s e) (r : Rect s) (w : r.shape.Idx → Elt F e) (hx) (hm) (k : PUnit → PK F α) (Q)
    {S : Finset (Idx ((m.access r).loc (c : Thread nD τ)))} {f : Buf (Elt F) ((m.access r).loc (c : Thread nD τ))}
    (hS : (m.access r).set ⊆ S) :
    ((m.access r).loc (c : Thread nD τ) ↦[S]{fullShare} f)
      ⊢ iprop((((m.access r).loc (c : Thread nD τ) ↦[S]{fullShare} ((m.access r).write (Elt F) f w Finset.univ)) -∗ WP c (k ⟨⟩) Q)
        -∗ WP c (Prog.lift (.store m r w Finset.univ hx hm) >>= k) Q) :=
  wp_store 𝒱₀ (c : Thread nD τ) none Set.univ hS

/-- Two steps in turn. -/
theorem then_step {A B C W X Y : sProp 𝕄} (h₁ : A ⊢ iprop((B -∗ X) -∗ Y)) (h₂ : B ⊢ iprop((C -∗ W) -∗ X)) : A ⊢ iprop((C -∗ W) -∗ Y) := by
  iintro H Hk
  iapply h₁ $$ H
  iintro H
  iapply h₂ $$ H
  iexact Hk

/-- Eight steps in turn keep a running assertion. -/
theorem wp_seq8 (c : Dev nD) (f : Fin 8 → PK F PUnit) (I : ℕ → sProp 𝕄) {α : Type}
    (hf : ∀ (h : Fin 8) (k : PUnit → PK F α) (Q), I h.val ⊢ iprop((I (h.val + 1) -∗ WP c (k ⟨⟩) Q) -∗ WP c (f h >>= k) Q)) (k : PUnit → PK F α) (Q) :
    I 0 ⊢ iprop((I 8 -∗ WP c (k ⟨⟩) Q) -∗ WP c (seq8 f >>= k) Q) := by
  unfold seq8
  simp only [bind_assoc]
  exact then_step (hf 0 _ Q) (then_step (hf 1 _ Q) (then_step (hf 2 _ Q) (then_step (hf 3 _ Q) (then_step (hf 4 _ Q) (then_step (hf 5 _ Q) (then_step (hf 6 _ Q) (hf 7 k Q)))))))

/-! ## Blocks written -/

/-- Storing a head's queries replaces that entry of the table of queries. -/
theorem wp_putQ {α : Type} (c : Dev nD) (b : Fin 2) (h : Fin 8) (v) (A) (k : PUnit → PK F α) (Q) :
    (pt c cc0_scratch1 fullShare (Qof A) : sProp 𝕄)
      ⊢ iprop((pt c cc0_scratch1 fullShare (Qof fun b' h' => if b' = b ∧ h' = h then v else A b' h') -∗ WP c (k ⟨⟩) Q) -∗ WP c (putQ b h v >>= k) Q) := by
  unfold putQ
  rw [bind_assoc]
  iintro H Hk
  iapply (wp_ld c gQ (qR b h) _ _ Q (Finset.subset_univ _)) $$ H
  iintro H
  iapply (wp_st c gQ (qR b h) v _ _ k Q (Finset.subset_univ _)) $$ H
  rw [write_Q]
  iexact Hk

/-- Storing a head's keys replaces that entry of the table of keys. -/
theorem wp_putK {α : Type} (c : Dev nD) (h : Fin 8) (b j : Fin 2) (v) (A) (k : PUnit → PK F α) (Q) :
    (pt c cc0_scratch2 fullShare (Kof A) : sProp 𝕄)
      ⊢ iprop((pt c cc0_scratch2 fullShare (Kof fun h' b' j' => if h' = h ∧ b' = b ∧ j' = j then v else A h' b' j') -∗ WP c (k ⟨⟩) Q) -∗ WP c (putK h b j v >>= k) Q) := by
  unfold putK
  rw [bind_assoc]
  iintro H Hk
  iapply (wp_ld c gK (kR h b j) _ _ Q (Finset.subset_univ _)) $$ H
  iintro H
  iapply (wp_st c gK (kR h b j) v _ _ k Q (Finset.subset_univ _)) $$ H
  rw [write_K]
  iexact Hk

/-- Storing a head's values replaces that entry of the table of values. -/
theorem wp_putV {α : Type} (c : Dev nD) (h : Fin 8) (b j : Fin 2) (v) (A) (k : PUnit → PK F α) (Q) :
    (pt c cc0_scratch3 fullShare (Kof A) : sProp 𝕄)
      ⊢ iprop((pt c cc0_scratch3 fullShare (Kof fun h' b' j' => if h' = h ∧ b' = b ∧ j' = j then v else A h' b' j') -∗ WP c (k ⟨⟩) Q) -∗ WP c (putV h b j v >>= k) Q) := by
  unfold putV
  rw [bind_assoc]
  iintro H Hk
  iapply (wp_ld c gV (kR h b j) _ _ Q (Finset.subset_univ _)) $$ H
  iintro H
  iapply (wp_st c gV (kR h b j) v _ _ k Q (Finset.subset_univ _)) $$ H
  rw [write_V]
  iexact Hk

/-! ## The values a block's keys and values have -/

/-- Row block `b` of device `d`'s input. -/
def rowB (X : Dev nD → Vec F S2x512x1024 .bf16) (d : Dev nD) (b : Fin 2) : Vec F S512x1024 .bf16 := fun i => X d (ix3 b (i 0) (i 1))
/-- Device `d`'s rows of a rotation table. -/
def tabB (T : Vec F S4096x128 .bf16) (d : Dev nD) : Vec F S512x128 .bf16 :=
  fun i => T (ix2 ⟨512 * d.val + (i 0).val, by have : (i 0).val < 512 := (i 0).isLt; have : d.val < 8 := d.isLt; omega⟩ (i 1))

/-- What every device is given. -/
structure Ins (F : FTy → Type) where
  X : Dev nD → Vec F S2x512x1024 .bf16
  Wq : Vec F S1024x1024 .bf16
  Wk : Vec F S1024x1024 .bf16
  Wv : Vec F S1024x1024 .bf16
  Wo : Vec F S1024x1024 .bf16
  Cos : Vec F S4096x128 .bf16
  Sin : Vec F S4096x128 .bf16

variable (J : Ins F)

/-- Queries of device `d`'s block, batch `b`, head `h`. -/
def Qst (d : Dev nD) (b : Fin 2) (h : Fin 8) : Vec F S1x1x512x128 .bf16 := qVal (wide (tabB J.Cos d)) (wide (tabB J.Sin d)) h (proj (rowB J.X d b) J.Wq)
/-- Keys of device `d`'s block, batch `b`, head `h`. -/
def Kst (d : Dev nD) (b : Fin 2) (h : Fin 8) : Vec F S1x1x1x512x128 .bf16 := kVal (wide (tabB J.Cos d)) (wide (tabB J.Sin d)) h (proj (rowB J.X d b) J.Wk)
/-- Values of device `d`'s block, batch `b`, head `h`. -/
def Vst (d : Dev nD) (b : Fin 2) (h : Fin 8) : Vec F S1x1x1x512x128 .bf16 := vVal h (proj (rowB J.X d b) J.Wv)

/-- The gathered input: block `d` is device `d`'s. -/
def AllX (X : Dev nD → Vec F S2x512x1024 .bf16) : Vec F S8x2x512x1024 .bf16 := fun i => X (i 0) (ix3 (i 1) (i 2) (i 3))

/-- The device a word names. -/
abbrev dv (o : BitVec 32) (ho : o.toNat < 8) : Dev nD := ⟨o.toNat, ho⟩

/-- Row block `b` of block `o` of the gathered input is that of the device `o` names. -/
theorem read_row (o : BitVec 32) (ho : o.toNat < 8) (b : Fin 2) (X : Dev nD → Vec F S2x512x1024 .bf16) :
    shapeCast S512x1024 ((gAll.access (xbR o ho b)).read (Elt F) (AllX X) : Vec F S1x1x512x1024 .bf16) shapeCasts_S1x1x512x1024_S512x1024 = rowB X (dv o ho) b := by
  have e : ((gAll.access (xbR o ho b)).read (Elt F) (AllX X) : Vec F S1x1x512x1024 .bf16) = fun i => X (dv o ho) (ix3 b (i 2) (i 3)) := by
    funext i
    show AllX X ((xbR o ho b).emb i) = _
    have h0 : (i 0).val < 1 := (i 0).isLt
    have h1 : (i 1).val < 1 := (i 1).isLt
    have he : (xbR o ho b).emb i = ix4 (dv o ho) b (i 2) (i 3) := by
      funext a; apply Fin.ext; refine (emb_val _ _ _ _ _).trans ?_
      match a with
      | ⟨0, _⟩ => show o.toNat + (i 0).val = o.toNat; omega
      | ⟨1, _⟩ => show b.val + (i 1).val = b.val; omega
      | ⟨2, _⟩ => exact Nat.zero_add _
      | ⟨3, _⟩ => exact Nat.zero_add _
    rw [he]; rfl
  rw [e]
  have h1 : S1x1x512x1024.ShapeCasts S1x512x1024 := by decide
  have h2 : S1x512x1024.ShapeCasts S512x1024 := by decide
  refine Eq.trans (b := shapeCast S512x1024 (shapeCast S1x512x1024 (fun i : S1x1x512x1024.Idx => X (dv o ho) (ix3 b (i 2) (i 3))) h1) h2) ?_ ?_
  · funext i; unfold shapeCast; rw [Shape.reshapeEquiv_reshapeEquiv]
  · funext i
    rw [shapeCast_dropUnit_apply, shapeCast_dropUnit_apply]; rfl

/-- Index `i` of block `o`'s rows of a table, as an index of the table. -/
theorem cR_emb (o : BitVec 32) (ho : o.toNat < 8) (i : S512x128.Idx) : (cR o ho).emb i
    = ix2 (⟨512 * (dv o ho).val + (i 0).val, by have : (i 0).val < 512 := (i 0).isLt; have : (dv o ho).val < 8 := ho; omega⟩ : Fin 4096) (i 1) := by
  have e : (Scalar.muli o 512#32).toNat = 512 * o.toNat :=
    word_cases (P := fun o => (Scalar.muli o 512#32).toNat = 512 * o.toNat) (by decide +kernel) o ho
  funext a; apply Fin.ext; refine (emb_val _ _ _ _ _).trans ?_
  match a with
  | ⟨0, _⟩ => show (Scalar.muli o 512#32).toNat + (i 0).val = 512 * o.toNat + (i 0).val; rw [e]
  | ⟨1, _⟩ => exact Nat.zero_add _

/-- The cosines read for block `o` are the rows of the device `o` names. -/
theorem read_cos (o : BitVec 32) (ho : o.toNat < 8) (T : Vec F S4096x128 .bf16) : (gCos.access (cR o ho)).read (Elt F) T = tabB T (dv o ho) :=
  funext fun i => congrArg T (cR_emb o ho i)
/-- The sines read for block `o` are the rows of the device `o` names. -/
theorem read_sin (o : BitVec 32) (ho : o.toNat < 8) (T : Vec F S4096x128 .bf16) : (gSin.access (cR o ho)).read (Elt F) T = tabB T (dv o ho) :=
  funext fun i => congrArg T (cR_emb o ho i)

/-- Row block `b` of the device's own input. -/
theorem read_x (b : Fin 2) (c : Dev nD) (X : Dev nD → Vec F S2x512x1024 .bf16) :
    shapeCast S512x1024 ((gX.access (Rect.unit (s := S2x512x1024) ![b.val, 0, 0] S1x512x1024.size (b_inb b))).read (Elt F) (X c) : Vec F S1x512x1024 .bf16)
      shapeCasts_S1x512x1024_S512x1024 = rowB X c b := by
  funext i
  rw [shapeCast_dropUnit_apply]
  refine congrArg (X c) ?_
  funext a; apply Fin.ext; refine (emb_val _ _ _ _ _).trans ?_
  match a with
  | ⟨0, _⟩ => exact Nat.add_zero _
  | ⟨1, _⟩ => exact Nat.zero_add _
  | ⟨2, _⟩ => exact Nat.zero_add _

/-- The own input as a block, at an index. -/
theorem xVal_apply (v : Vec F S2x512x1024 .bf16) (i : S1x2x512x1024.Idx) : xVal v i = v (ix3 (i 1) (i 2) (i 3)) := by
  unfold xVal
  rw [shapeCast_self, shapeCast_self, shapeCast_addUnit_apply]
  refine congrArg v ?_
  funext a
  match a with
  | ⟨0, _⟩ => rfl
  | ⟨1, _⟩ => rfl
  | ⟨2, _⟩ => rfl

/-! ## The gathered input's blocks -/

/-- The elements of block `d`. -/
def slotSet (d : Dev nD) : Finset S8x2x512x1024.Idx := Finset.univ.filter fun i => (i 0).val = d.val

/-- An element is of block `d` if its first index is `d`. -/
theorem mem_slotSet {d : Dev nD} {i : S8x2x512x1024.Idx} : i ∈ slotSet d ↔ (i 0).val = d.val := by
  unfold slotSet; rw [Finset.mem_filter]; exact and_iff_right (Finset.mem_univ _)

/-- Index `i` of block `o`, as an index of the gathered input. -/
theorem xR_emb (o : BitVec 32) (ho : o.toNat < 8) (i : S1x2x512x1024.Idx) : (xR o ho).emb i = ix4 (dv o ho) (i 1) (i 2) (i 3) := by
  have h0 : (i 0).val < 1 := (i 0).isLt
  funext a; apply Fin.ext; refine (emb_val _ _ _ _ _).trans ?_
  match a with
  | ⟨0, _⟩ => show o.toNat + (i 0).val = o.toNat; omega
  | ⟨1, _⟩ => exact Nat.zero_add _
  | ⟨2, _⟩ => exact Nat.zero_add _
  | ⟨3, _⟩ => exact Nat.zero_add _

/-- The elements the rectangle of block `o` covers are those of that block. -/
theorem xR_set (o : BitVec 32) (ho : o.toNat < 8) : (gAll.access (xR o ho)).set = slotSet (dv o ho) := by
  ext i
  constructor
  · intro h
    obtain ⟨x, hx⟩ := View.exists_of_mem_set_slice h
    have hx' : (xR o ho).emb x = i := hx
    rw [xR_emb] at hx'
    exact mem_slotSet.mpr (congrArg (fun j : S8x2x512x1024.Idx => (j 0).val) hx').symm
  · intro h
    have h0 : i 0 = dv o ho := Fin.ext (mem_slotSet.mp h)
    have e : (gAll.access (xR o ho)).emb (ix4 (0 : Fin 1) (i 1) (i 2) (i 3)) = i := by
      show (xR o ho).emb _ = i
      rw [xR_emb, ← h0]; exact (eq_ix4 i).symm
    rw [← e]
    exact View.emb_mem_set _ _

/-- The elements the copied view of block `o` covers are those of that block. -/
theorem slot_set (o : BitVec 32) (ho : o.toNat < 8) : (slot o ho).view.set = slotSet (dv o ho) := by
  rw [← xR_set]
  exact View.set_reshape _ _

/-- A row block's elements are among its block's. -/
theorem xbR_sub (o : BitVec 32) (ho : o.toNat < 8) (b : Fin 2) : (gAll.access (xbR o ho b)).set ⊆ slotSet (dv o ho) := by
  intro i h
  obtain ⟨x, hx⟩ := View.exists_of_mem_set_slice h
  have h0 : (x 0).val < 1 := (x 0).isLt
  have hx' : (xbR o ho b).emb x = i := hx
  refine mem_slotSet.mpr ?_
  rw [← hx']
  refine (emb_val _ _ _ _ _).trans ?_
  show o.toNat + (x 0).val = o.toNat
  omega

/-- The own block written over whatever was there. -/
theorem write_own (o : BitVec 32) (ho : o.toNat < 8) (X : Dev nD → Vec F S2x512x1024 .bf16) (f : Vec F S8x2x512x1024 .bf16) (i) (hi : i ∈ slotSet (dv o ho)) :
    (gAll.access (xR o ho)).write (Elt F) f (xVal (X (dv o ho))) Finset.univ i = AllX X i := by
  have h0 : i 0 = dv o ho := Fin.ext (mem_slotSet.mp hi)
  have e : (gAll.access (xR o ho)).emb (ix4 (0 : Fin 1) (i 1) (i 2) (i 3)) = i := by
    show (xR o ho).emb _ = i
    rw [xR_emb, ← h0]; exact (eq_ix4 i).symm
  conv_lhs => rw [← e]
  rw [View.write_emb_of_mem _ _ (Finset.mem_univ _)]
  show xVal (X (dv o ho)) _ = X (i 0) _
  rw [xVal_apply, h0]

/-- A copied block is the block. -/
theorem write_slot (o : BitVec 32) (ho : o.toNat < 8) (f g : Vec F S8x2x512x1024 .bf16) (i) (hi : i ∈ slotSet (dv o ho)) :
    (slot o ho).view.write (Elt F) f ((slot o ho).view.read (Elt F) g) Finset.univ i = g i := by
  rw [← slot_set] at hi
  obtain ⟨x, -, rfl⟩ := Finset.mem_map.mp hi
  exact View.write_emb_of_mem _ _ (Finset.mem_univ _)

end Cert.KernelIdeal.Clean

end
-- ==== Proof.Stages.lean ====
/-
  The kernel's larger local pieces run: the own queries, a block's keys and values, a pass over the heads, the quotients, the product.
-/
module

public import proofs.«01_k».proof.Proof.Pieces

@[expose] public section

set_option maxRecDepth 16384

noncomputable section

namespace Cert.KernelIdeal.Clean

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ UU ℕ

variable (J : Ins F)

/-- Block `d` of the gathered input on core `c`, at share `q`. -/
def slotPt (c d : Dev nD) (q : PosShare TreeShare) : sProp 𝕄 :=
  ((c : Thread nD τ).loc cc0_scratch0) ↦[slotSet d]{q} AllX J.X

/-- The inputs a core reads, whole. -/
def inPts (c : Dev nD) : sProp 𝕄 :=
  iprop(pt c cc0_stg1_0 fullShare (J.X c) ∗ pt c cc0_stg2_0 fullShare J.Wq ∗ pt c cc0_stg3_0 fullShare J.Wk ∗ pt c cc0_stg4_0 fullShare J.Wv
    ∗ pt c cc0_stg5_0 fullShare J.Wo ∗ pt c cc0_stg6_0 fullShare J.Cos ∗ pt c cc0_stg7_0 fullShare J.Sin)

/-- The two scratches of keys and values. -/
def kvPts (c : Dev nD) (A B : Fin 8 → Fin 2 → Fin 2 → Vec F S1x1x1x512x128 .bf16) : sProp 𝕄 :=
  iprop(pt c cc0_scratch2 fullShare (Kof A) ∗ pt c cc0_scratch3 fullShare (Kof B))

/-- The two scratches of sums. -/
def laPts (c : Dev nD) (l : Fin 2 → Fin 8 → Vec F S1x1x512x1 .f32) (a : Fin 2 → Fin 8 → Vec F S1x1x512x128 .f32) : sProp 𝕄 :=
  iprop(pt c cc0_scratch4 fullShare (Lof l) ∗ pt c cc0_scratch5 fullShare (Aof a))

/-- With entry `h` written too, one more entry of the slot is new. -/
theorem fill_step {α : Type} (A : Fin 8 → Fin 2 → Fin 2 → α) (v : Fin 8 → α) (b j : Fin 2) (h : Fin 8) :
    (fun h' b' j' => if h' = h ∧ b' = b ∧ j' = j then v h else (fun h' b' j' => if b' = b ∧ j' = j ∧ h'.val < h.val then v h' else A h' b' j') h' b' j')
      = fun h' b' j' => if b' = b ∧ j' = j ∧ h'.val < h.val + 1 then v h' else A h' b' j' := by
  funext h' b' j'
  by_cases e : h' = h
  · subst e
    by_cases e2 : b' = b ∧ j' = j
    · rw [if_pos ⟨rfl, e2⟩, if_pos ⟨e2.1, e2.2, Nat.lt_succ_self _⟩]
    · rw [if_neg fun x => e2 x.2, if_neg fun x => e2 ⟨x.1, x.2.1⟩]
      exact if_neg fun x => e2 ⟨x.1, x.2.1⟩
  · rw [if_neg fun x => e x.1]
    have : h'.val < h.val + 1 ↔ h'.val < h.val := by
      have : h'.val ≠ h.val := fun x => e (Fin.ext x)
      omega
    simp only [this]

/-- With no entry written the table is the old one. -/
theorem fill_zero {α : Type} (A : Fin 8 → Fin 2 → Fin 2 → α) (v : Fin 8 → α) (b j : Fin 2) :
    (fun h' b' j' => if b' = b ∧ j' = j ∧ h'.val < 0 then v h' else A h' b' j') = A := by
  funext h' b' j'; exact if_neg fun x => Nat.not_lt_zero _ x.2.2

/-- With eight entries written the slot's row is new. -/
theorem fill_eight {α : Type} (A : Fin 8 → Fin 2 → Fin 2 → α) (v : Fin 8 → α) (b j : Fin 2) :
    (fun h' b' j' => if b' = b ∧ j' = j ∧ h'.val < 8 then v h' else A h' b' j') = fun h' b' j' => if b' = b ∧ j' = j then v h' else A h' b' j' := by
  funext h' b' j'; simp only [h'.isLt, and_true]

/-- Storing eight heads' keys fills one row of a slot. -/
theorem wp_fillK {α : Type} (c : Dev nD) (b j : Fin 2) (v : Fin 8 → Vec F S1x1x1x512x128 .bf16) (A) (k : PUnit → PK F α) (Q) :
    (pt c cc0_scratch2 fullShare (Kof A) : sProp 𝕄)
      ⊢ iprop((pt c cc0_scratch2 fullShare (Kof fun h' b' j' => if b' = b ∧ j' = j then v h' else A h' b' j') -∗ WP c (k ⟨⟩) Q)
        -∗ WP c (seq8 (fun h => putK h b j (v h)) >>= k) Q) := by
  have := wp_seq8 c (fun h => putK h b j (v h))
    (fun n => pt c cc0_scratch2 fullShare (Kof fun h' b' j' => if b' = b ∧ j' = j ∧ h'.val < n then v h' else A h' b' j'))
    (fun h k Q => by have := wp_putK c h b j (v h) (fun h' b' j' => if b' = b ∧ j' = j ∧ h'.val < h.val then v h' else A h' b' j') k Q; rwa [fill_step] at this) k Q
  rwa [fill_zero, fill_eight] at this

/-- Storing eight heads' values fills one row of a slot. -/
theorem wp_fillV {α : Type} (c : Dev nD) (b j : Fin 2) (v : Fin 8 → Vec F S1x1x1x512x128 .bf16) (A) (k : PUnit → PK F α) (Q) :
    (pt c cc0_scratch3 fullShare (Kof A) : sProp 𝕄)
      ⊢ iprop((pt c cc0_scratch3 fullShare (Kof fun h' b' j' => if b' = b ∧ j' = j then v h' else A h' b' j') -∗ WP c (k ⟨⟩) Q)
        -∗ WP c (seq8 (fun h => putV h b j (v h)) >>= k) Q) := by
  have := wp_seq8 c (fun h => putV h b j (v h))
    (fun n => pt c cc0_scratch3 fullShare (Kof fun h' b' j' => if b' = b ∧ j' = j ∧ h'.val < n then v h' else A h' b' j'))
    (fun h k Q => by have := wp_putV c h b j (v h) (fun h' b' j' => if b' = b ∧ j' = j ∧ h'.val < h.val then v h' else A h' b' j') k Q; rwa [fill_step] at this) k Q
  rwa [fill_zero, fill_eight] at this

/-- With entry `h` written too, one more entry of the row is new. -/
theorem fill2_step {α : Type} (A : Fin 2 → Fin 8 → α) (v : Fin 8 → α) (b : Fin 2) (h : Fin 8) :
    (fun b' h' => if b' = b ∧ h' = h then v h else (fun b' h' => if b' = b ∧ h'.val < h.val then v h' else A b' h') b' h')
      = fun b' h' => if b' = b ∧ h'.val < h.val + 1 then v h' else A b' h' := by
  funext b' h'
  by_cases e : h' = h
  · subst e
    by_cases e2 : b' = b
    · rw [if_pos ⟨e2, rfl⟩, if_pos ⟨e2, Nat.lt_succ_self _⟩]
    · rw [if_neg fun x => e2 x.1, if_neg fun x => e2 x.1]
      exact if_neg fun x => e2 x.1
  · rw [if_neg fun x => e x.2]
    have : h'.val < h.val + 1 ↔ h'.val < h.val := by
      have : h'.val ≠ h.val := fun x => e (Fin.ext x)
      omega
    simp only [this]
/-- With no entry written the table is the old one. -/
theorem fill2_zero {α : Type} (A : Fin 2 → Fin 8 → α) (v : Fin 8 → α) (b : Fin 2) :
    (fun b' h' => if b' = b ∧ h'.val < 0 then v h' else A b' h') = A := by
  funext b' h'; exact if_neg fun x => Nat.not_lt_zero _ x.2
/-- With eight entries written the row is new. -/
theorem fill2_eight {α : Type} (A : Fin 2 → Fin 8 → α) (v : Fin 8 → α) (b : Fin 2) :
    (fun b' (h' : Fin 8) => if b' = b ∧ h'.val < 8 then v h' else A b' h') = fun b' h' => if b' = b then v h' else A b' h' := by
  funext b' h'; simp only [h'.isLt, and_true]

/-- Storing eight heads' queries fills one row. -/
theorem wp_fillQ {α : Type} (c : Dev nD) (b : Fin 2) (v : Fin 8 → Vec F S1x1x512x128 .bf16) (A) (k : PUnit → PK F α) (Q) :
    (pt c cc0_scratch1 fullShare (Qof A) : sProp 𝕄)
      ⊢ iprop((pt c cc0_scratch1 fullShare (Qof fun b' h' => if b' = b then v h' else A b' h') -∗ WP c (k ⟨⟩) Q)
        -∗ WP c (seq8 (fun h => putQ b h (v h)) >>= k) Q) := by
  have := wp_seq8 c (fun h => putQ b h (v h))
    (fun n => pt c cc0_scratch1 fullShare (Qof fun b' h' => if b' = b ∧ h'.val < n then v h' else A b' h'))
    (fun h k Q => by have := wp_putQ c b h (v h) (fun b' h' => if b' = b ∧ h'.val < h.val then v h' else A b' h') k Q; rwa [fill2_step] at this) k Q
  rwa [fill2_zero, fill2_eight] at this

/-! ## Weights -/

/-- A whole buffer, read, is its contents. -/
theorem read_weight (b : Ref sig .tc) {off : Fin b.ty.shape.rank → Nat} (h : off = fun _ => 0) (inb) (f : b.ty.Contents (Elt F)) :
    ((Memref.whole b).access (Rect.unit off b.ty.shape.size inb) : View sig .tc _ _ _).read (Elt F) f = f :=
  Memref.read_access_unit_zero (Elt F) b h inb f

/-- Two zeros are zero everywhere. -/
theorem zero2 : (![0, 0] : Fin 2 → Nat) = fun _ => 0 := by decide
/-- Three zeros are zero everywhere. -/
theorem zero3 : (![0, 0, 0] : Fin 3 → Nat) = fun _ => 0 := by decide
/-- Four zeros are zero everywhere. -/
theorem zero4 : (![0, 0, 0, 0] : Fin 4 → Nat) = fun _ => 0 := by decide

/-- The keys' weights, loaded. -/
theorem wp_weightK {α : Type} (c : Dev nD) (q) (w) (k : Vec F S1024x1024 .bf16 → PK F α) (Q) :
    (pt c cc0_stg3_0 q w : sProp 𝕄) ⊢ iprop((pt c cc0_stg3_0 q w -∗ WP c (k w) Q) -∗ WP c (weight gWk >>= k) Q) := by
  have := wp_ld c gWk (Rect.unit (s := S1024x1024) ![0, 0] S1024x1024.size inb_S1024x1024_S1024x1024_0_0) (View.loadsAt_vmem h_S1024x1024) k Q (q := q) (f := w) (Finset.subset_univ _)
  rwa [show (gWk.access (Rect.unit (s := S1024x1024) ![0, 0] S1024x1024.size inb_S1024x1024_S1024x1024_0_0)).read (Elt F) w = w from read_weight cc0_stg3_0 zero2 _ w] at this
/-- The values' weights, loaded. -/
theorem wp_weightV {α : Type} (c : Dev nD) (q) (w) (k : Vec F S1024x1024 .bf16 → PK F α) (Q) :
    (pt c cc0_stg4_0 q w : sProp 𝕄) ⊢ iprop((pt c cc0_stg4_0 q w -∗ WP c (k w) Q) -∗ WP c (weight gWv >>= k) Q) := by
  have := wp_ld c gWv (Rect.unit (s := S1024x1024) ![0, 0] S1024x1024.size inb_S1024x1024_S1024x1024_0_0) (View.loadsAt_vmem h_S1024x1024) k Q (q := q) (f := w) (Finset.subset_univ _)
  rwa [show (gWv.access (Rect.unit (s := S1024x1024) ![0, 0] S1024x1024.size inb_S1024x1024_S1024x1024_0_0)).read (Elt F) w = w from read_weight cc0_stg4_0 zero2 _ w] at this
/-- The queries' weights, loaded. -/
theorem wp_weightQ {α : Type} (c : Dev nD) (q) (w) (k : Vec F S1024x1024 .bf16 → PK F α) (Q) :
    (pt c cc0_stg2_0 q w : sProp 𝕄) ⊢ iprop((pt c cc0_stg2_0 q w -∗ WP c (k w) Q) -∗ WP c (weight gWq >>= k) Q) := by
  have := wp_ld c gWq (Rect.unit (s := S1024x1024) ![0, 0] S1024x1024.size inb_S1024x1024_S1024x1024_0_0) (View.loadsAt_vmem h_S1024x1024) k Q (q := q) (f := w) (Finset.subset_univ _)
  rwa [show (gWq.access (Rect.unit (s := S1024x1024) ![0, 0] S1024x1024.size inb_S1024x1024_S1024x1024_0_0)).read (Elt F) w = w from read_weight cc0_stg2_0 zero2 _ w] at this
/-- The output's weights, loaded. -/
theorem wp_weightO {α : Type} (c : Dev nD) (q) (w) (k : Vec F S1024x1024 .bf16 → PK F α) (Q) :
    (pt c cc0_stg5_0 q w : sProp 𝕄) ⊢ iprop((pt c cc0_stg5_0 q w -∗ WP c (k w) Q) -∗ WP c (weight gWo >>= k) Q) := by
  have := wp_ld c gWo (Rect.unit (s := S1024x1024) ![0, 0] S1024x1024.size inb_S1024x1024_S1024x1024_0_0) (View.loadsAt_vmem h_S1024x1024) k Q (q := q) (f := w) (Finset.subset_univ _)
  rwa [show (gWo.access (Rect.unit (s := S1024x1024) ![0, 0] S1024x1024.size inb_S1024x1024_S1024x1024_0_0)).read (Elt F) w = w from read_weight cc0_stg5_0 zero2 _ w] at this
/-- The context, loaded. -/
theorem wp_weightC {α : Type} (c : Dev nD) (q) (w) (k : Vec F S1024x1024 .bf16 → PK F α) (Q) :
    (pt c cc0_scratch6 q w : sProp 𝕄) ⊢ iprop((pt c cc0_scratch6 q w -∗ WP c (k w) Q) -∗ WP c (weight gCtx >>= k) Q) := by
  have := wp_ld c gCtx (Rect.unit (s := S1024x1024) ![0, 0] S1024x1024.size inb_S1024x1024_S1024x1024_0_0) (View.loadsAt_vmem h_S1024x1024) k Q (q := q) (f := w) (Finset.subset_univ _)
  rwa [show (gCtx.access (Rect.unit (s := S1024x1024) ![0, 0] S1024x1024.size inb_S1024x1024_S1024x1024_0_0)).read (Elt F) w = w from read_weight cc0_scratch6 zero2 _ w] at this

/-- A rotation table's block read. -/
theorem wp_cos {α : Type} (c : Dev nD) (q) (T) (o : BitVec 32) (ho) (k : Vec F S512x128 .bf16 → PK F α) (Q) :
    (pt c cc0_stg6_0 q T : sProp 𝕄) ⊢ iprop((pt c cc0_stg6_0 q T -∗ WP c (k (tabB T (dv o ho))) Q) -∗ WP c (table gCos o ho >>= k) Q) := by
  have := wp_ld c gCos (cR o ho) (View.loadsAt_vmem h_S512x128) k Q (q := q) (f := T) (Finset.subset_univ _)
  rwa [read_cos] at this
/-- The sines of one block, loaded. -/
theorem wp_sin {α : Type} (c : Dev nD) (q) (T) (o : BitVec 32) (ho) (k : Vec F S512x128 .bf16 → PK F α) (Q) :
    (pt c cc0_stg7_0 q T : sProp 𝕄) ⊢ iprop((pt c cc0_stg7_0 q T -∗ WP c (k (tabB T (dv o ho))) Q) -∗ WP c (table gSin o ho >>= k) Q) := by
  have := wp_ld c gSin (cR o ho) (View.loadsAt_vmem h_S512x128) k Q (q := q) (f := T) (Finset.subset_univ _)
  rwa [read_sin] at this

/-! ## A block's keys and values -/

/-- Staging one row block fills its entries of slot `j` with that block's keys and values. -/
theorem wp_stageRow {α : Type} (c : Dev nD) (o : BitVec 32) (ho : o.toNat < 8) (j b : Fin 2) (q) (A B) (k : PUnit → PK F α) (Q) :
    iprop(slotPt J c (dv o ho) q ∗ inPts J c ∗ kvPts c A B)
      ⊢ iprop((slotPt J c (dv o ho) q ∗ inPts J c ∗ kvPts c (fun h' b' j' => if b' = b ∧ j' = j then Kst J (dv o ho) b h' else A h' b' j')
            (fun h' b' j' => if b' = b ∧ j' = j then Vst J (dv o ho) b h' else B h' b' j') -∗ WP c (k ⟨⟩) Q)
        -∗ WP c (stageRow (wide (tabB J.Cos (dv o ho))) (wide (tabB J.Sin (dv o ho))) o ho j b >>= k) Q) := by
  unfold stageRow slotPt inPts kvPts
  simp only [bind_assoc]
  iintro ⟨Hs, ⟨Hx, Hq, Hwk, Hwv, Ho, Hc, Hsn⟩, HK, HV⟩ Hk
  iapply (wp_ld c gAll (xbR o ho b) _ _ Q (f := AllX J.X) (xbR_sub o ho b)) $$ Hs
  iintro Hs
  rw [read_row]
  iapply (wp_weightK c fullShare J.Wk _ Q) $$ Hwk
  iintro Hwk
  iapply (wp_fillK c b j _ A _ Q) $$ HK
  iintro HK
  iapply (wp_weightV c fullShare J.Wv _ Q) $$ Hwv
  iintro Hwv
  iapply (wp_fillV c b j _ B k Q) $$ HV
  iintro HV
  iapply Hk
  isplitl [Hs]; · iexact Hs
  isplitl [Hx Hq Hwk Hwv Ho Hc Hsn]
  · isplitl [Hx]; · iexact Hx
    isplitl [Hq]; · iexact Hq
    isplitl [Hwk]; · iexact Hwk
    isplitl [Hwv]; · iexact Hwv
    isplitl [Ho]; · iexact Ho
    isplitl [Hc]; · iexact Hc
    iexact Hsn
  isplitl [HK]; · iexact HK
  iexact HV

/-- Slot `j` replaced. -/
def setSlot {α : Type} (A : Fin 8 → Fin 2 → Fin 2 → α) (j : Fin 2) (v : Fin 2 → Fin 8 → α) : Fin 8 → Fin 2 → Fin 2 → α :=
  fun h b j' => if j' = j then v b h else A h b j'

/-- A slot with both rows new is the slot replaced. -/
theorem setSlot_rows {α : Type} (A : Fin 8 → Fin 2 → Fin 2 → α) (j : Fin 2) (v : Fin 2 → Fin 8 → α) :
    (fun h' b' j' => if b' = 1 ∧ j' = j then v 1 h' else (fun h' b' j' => if b' = 0 ∧ j' = j then v 0 h' else A h' b' j') h' b' j') = setSlot A j v := by
  funext h b j'
  unfold setSlot
  by_cases e : j' = j
  · simp only [e, and_true, if_true]
    fin_cases b <;> rfl
  · simp only [e, and_false, if_false]

/-- Staging a block fills slot `j` with that block's keys and values. -/
theorem wp_stage {α : Type} (c : Dev nD) (o : BitVec 32) (ho : o.toNat < 8) (j : Fin 2) (q) (A B) (k : PUnit → PK F α) (Q) :
    iprop(slotPt J c (dv o ho) q ∗ inPts J c ∗ kvPts c A B)
      ⊢ iprop((slotPt J c (dv o ho) q ∗ inPts J c ∗ kvPts c (setSlot A j (Kst J (dv o ho))) (setSlot B j (Vst J (dv o ho))) -∗ WP c (k ⟨⟩) Q)
        -∗ WP c (stage o ho j >>= k) Q) := by
  unfold stage
  simp only [bind_assoc]
  rw [show inPts J c = (iprop(pt c cc0_stg1_0 fullShare (J.X c) ∗ pt c cc0_stg2_0 fullShare J.Wq ∗ pt c cc0_stg3_0 fullShare J.Wk ∗ pt c cc0_stg4_0 fullShare J.Wv
    ∗ pt c cc0_stg5_0 fullShare J.Wo ∗ pt c cc0_stg6_0 fullShare J.Cos ∗ pt c cc0_stg7_0 fullShare J.Sin) : sProp 𝕄) from rfl]
  iintro ⟨Hs, ⟨Hx, Hq, Hwk, Hwv, Ho, Hc, Hsn⟩, HKV⟩ Hk
  iapply (wp_cos c fullShare J.Cos o ho _ Q) $$ Hc
  iintro Hc
  iapply (wp_sin c fullShare J.Sin o ho _ Q) $$ Hsn
  iintro Hsn
  have h0 := fun k' => wp_stageRow J c o ho j 0 q A B (α := α) k' Q
  have h1 := fun k' A' B' => wp_stageRow J c o ho j 1 q A' B' (α := α) k' Q
  unfold inPts at h0 h1
  iapply (h0 _) $$ [Hs Hx Hq Hwk Hwv Ho Hc Hsn HKV]
  · isplitl [Hs]; · iexact Hs
    isplitr [HKV]
    · isplitl [Hx]; · iexact Hx
      isplitl [Hq]; · iexact Hq
      isplitl [Hwk]; · iexact Hwk
      isplitl [Hwv]; · iexact Hwv
      isplitl [Ho]; · iexact Ho
      isplitl [Hc]; · iexact Hc
      iexact Hsn
    iexact HKV
  iintro H
  iapply (h1 k _ _) $$ H
  rw [setSlot_rows A j (Kst J (dv o ho)), setSlot_rows B j (Vst J (dv o ho))]
  iexact Hk

end Cert.KernelIdeal.Clean

end
-- ==== Proof.Passes.lean ====
/-
  The kernel's passes over the heads, its own queries, the sums' zeros, the quotients and the last product, run.
-/
module

public import proofs.«01_k».proof.Proof.Stages

@[expose] public section

set_option maxRecDepth 16384

noncomputable section

namespace Cert.KernelIdeal.Clean

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ UU ℕ

variable (J : Ins F)

/-! ## Loads and stores at an offset that is a head's -/

section At
variable {α : Type} (c : Dev nD) (b : Fin 2) (h : Fin 8)

/-- A load of a head's keys at an offset equal to its block's. -/
theorem wp_atK (Q : α → sProp 𝕄) (A) (off) (e : off = kO h b 0) (inb) (hl) (k : Vec F S1x1x1x512x128 .bf16 → PK F α) :
    (pt c cc0_scratch2 fullShare (Kof A) : sProp 𝕄) ⊢ iprop((pt c cc0_scratch2 fullShare (Kof A) -∗ WP c (k (A h b 0)) Q)
      -∗ WP c (Prog.lift (.load gK (Rect.unit (s := S8x2x2x512x128) off S1x1x1x512x128.size inb).toLoadRect hl) >>= k) Q) := by
  subst e
  have := wp_ld c gK (kR h b 0) hl k Q (q := fullShare) (f := Kof A) (Finset.subset_univ _)
  rwa [read_K] at this
/-- A load of a head's values at an offset equal to its block's. -/
theorem wp_atV (Q : α → sProp 𝕄) (A) (off) (e : off = kO h b 0) (inb) (hl) (k : Vec F S1x1x1x512x128 .bf16 → PK F α) :
    (pt c cc0_scratch3 fullShare (Kof A) : sProp 𝕄) ⊢ iprop((pt c cc0_scratch3 fullShare (Kof A) -∗ WP c (k (A h b 0)) Q)
      -∗ WP c (Prog.lift (.load gV (Rect.unit (s := S8x2x2x512x128) off S1x1x1x512x128.size inb).toLoadRect hl) >>= k) Q) := by
  subst e
  have := wp_ld c gV (kR h b 0) hl k Q (q := fullShare) (f := Kof A) (Finset.subset_univ _)
  rwa [read_V] at this
/-- A load of both slots of a head's keys. -/
theorem wp_atK2 (Q : α → sProp 𝕄) (A) (off) (e : off = kO h b 0) (inb) (hl) (k : Vec F S1x1x2x512x128 .bf16 → PK F α) :
    (pt c cc0_scratch2 fullShare (Kof A) : sProp 𝕄) ⊢ iprop((pt c cc0_scratch2 fullShare (Kof A) -∗ WP c (k (both A h b)) Q)
      -∗ WP c (Prog.lift (.load gK (Rect.unit (s := S8x2x2x512x128) off S1x1x2x512x128.size inb).toLoadRect hl) >>= k) Q) := by
  have := wp_ld c gK (Rect.unit (s := S8x2x2x512x128) off S1x1x2x512x128.size inb) hl k Q (q := fullShare) (f := Kof A) (Finset.subset_univ _)
  rwa [read_bothK A h b off e inb] at this
/-- A load of both slots of a head's values. -/
theorem wp_atV2 (Q : α → sProp 𝕄) (A) (off) (e : off = kO h b 0) (inb) (hl) (k : Vec F S1x1x2x512x128 .bf16 → PK F α) :
    (pt c cc0_scratch3 fullShare (Kof A) : sProp 𝕄) ⊢ iprop((pt c cc0_scratch3 fullShare (Kof A) -∗ WP c (k (both A h b)) Q)
      -∗ WP c (Prog.lift (.load gV (Rect.unit (s := S8x2x2x512x128) off S1x1x2x512x128.size inb).toLoadRect hl) >>= k) Q) := by
  have := wp_ld c gV (Rect.unit (s := S8x2x2x512x128) off S1x1x2x512x128.size inb) hl k Q (q := fullShare) (f := Kof A) (Finset.subset_univ _)
  rwa [read_bothV A h b off e inb] at this
/-- A load of a head's queries. -/
theorem wp_atQ (Q : α → sProp 𝕄) (A) (off) (e : off = qO b h) (inb) (hl) (k : Vec F S1x1x512x128 .bf16 → PK F α) :
    (pt c cc0_scratch1 fullShare (Qof A) : sProp 𝕄) ⊢ iprop((pt c cc0_scratch1 fullShare (Qof A) -∗ WP c (k (A b h)) Q)
      -∗ WP c (Prog.lift (.load gQ (Rect.unit (s := S2x8x512x128) off S1x1x512x128.size inb).toLoadRect hl) >>= k) Q) := by
  subst e
  have := wp_ld c gQ (qR b h) hl k Q (q := fullShare) (f := Qof A) (Finset.subset_univ _)
  rwa [read_Q] at this
/-- A load of a head's sums of weights. -/
theorem wp_atL (Q : α → sProp 𝕄) (A) (off) (e : off = qO b h) (inb) (hl) (k : Vec F S1x1x512x1 .f32 → PK F α) :
    (pt c cc0_scratch4 fullShare (Lof A) : sProp 𝕄) ⊢ iprop((pt c cc0_scratch4 fullShare (Lof A) -∗ WP c (k (A b h)) Q)
      -∗ WP c (Prog.lift (.load gL (Rect.unit (s := S2x8x512x1) off S1x1x512x1.size inb).toLoadRect hl) >>= k) Q) := by
  subst e
  have := wp_ld c gL (lR b h) hl k Q (q := fullShare) (f := Lof A) (Finset.subset_univ _)
  rwa [read_L] at this
/-- A load of a head's weighted values. -/
theorem wp_atA (Q : α → sProp 𝕄) (A) (off) (e : off = qO b h) (inb) (hl) (k : Vec F S1x1x512x128 .f32 → PK F α) :
    (pt c cc0_scratch5 fullShare (Aof A) : sProp 𝕄) ⊢ iprop((pt c cc0_scratch5 fullShare (Aof A) -∗ WP c (k (A b h)) Q)
      -∗ WP c (Prog.lift (.load gAcc (Rect.unit (s := S2x8x512x128) off S1x1x512x128.size inb).toLoadRect hl) >>= k) Q) := by
  subst e
  have := wp_ld c gAcc (qR b h) hl k Q (q := fullShare) (f := Aof A) (Finset.subset_univ _)
  rwa [read_A] at this
/-- A store of a head's sums of weights. -/
theorem wp_toL (k' : PUnit → PK F α) (Q : α → sProp 𝕄) (A) (v : Vec F S1x1x512x1 .f32) (off) (e : off = qO b h) (inb) (hx hm) :
    (pt c cc0_scratch4 fullShare (Lof A) : sProp 𝕄) ⊢ iprop((pt c cc0_scratch4 fullShare (Lof fun b' h' => if b' = b ∧ h' = h then v else A b' h') -∗ WP c (k' ⟨⟩) Q)
      -∗ WP c (Prog.lift (.store gL (Rect.unit (s := S2x8x512x1) off S1x1x512x1.size inb) v Finset.univ hx hm) >>= k') Q) := by
  subst e
  have := wp_st c gL (lR b h) v hx hm k' Q (f := Lof A) (Finset.subset_univ _)
  rwa [write_L] at this
/-- A store of a head's weighted values. -/
theorem wp_toA (k' : PUnit → PK F α) (Q : α → sProp 𝕄) (A) (v : Vec F S1x1x512x128 .f32) (off) (e : off = qO b h) (inb) (hx hm) :
    (pt c cc0_scratch5 fullShare (Aof A) : sProp 𝕄) ⊢ iprop((pt c cc0_scratch5 fullShare (Aof fun b' h' => if b' = b ∧ h' = h then v else A b' h') -∗ WP c (k' ⟨⟩) Q)
      -∗ WP c (Prog.lift (.store gAcc (Rect.unit (s := S2x8x512x128) off S1x1x512x128.size inb) v Finset.univ hx hm) >>= k') Q) := by
  subst e
  have := wp_st c gAcc (qR b h) v hx hm k' Q (f := Aof A) (Finset.subset_univ _)
  rwa [write_A] at this

end At

/-- A program that is done meets what holds. -/
theorem wp_done (c : Dev nD) (Q : PUnit → sProp 𝕄) : Q ⟨⟩ ⊢ WP c (pure ⟨⟩ : PK F PUnit) Q := by
  have e := wp_ret (Fr := frame) (wpE := wpE (defs₀ (F := F)) 𝒱₀ (c : Thread nD τ) none) (E := Set.univ) PUnit.unit Q
  refine BIBase.Entails.trans ?_ (Entails.of_eq e.symm)
  iintro H
  imodintro
  iexact H

/-! ## A pass -/

/-- What a pass over slot 0 makes of the sums. -/
def passL1 (C : Fin 2 → Fin 8 → Vec F S1x1x512x128 .bf16) (A : Fin 8 → Fin 2 → Fin 2 → Vec F S1x1x1x512x128 .bf16) (l : Fin 2 → Fin 8 → Vec F S1x1x512x1 .f32) :
    Fin 2 → Fin 8 → Vec F S1x1x512x1 .f32 := fun b h => k0_pay147 (k0_pay3 (A h b 0) (C b h)) (k0_pay4 (l b h))
/-- What a pass over slot 0 makes of the weighted values. -/
def passA1 (C : Fin 2 → Fin 8 → Vec F S1x1x512x128 .bf16) (A B : Fin 8 → Fin 2 → Fin 2 → Vec F S1x1x1x512x128 .bf16) (a : Fin 2 → Fin 8 → Vec F S1x1x512x128 .f32) :
    Fin 2 → Fin 8 → Vec F S1x1x512x128 .f32 := fun b h => k0_pay148 (k0_pay2 (B h b 0)) (k0_pay3 (A h b 0) (C b h)) (a b h)
/-- What a pass over both slots makes of the sums. -/
def passL2 (C : Fin 2 → Fin 8 → Vec F S1x1x512x128 .bf16) (A : Fin 8 → Fin 2 → Fin 2 → Vec F S1x1x1x512x128 .bf16) (l : Fin 2 → Fin 8 → Vec F S1x1x512x1 .f32) :
    Fin 2 → Fin 8 → Vec F S1x1x512x1 .f32 := fun b h => k0_pay292 (k0_pay6 (both A h b) (C b h)) (k0_pay7 (l b h))
/-- What a pass over both slots makes of the weighted values. -/
def passA2 (C : Fin 2 → Fin 8 → Vec F S1x1x512x128 .bf16) (A B : Fin 8 → Fin 2 → Fin 2 → Vec F S1x1x1x512x128 .bf16) (a : Fin 2 → Fin 8 → Vec F S1x1x512x128 .f32) :
    Fin 2 → Fin 8 → Vec F S1x1x512x128 .f32 := fun b h => k0_pay293 (k0_pay5 (both B h b)) (k0_pay6 (both A h b) (C b h)) (a b h)

/-- A table of which the first `n` entries, batch by batch, are new. -/
def upTo {α : Type} (n : ℕ) (new old : Fin 2 → Fin 8 → α) : Fin 2 → Fin 8 → α := fun b h => if 8 * b.val + h.val < n then new b h else old b h

/-- With no entry new the table is the old one. -/
theorem upTo_zero {α : Type} (new old : Fin 2 → Fin 8 → α) : upTo 0 new old = old := by
  funext b h; exact if_neg (Nat.not_lt_zero _)
/-- With sixteen entries new the table is the new one. -/
theorem upTo_all {α : Type} (new old : Fin 2 → Fin 8 → α) : upTo 16 new old = new := by
  funext b h; exact if_pos (by omega)
/-- Step `t` is eight times its batch plus its head. -/
theorem bt_hd (t : Fin 16) : 8 * (bt t).val + (hd t).val = t.val := Nat.div_add_mod t.val 8
/-- The entry that step `t` works on is still the old one. -/
theorem upTo_at {α : Type} (t : Fin 16) (new old : Fin 2 → Fin 8 → α) : upTo t.val new old (bt t) (hd t) = old (bt t) (hd t) :=
  if_neg (by have := bt_hd t; omega)
/-- With step `t`'s entry written too, one more entry is new. -/
theorem upTo_step {α : Type} (t : Fin 16) (new old : Fin 2 → Fin 8 → α) :
    (fun b h => if b = bt t ∧ h = hd t then new (bt t) (hd t) else upTo t.val new old b h) = upTo (t.val + 1) new old := by
  funext b h
  have e := bt_hd t
  by_cases x : b = bt t ∧ h = hd t
  · obtain ⟨rfl, rfl⟩ := x
    exact (if_pos ⟨rfl, rfl⟩).trans (if_pos (show 8 * (bt t).val + (hd t).val < t.val + 1 by omega)).symm
  · rw [if_neg x]
    unfold upTo
    have : 8 * b.val + h.val ≠ t.val := fun y => x ⟨Fin.ext (by omega), Fin.ext (by omega)⟩
    have e2 : 8 * b.val + h.val < t.val + 1 ↔ 8 * b.val + h.val < t.val := by omega
    simp only [e2]

/-- Queries, keys, values and sums. -/
def passPts (c : Dev nD) (C : Fin 2 → Fin 8 → Vec F S1x1x512x128 .bf16) (A B : Fin 8 → Fin 2 → Fin 2 → Vec F S1x1x1x512x128 .bf16)
    (l : Fin 2 → Fin 8 → Vec F S1x1x512x1 .f32) (a : Fin 2 → Fin 8 → Vec F S1x1x512x128 .f32) : sProp 𝕄 :=
  iprop(pt c cc0_scratch1 fullShare (Qof C) ∗ kvPts c A B ∗ laPts c l a)

/-- One step of the pass over slot 0. -/
theorem wp_step1 (c : Dev nD) (t : Fin k0_t1_loop.trips) (C A B l a) :
    (passPts c C A B (upTo t.val (passL1 C A l) l) (upTo t.val (passA1 C A B a) a) : sProp 𝕄)
      ⊢ WP c (step1 t) fun _ => passPts c C A B (upTo (t.val + 1) (passL1 C A l) l) (upTo (t.val + 1) (passA1 C A B a) a) := by
  rw [← bind_pure (step1 t)]
  unfold step1 passPts kvPts laPts
  simp only [bind_assoc]
  iintro ⟨HQ, ⟨HK, HV⟩, HL, HA⟩
  iapply (wp_atK c (bt (t.cast trips1)) (hd (t.cast trips1)) _ A _ (off9_eq t) _ _ _) $$ HK
  iintro HK
  iapply (wp_atV c (bt (t.cast trips1)) (hd (t.cast trips1)) _ B _ (off9_eq t) _ _ _) $$ HV
  iintro HV
  iapply (wp_atQ c (bt (t.cast trips1)) (hd (t.cast trips1)) _ C _ (off10_eq t) _ _ _) $$ HQ
  iintro HQ
  iapply (wp_atL c (bt (t.cast trips1)) (hd (t.cast trips1)) _ _ _ (off11_eq t) _ _ _) $$ HL
  iintro HL
  iapply (wp_atL c (bt (t.cast trips1)) (hd (t.cast trips1)) _ _ _ (off11_eq t) _ _ _) $$ HL
  iintro HL
  iapply (wp_toL c (bt (t.cast trips1)) (hd (t.cast trips1)) _ _ _ _ _ (off11_eq t) _ _ _) $$ HL
  iintro HL
  iapply (wp_atA c (bt (t.cast trips1)) (hd (t.cast trips1)) _ _ _ (off10_eq t) _ _ _) $$ HA
  iintro HA
  iapply (wp_atA c (bt (t.cast trips1)) (hd (t.cast trips1)) _ _ _ (off10_eq t) _ _ _) $$ HA
  iintro HA
  iapply (wp_toA c (bt (t.cast trips1)) (hd (t.cast trips1)) _ _ _ _ _ (off10_eq t) _ _ _) $$ HA
  iintro HA
  rw [show t.val = (t.cast trips1).val from rfl, upTo_at, upTo_at]
  have eL := upTo_step (t.cast trips1) (passL1 C A l) l
  have eA := upTo_step (t.cast trips1) (passA1 C A B a) a
  rw [show passL1 C A l (bt (t.cast trips1)) (hd (t.cast trips1)) = k0_pay147 (k0_pay3 (A (hd (t.cast trips1)) (bt (t.cast trips1)) 0) (C (bt (t.cast trips1)) (hd (t.cast trips1)))) (k0_pay4 (l (bt (t.cast trips1)) (hd (t.cast trips1)))) from rfl] at eL
  rw [show passA1 C A B a (bt (t.cast trips1)) (hd (t.cast trips1)) = k0_pay148 (k0_pay2 (B (hd (t.cast trips1)) (bt (t.cast trips1)) 0)) (k0_pay3 (A (hd (t.cast trips1)) (bt (t.cast trips1)) 0) (C (bt (t.cast trips1)) (hd (t.cast trips1)))) (a (bt (t.cast trips1)) (hd (t.cast trips1))) from rfl] at eA
  rw [eL, eA]
  iapply (wp_done c _)
  isplitl [HQ]; · iexact HQ
  isplitl [HK HV]
  · isplitl [HK]; · iexact HK
    iexact HV
  isplitl [HL]; · iexact HL
  iexact HA

/-- The pass over slot 0. -/
theorem wp_attn1 {α : Type} (c : Dev nD) (C A B l a) (k : PUnit → PK F α) (Q) :
    (passPts c C A B l a : sProp 𝕄) ⊢ iprop((passPts c C A B (passL1 C A l) (passA1 C A B a) -∗ WP c (k ⟨⟩) Q) -∗ WP c (attn1 >>= k) Q) := by
  have H := Scf.wp_for_bind frame (wpE (defs₀ (F := F)) 𝒱₀ (c : Thread nD τ) none) Set.univ _ _ _ k0_t1_ok ⟨⟩ (fun t (_ : PUnit) => step1 (F := F) t)
    (fun n _ => passPts c C A B (upTo n (passL1 C A l) l) (upTo n (passA1 C A B a) a)) (fun t _ => wp_step1 c t C A B l a) (kk := k) (Q := Q)
  rw [upTo_zero, upTo_zero] at H
  iintro HP Hk
  unfold attn1
  iapply H $$ HP
  iintro %acc
  iintro HP
  iapply Hk
  rw [show Scf.trips k0_t1_loop.lb k0_t1_loop.ub k0_t1_loop.st = 16 from trips1, upTo_all, upTo_all]
  iexact HP

/-- One step of the pass over both slots. -/
theorem wp_step2 (c : Dev nD) (t : Fin k0_t2_loop.trips) (C A B l a) :
    (passPts c C A B (upTo t.val (passL2 C A l) l) (upTo t.val (passA2 C A B a) a) : sProp 𝕄)
      ⊢ WP c (step2 t) fun _ => passPts c C A B (upTo (t.val + 1) (passL2 C A l) l) (upTo (t.val + 1) (passA2 C A B a) a) := by
  rw [← bind_pure (step2 t)]
  unfold step2 passPts kvPts laPts
  simp only [bind_assoc]
  iintro ⟨HQ, ⟨HK, HV⟩, HL, HA⟩
  iapply (wp_atK2 c (bt (t.cast trips2)) (hd (t.cast trips2)) _ A _ (off25_eq t) _ _ _) $$ HK
  iintro HK
  iapply (wp_atV2 c (bt (t.cast trips2)) (hd (t.cast trips2)) _ B _ (off25_eq t) _ _ _) $$ HV
  iintro HV
  iapply (wp_atQ c (bt (t.cast trips2)) (hd (t.cast trips2)) _ C _ (off26_eq t) _ _ _) $$ HQ
  iintro HQ
  iapply (wp_atL c (bt (t.cast trips2)) (hd (t.cast trips2)) _ _ _ (off27_eq t) _ _ _) $$ HL
  iintro HL
  iapply (wp_atL c (bt (t.cast trips2)) (hd (t.cast trips2)) _ _ _ (off27_eq t) _ _ _) $$ HL
  iintro HL
  iapply (wp_toL c (bt (t.cast trips2)) (hd (t.cast trips2)) _ _ _ _ _ (off27_eq t) _ _ _) $$ HL
  iintro HL
  iapply (wp_atA c (bt (t.cast trips2)) (hd (t.cast trips2)) _ _ _ (off26_eq t) _ _ _) $$ HA
  iintro HA
  iapply (wp_atA c (bt (t.cast trips2)) (hd (t.cast trips2)) _ _ _ (off26_eq t) _ _ _) $$ HA
  iintro HA
  iapply (wp_toA c (bt (t.cast trips2)) (hd (t.cast trips2)) _ _ _ _ _ (off26_eq t) _ _ _) $$ HA
  iintro HA
  rw [show t.val = (t.cast trips2).val from rfl, upTo_at, upTo_at]
  have eL := upTo_step (t.cast trips2) (passL2 C A l) l
  have eA := upTo_step (t.cast trips2) (passA2 C A B a) a
  rw [show passL2 C A l (bt (t.cast trips2)) (hd (t.cast trips2)) = k0_pay292 (k0_pay6 (both A (hd (t.cast trips2)) (bt (t.cast trips2))) (C (bt (t.cast trips2)) (hd (t.cast trips2)))) (k0_pay7 (l (bt (t.cast trips2)) (hd (t.cast trips2)))) from rfl] at eL
  rw [show passA2 C A B a (bt (t.cast trips2)) (hd (t.cast trips2)) = k0_pay293 (k0_pay5 (both B (hd (t.cast trips2)) (bt (t.cast trips2)))) (k0_pay6 (both A (hd (t.cast trips2)) (bt (t.cast trips2))) (C (bt (t.cast trips2)) (hd (t.cast trips2)))) (a (bt (t.cast trips2)) (hd (t.cast trips2))) from rfl] at eA
  rw [eL, eA]
  iapply (wp_done c _)
  isplitl [HQ]; · iexact HQ
  isplitl [HK HV]
  · isplitl [HK]; · iexact HK
    iexact HV
  isplitl [HL]; · iexact HL
  iexact HA

/-- The pass over both slots. -/
theorem wp_attn2 {α : Type} (c : Dev nD) (C A B l a) (k : PUnit → PK F α) (Q) :
    (passPts c C A B l a : sProp 𝕄) ⊢ iprop((passPts c C A B (passL2 C A l) (passA2 C A B a) -∗ WP c (k ⟨⟩) Q) -∗ WP c (attn2 >>= k) Q) := by
  have H := Scf.wp_for_bind frame (wpE (defs₀ (F := F)) 𝒱₀ (c : Thread nD τ) none) Set.univ _ _ _ k0_t2_ok ⟨⟩ (fun t (_ : PUnit) => step2 (F := F) t)
    (fun n _ => passPts c C A B (upTo n (passL2 C A l) l) (upTo n (passA2 C A B a) a)) (fun t _ => wp_step2 c t C A B l a) (kk := k) (Q := Q)
  rw [upTo_zero, upTo_zero] at H
  iintro HP Hk
  unfold attn2
  iapply H $$ HP
  iintro %acc
  iintro HP
  iapply Hk
  rw [show Scf.trips k0_t2_loop.lb k0_t2_loop.ub k0_t2_loop.st = 16 from trips2, upTo_all, upTo_all]
  iexact HP

/-! ## The own queries -/

/-- The own queries of one row block. -/
theorem wp_queries {α : Type} (c : Dev nD) (d : Dev nD) (b : Fin 2) (C) (k : PUnit → PK F α) (Q) :
    iprop(inPts J c ∗ pt c cc0_scratch1 fullShare (Qof C))
      ⊢ iprop((inPts J c ∗ pt c cc0_scratch1 fullShare (Qof fun b' h' => if b' = b then qVal (wide (tabB J.Cos d)) (wide (tabB J.Sin d)) h' (proj (rowB J.X c b) J.Wq) else C b' h')
          -∗ WP c (k ⟨⟩) Q) -∗ WP c (queries (wide (tabB J.Cos d)) (wide (tabB J.Sin d)) b >>= k) Q) := by
  unfold queries inPts
  simp only [bind_assoc]
  iintro ⟨⟨Hx, Hq, Hr⟩, HQ⟩ Hk
  iapply (wp_ld c gX (Rect.unit (s := S2x512x1024) ![b.val, 0, 0] S1x512x1024.size (b_inb b)) _ _ Q (f := J.X c) (Finset.subset_univ _)) $$ Hx
  iintro Hx
  rw [read_x]
  iapply (wp_weightQ c fullShare J.Wq _ Q) $$ Hq
  iintro Hq
  iapply (wp_fillQ c b _ C k Q) $$ HQ
  iintro HQ
  iapply Hk
  isplitr [HQ]
  · isplitl [Hx]; · iexact Hx
    isplitl [Hq]; · iexact Hq
    iexact Hr
  iexact HQ

/-- With both rows new the queries are the device's own. -/
theorem allQueries_eq (c : Dev nD) (C : Fin 2 → Fin 8 → Vec F S1x1x512x128 .bf16) :
    (fun b' h' => if b' = 1 then qVal (wide (tabB J.Cos c)) (wide (tabB J.Sin c)) h' (proj (rowB J.X c 1) J.Wq)
      else (fun b' h' => if b' = 0 then qVal (wide (tabB J.Cos c)) (wide (tabB J.Sin c)) h' (proj (rowB J.X c 0) J.Wq) else C b' h') b' h') = Qst J c := by
  funext b h
  fin_cases b <;> rfl

/-- The own queries. -/
theorem wp_allQueries {α : Type} (c : Dev nD) (o : BitVec 32) (ho : o.toNat < 8) (e : dv o ho = c) (C) (k : PUnit → PK F α) (Q) :
    iprop(inPts J c ∗ pt c cc0_scratch1 fullShare (Qof C))
      ⊢ iprop((inPts J c ∗ pt c cc0_scratch1 fullShare (Qof (Qst J c)) -∗ WP c (k ⟨⟩) Q) -∗ WP c (allQueries o ho >>= k) Q) := by
  unfold allQueries
  simp only [bind_assoc]
  rw [show inPts J c = (iprop(pt c cc0_stg1_0 fullShare (J.X c) ∗ pt c cc0_stg2_0 fullShare J.Wq ∗ pt c cc0_stg3_0 fullShare J.Wk ∗ pt c cc0_stg4_0 fullShare J.Wv
    ∗ pt c cc0_stg5_0 fullShare J.Wo ∗ pt c cc0_stg6_0 fullShare J.Cos ∗ pt c cc0_stg7_0 fullShare J.Sin) : sProp 𝕄) from rfl]
  iintro ⟨⟨Hx, Hq, Hwk, Hwv, Ho, Hc, Hsn⟩, HQ⟩ Hk
  iapply (wp_cos c fullShare J.Cos o ho _ Q) $$ Hc
  iintro Hc
  iapply (wp_sin c fullShare J.Sin o ho _ Q) $$ Hsn
  iintro Hsn
  rw [e]
  have h0 := fun k' => wp_queries J c c 0 C (α := α) k' Q
  have h1 := fun k' C' => wp_queries J c c 1 C' (α := α) k' Q
  unfold inPts at h0 h1
  iapply (h0 _) $$ [Hx Hq Hwk Hwv Ho Hc Hsn HQ]
  · isplitr [HQ]
    · isplitl [Hx]; · iexact Hx
      isplitl [Hq]; · iexact Hq
      isplitl [Hwk]; · iexact Hwk
      isplitl [Hwv]; · iexact Hwv
      isplitl [Ho]; · iexact Ho
      isplitl [Hc]; · iexact Hc
      iexact Hsn
    iexact HQ
  iintro H
  iapply (h1 k _) $$ H
  rw [allQueries_eq]
  iexact Hk

/-! ## The own block -/

/-- The own input stored as a block of the gathered one. -/
theorem wp_ownBlock {α : Type} (c : Dev nD) (o : BitVec 32) (ho : o.toNat < 8) (e : dv o ho = c) (f : Vec F S8x2x512x1024 .bf16) (k : PUnit → PK F α) (Q) :
    iprop(inPts J c ∗ (((c : Thread nD τ).loc cc0_scratch0) ↦[slotSet c]{fullShare} f))
      ⊢ iprop((inPts J c ∗ slotPt J c c fullShare -∗ WP c (k ⟨⟩) Q) -∗ WP c (ownBlock o ho >>= k) Q) := by
  unfold ownBlock inPts slotPt
  simp only [bind_assoc]
  iintro ⟨⟨Hx, Hr⟩, Hs⟩ Hk
  have ld := fun k' => wp_ld c gX (Rect.unit (s := S2x512x1024) ![0, 0, 0] S2x512x1024.size inb_S2x512x1024_S2x512x1024_0_0_0) (View.loadsAt_vmem h_S2x512x1024) (α := α) k' Q (q := fullShare) (f := J.X c) (Finset.subset_univ _)
  rw [show (gX.access (Rect.unit (s := S2x512x1024) ![0, 0, 0] S2x512x1024.size inb_S2x512x1024_S2x512x1024_0_0_0)).read (Elt F) (J.X c) = J.X c from read_weight cc0_stg1_0 zero3 _ (J.X c)] at ld
  iapply (ld _) $$ Hx
  iintro Hx
  have hs : (gAll.access (xR o ho)).set ⊆ slotSet c := by rw [xR_set, e]
  iapply (wp_ld c gAll (xR o ho) _ _ Q (f := f) hs) $$ Hs
  iintro Hs
  iapply (wp_st c gAll (xR o ho) (xVal (J.X c)) _ _ k Q (f := f) hs) $$ Hs
  iintro Hs
  iapply Hk
  isplitr [Hs]
  · isplitl [Hx]; · iexact Hx
    iexact Hr
  have hc : (((c : Thread nD τ).loc cc0_scratch0) ↦[slotSet c]{fullShare} ((gAll.access (xR o ho)).write (Elt F) f (xVal (J.X c)) Finset.univ) : sProp 𝕄)
      = (((c : Thread nD τ).loc cc0_scratch0) ↦[slotSet c]{fullShare} AllX J.X) := by
    refine pointsTo_congr fun i hi => ?_
    have := write_own o ho J.X f i (by rw [e]; exact hi)
    rwa [e] at this
  rw [← hc]
  iexact Hs

/-! ## The zeros -/

/-- A whole buffer, written, is what was written. -/
theorem write_whole (b : Ref sig .tc) {off : Fin b.ty.shape.rank → Nat} (h : off = fun _ => 0) (inb) (f w : b.ty.Contents (Elt F)) :
    ((Memref.whole b).access (Rect.unit off b.ty.shape.size inb) : View sig .tc _ _ _).write (Elt F) f w Finset.univ = w :=
  Memref.write_access_unit_zero_univ (Elt F) b h inb f w

/-- The sums' first values. -/
def zeroL : Fin 2 → Fin 8 → Vec F S1x1x512x1 .f32 := fun b h i => k0_pay72 (broadcast S2x8x512x1 (Scalar.ofBits .f32 0x00000000#32)) (ix4 b h (i 2) (i 3))
/-- The weighted values' first values. -/
def zeroA : Fin 2 → Fin 8 → Vec F S1x1x512x128 .f32 := fun b h i => k0_pay73 (ix4 b h (i 2) (i 3))

/-- The zeros stored in the sums of weights, head by head. -/
theorem zeroL_eq : (k0_pay72 (broadcast S2x8x512x1 (Scalar.ofBits .f32 0x00000000#32)) : Vec F S2x8x512x1 .f32) = Lof zeroL := by
  funext i; exact congrArg _ (eq_ix4 i)
/-- The zeros stored in the weighted values, head by head. -/
theorem zeroA_eq : (k0_pay73 : Vec F S2x8x512x128 .f32) = Aof zeroA := by
  funext i; exact congrArg _ (eq_ix4 i)

/-- Storing the zeros. -/
theorem wp_zeros {α : Type} (c : Dev nD) (l : Vec F S2x8x512x1 .f32) (a : Vec F S2x8x512x128 .f32) (k : PUnit → PK F α) (Q) :
    iprop(pt c cc0_scratch4 fullShare l ∗ pt c cc0_scratch5 fullShare a : sProp 𝕄)
      ⊢ iprop((laPts c zeroL zeroA -∗ WP c (k ⟨⟩) Q) -∗ WP c (zeros >>= k) Q) := by
  unfold zeros laPts
  simp only [bind_assoc]
  iintro ⟨HL, HA⟩ Hk
  iapply (wp_ld c gL (Rect.unit (s := S2x8x512x1) ![0, 0, 0, 0] S2x8x512x1.size inb_S2x8x512x1_S2x8x512x1_0_0_0_0) _ _ Q (f := l) (Finset.subset_univ _)) $$ HL
  iintro HL
  iapply (wp_st c gL (Rect.unit (s := S2x8x512x1) ![0, 0, 0, 0] S2x8x512x1.size inb_S2x8x512x1_S2x8x512x1_0_0_0_0) _ _ _ _ Q (f := l) (Finset.subset_univ _)) $$ HL
  iintro HL
  iapply (wp_ld c gAcc (Rect.unit (s := S2x8x512x128) ![0, 0, 0, 0] S2x8x512x128.size inb_S2x8x512x128_S2x8x512x128_0_0_0_0) _ _ Q (f := a) (Finset.subset_univ _)) $$ HA
  iintro HA
  iapply (wp_st c gAcc (Rect.unit (s := S2x8x512x128) ![0, 0, 0, 0] S2x8x512x128.size inb_S2x8x512x128_S2x8x512x128_0_0_0_0) _ _ _ _ Q (f := a) (Finset.subset_univ _)) $$ HA
  iintro HA
  iapply Hk
  rw [← zeroL_eq, ← zeroA_eq]
  have eL : (pt c cc0_scratch4 fullShare ((gL.access (Rect.unit (s := S2x8x512x1) ![0, 0, 0, 0] S2x8x512x1.size inb_S2x8x512x1_S2x8x512x1_0_0_0_0)).write (Elt F) l
      (k0_pay72 (broadcast S2x8x512x1 (Scalar.ofBits .f32 0x00000000#32))) Finset.univ) : sProp 𝕄)
      = pt c cc0_scratch4 fullShare (k0_pay72 (broadcast S2x8x512x1 (Scalar.ofBits .f32 0x00000000#32))) :=
    congrArg (pt c cc0_scratch4 fullShare) (write_whole cc0_scratch4 zero4 _ _ _)
  have eA : (pt c cc0_scratch5 fullShare ((gAcc.access (Rect.unit (s := S2x8x512x128) ![0, 0, 0, 0] S2x8x512x128.size inb_S2x8x512x128_S2x8x512x128_0_0_0_0)).write (Elt F) a
      k0_pay73 Finset.univ) : sProp 𝕄) = pt c cc0_scratch5 fullShare k0_pay73 :=
    congrArg (pt c cc0_scratch5 fullShare) (write_whole cc0_scratch5 zero4 _ _ _)
  rw [← eL, ← eA]
  isplitl [HL]
  · iexact HL
  · iexact HA

/-! ## The quotients and the product -/

/-- One head's quotients. -/
theorem wp_quot {α : Type} (c : Dev nD) (b : Fin 2) (h : Fin 8) (l a X) (k : PUnit → PK F α) (Q) :
    iprop(laPts c l a ∗ pt c cc0_scratch6 fullShare (Cof X) : sProp 𝕄)
      ⊢ iprop((laPts c l a ∗ pt c cc0_scratch6 fullShare (Cof fun b' h' => if b' = b ∧ h' = h then k0_pay682 (a b h) (l b h) else X b' h') -∗ WP c (k ⟨⟩) Q)
        -∗ WP c (quot b h >>= k) Q) := by
  unfold quot laPts
  simp only [bind_assoc]
  iintro ⟨⟨HL, HA⟩, HC⟩ Hk
  iapply (wp_atA c b h _ a _ rfl _ _ _) $$ HA
  iintro HA
  iapply (wp_atL c b h _ l _ rfl _ _ _) $$ HL
  iintro HL
  iapply (wp_ld c gCtx (eR b h) _ _ Q (f := Cof X) (Finset.subset_univ _)) $$ HC
  iintro HC
  iapply (wp_st c gCtx (eR b h) _ _ _ k Q (f := Cof X) (Finset.subset_univ _)) $$ HC
  rw [write_C]
  iintro HC
  iapply Hk
  isplitr [HC]
  · isplitl [HL]; · iexact HL
    iexact HA
  iexact HC

/-- Eight heads' quotients. -/
theorem wp_quots {α : Type} (c : Dev nD) (b : Fin 2) (l a X) (k : PUnit → PK F α) (Q) :
    iprop(laPts c l a ∗ pt c cc0_scratch6 fullShare (Cof X) : sProp 𝕄)
      ⊢ iprop((laPts c l a ∗ pt c cc0_scratch6 fullShare (Cof fun b' h' => if b' = b then k0_pay682 (a b h') (l b h') else X b' h') -∗ WP c (k ⟨⟩) Q)
        -∗ WP c (seq8 (quot b) >>= k) Q) := by
  have := wp_seq8 c (quot b)
    (fun n => iprop(laPts c l a ∗ pt c cc0_scratch6 fullShare (Cof fun b' h' => if b' = b ∧ h'.val < n then k0_pay682 (a b h') (l b h') else X b' h')))
    (fun h k Q => by
      have := wp_quot c b h l a (fun b' h' => if b' = b ∧ h'.val < h.val then k0_pay682 (a b h') (l b h') else X b' h') k Q
      rwa [fill2_step (v := fun h => k0_pay682 (a b h) (l b h))] at this) k Q
  rwa [fill2_zero (v := fun h => k0_pay682 (a b h) (l b h)), fill2_eight (v := fun h => k0_pay682 (a b h) (l b h))] at this

/-- The context the quotients make. -/
def ctxOf (l : Fin 2 → Fin 8 → Vec F S1x1x512x1 .f32) (a : Fin 2 → Fin 8 → Vec F S1x1x512x128 .f32) : Vec F S1024x1024 .bf16 := Cof fun b h => k0_pay682 (a b h) (l b h)

/-- With both rows new the context is the quotients'. -/
theorem quots_eq (l : Fin 2 → Fin 8 → Vec F S1x1x512x1 .f32) (a : Fin 2 → Fin 8 → Vec F S1x1x512x128 .f32) (X : Fin 2 → Fin 8 → Vec F S512x128 .bf16) :
    (Cof fun b' h' => if b' = 1 then k0_pay682 (a 1 h') (l 1 h') else (fun b' h' => if b' = 0 then k0_pay682 (a 0 h') (l 0 h') else X b' h') b' h') = ctxOf l a := by
  unfold ctxOf
  congr 1
  funext b h
  fin_cases b <;> rfl

/-- The product with the output's weights, stored. -/
theorem wp_output {α : Type} (c : Dev nD) (C : Vec F S1024x1024 .bf16) (r : Vec F S2x512x1024 .bf16) (k : PUnit → PK F α) (Q) :
    iprop(inPts J c ∗ pt c cc0_scratch6 fullShare C ∗ pt c cc0_stg8_0 fullShare r)
      ⊢ iprop((inPts J c ∗ pt c cc0_scratch6 fullShare C ∗ pt c cc0_stg8_0 fullShare (k0_pay1 (k0_pay702 C J.Wo)) -∗ WP c (k ⟨⟩) Q)
        -∗ WP c (output >>= k) Q) := by
  unfold output inPts
  simp only [bind_assoc]
  iintro ⟨⟨Hx, Hq, Hwk, Hwv, Ho, Hr⟩, HC, HR⟩ Hk
  iapply (wp_weightC c fullShare C _ Q) $$ HC
  iintro HC
  iapply (wp_weightO c fullShare J.Wo _ Q) $$ Ho
  iintro Ho
  iapply (wp_ld c gOut (Rect.unit (s := S2x512x1024) ![0, 0, 0] S2x512x1024.size inb_S2x512x1024_S2x512x1024_0_0_0) _ _ Q (f := r) (Finset.subset_univ _)) $$ HR
  iintro HR
  iapply (wp_st c gOut (Rect.unit (s := S2x512x1024) ![0, 0, 0] S2x512x1024.size inb_S2x512x1024_S2x512x1024_0_0_0) _ _ _ k Q (f := r) (Finset.subset_univ _)) $$ HR
  iintro HR
  iapply Hk
  isplitl [Hx Hq Hwk Hwv Ho Hr]
  · isplitl [Hx]; · iexact Hx
    isplitl [Hq]; · iexact Hq
    isplitl [Hwk]; · iexact Hwk
    isplitl [Hwv]; · iexact Hwv
    isplitl [Ho]; · iexact Ho
    iexact Hr
  isplitl [HC]; · iexact HC
  have e : (gOut.access (Rect.unit (s := S2x512x1024) ![0, 0, 0] S2x512x1024.size inb_S2x512x1024_S2x512x1024_0_0_0)).write (Elt F) r
      (k0_pay1 (k0_pay702 C J.Wo)) Finset.univ = k0_pay1 (k0_pay702 C J.Wo) :=
    Memref.write_access_unit_zero_univ (Elt F) cc0_stg8_0 zero3 _ _ _
  have hc : (pt c cc0_stg8_0 fullShare ((gOut.access (Rect.unit (s := S2x512x1024) ![0, 0, 0] S2x512x1024.size inb_S2x512x1024_S2x512x1024_0_0_0)).write (Elt F) r
      (k0_pay1 (k0_pay702 C J.Wo)) Finset.univ) : sProp 𝕄) = pt c cc0_stg8_0 fullShare (k0_pay1 (k0_pay702 C J.Wo)) := by rw [e]
  rw [← hc]
  iexact HR

end Cert.KernelIdeal.Clean

end
-- ==== Proof.Protocol.lean ====
/-
  The ring of devices, the semaphores' cells, what each cell's duties hand over, what each core owes.
-/
module

public import proofs.«01_k».proof.Proof.Passes

@[expose] public section

set_option maxRecDepth 16384

noncomputable section

namespace Cert.KernelIdeal.Clean

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

variable (J : Ins F)

/-! ## The ring -/

/-- The next device round the ring. -/
def nxt (c : Dev nD) : Dev nD := (![1, 2, 3, 7, 0, 4, 5, 6] : Fin 8 → Fin 8) c
/-- The previous device round the ring. -/
def prv (c : Dev nD) : Dev nD := (![4, 0, 1, 2, 5, 6, 7, 3] : Fin 8 → Fin 8) c
/-- The previous of the next is the device itself. -/
theorem prv_nxt (c : Dev nD) : prv (nxt c) = c := by revert c; decide
/-- The next of the previous is the device itself. -/
theorem nxt_prv (c : Dev nD) : nxt (prv c) = c := by revert c; decide
/-- The ring, as a bijection of the devices. -/
def ring : Dev nD ≃ Dev nD := ⟨nxt, prv, prv_nxt, nxt_prv⟩

/-- Of the seven transfers of a device, in the order it starts them, the even ones go to the next device and the odd ones to the previous. -/
def isR (i : Fin 7) : Bool := i.val % 2 == 0
/-- The device transfer `i` of `c` goes to. -/
def dst (i : Fin 7) (c : Dev nD) : Dev nD := if isR i then nxt c else prv c
/-- The device transfer `i` comes to `c` from. -/
def src (i : Fin 7) (c : Dev nD) : Dev nD := if isR i then prv c else nxt c
/-- The block that transfer `i` of device `c` carries. -/
def blk (i : Fin 7) (c : Dev nD) : Dev nD := (src i)^[i.val / 2] c
/-- The block that transfer `i` brings to device `c`. -/
def arr (i : Fin 7) (c : Dev nD) : Dev nD := (src i)^[i.val / 2 + 1] c

/-- A transfer that comes from a device goes to where it arrives. -/
theorem dst_src (i : Fin 7) (c : Dev nD) : dst i (src i c) = c := by revert i c; decide
/-- A transfer that goes to a device comes from where it started. -/
theorem src_dst (i : Fin 7) (c : Dev nD) : src i (dst i c) = c := by revert i c; decide
/-- What arrives at the far end is what was carried. -/
theorem arr_dst (i : Fin 7) (c : Dev nD) : arr i (dst i c) = blk i c := by revert i c; decide
/-- No block that arrives is the own one. -/
theorem arr_ne (i : Fin 7) (c : Dev nD) : arr i c ≠ c := by revert i c; decide
/-- The seven arrivals are different blocks. -/
theorem arr_inj (c : Dev nD) : Function.Injective fun i : Fin 7 => arr i c := by revert c; decide
/-- Every block is the own one or arrives. -/
theorem arr_all (c d : Dev nD) : d = c ∨ ∃ i, arr i c = d := by revert c d; decide
/-- What a later transfer carries is what the transfer two before it brought. -/
theorem blk_arr (i : Fin 7) (h : i.val < 5) (c : Dev nD) : blk ⟨i.val + 2, by omega⟩ c = arr i c := by revert c; revert i; decide

/-- What the ring's table names for device `c`. -/
def ringDev (c : Dev nD) : Fin 10 → Dev nD := ![nxt c, prv c, c, arr 0 c, arr 2 c, arr 4 c, arr 6 c, arr 1 c, arr 3 c, arr 5 c]

abbrev wd (s : Dev nD) : BitVec 32 := BitVec.ofNat 32 s.val
/-- A device's word is below eight. -/
theorem wd_lt (s : Dev nD) : (wd s).toNat < 8 := by revert s; decide
/-- The device that a device's word names. -/
theorem dv_wd (s : Dev nD) (h) : dv (wd s) h = s := by revert s; decide
/-- The peer that a device's word names. -/
theorem peer_wd (s : Dev nD) (h) : peer (wd s) h = s := by revert s; decide +kernel

/-- The ring's table. -/
def ringTab : Vec F S8x10 .i32 := fun i => wd (ringDev (i 0) (i 1))
/-- The printed table's entries are the words of the devices it names. -/
theorem lit0_ring : ∀ (d : Fin 8) (n : Fin 10), lit0 (S8x10.rowMajor (ix2 d n)) = wd (ringDev d n) := by decide +kernel
/-- The printed table is the ring's. -/
theorem lit0_eq : (fun i => lit0 (S8x10.rowMajor i)) = (ringTab : Vec F S8x10 .i32) := by
  funext i
  rw [eq_ix2 i]
  exact lit0_ring (i 0) (i 1)

/-- A device reads the row of its own number. -/
theorem ringRow : ∀ c : Dev nD, (Scalar.remsi (Scalar.divsi (Dev.word c) 1#32) 8#32).toNat = c.val := by decide +kernel
/-- The word a device reads lies within the table. -/
theorem ringRect_inb (c : Dev nD) (n : Fin 10) :
    ∀ a, (![(Scalar.remsi (Scalar.divsi (Dev.word c) 1#32) 8#32).toNat, n.val] : Fin 2 → Nat) a + S1x1.size a ≤ S8x10.size a := by
  revert c n; decide +kernel
/-- Where device `c` reads its `n`th word. -/
abbrev ringRect (c : Dev nD) (n : Fin 10) : Rect S8x10 :=
  Rect.unit (s := S8x10) ![(Scalar.remsi (Scalar.divsi (Dev.word c) 1#32) 8#32).toNat, n.val] S1x1.size (ringRect_inb c n)

/-- The place of that word in the table. -/
theorem ringRect_emb (c : Dev nD) (n : Fin 10) (x : (ringRect c n).shape.Idx) : (ringRect c n).emb x = (ix2 c n : S8x10.Idx) := by
  have hd : (Scalar.remsi (Scalar.divsi (Dev.word c) 1#32) 8#32).toNat = c.val := ringRow c
  funext a; apply Fin.ext; refine (emb_val _ _ _ _ _).trans ?_
  match a with
  | ⟨0, _⟩ => have := (x 0).isLt; exact (congrArg (· + _) hd).trans (Nat.add_eq_left.mpr (Nat.lt_one_iff.mp this))
  | ⟨1, _⟩ => have := (x 1).isLt; exact Nat.add_eq_left.mpr (Nat.lt_one_iff.mp this)

/-- Reading the table's `n`th word gives the device named there. -/
theorem wp_ringWord {α : Type} (c : Dev nD) (n : Fin 10) (q) (k : BitVec 32 → PK F α) (Q : α → sProp 𝕄) :
    (pt c cc0_stg0_0 q ringTab : sProp 𝕄) ⊢ iprop((pt c cc0_stg0_0 q ringTab -∗ WP c (k (wd (ringDev c n))) Q) -∗ WP c (ringWord c n >>= k) Q) := by
  have H : (pt c cc0_stg0_0 q ringTab : sProp 𝕄) ⊢ iprop((pt c cc0_stg0_0 q ringTab
      -∗ WP c (k ((gTab.access (ringRect c n)).read (Elt F) ringTab (Shape.Idx.first (numel1_S1x1.symm ▸ Nat.one_pos)))) Q) -∗ WP c (ringWord c n >>= k) Q) :=
    wp_smemLoadElt (defs := defs₀ (F := F)) 𝒱₀ (c : Thread nD τ) none Set.univ (m := gTab) (r := ringRect c n) (hw := View.loads_smem_one rfl numel1_S1x1) (Finset.subset_univ _)
  have e : ∀ x, (gTab.access (ringRect c n)).read (Elt F) ringTab x = wd (ringDev c n) := fun x => by
    show ringTab ((ringRect c n).emb x) = _
    rw [ringRect_emb]; rfl
  rw [e] at H
  exact H

/-! ## The cells -/

/-- The semaphore of transfer `i` at its source. -/
def sndS (i : Fin 7) : DmaSem sig := (![semSR 0, semSL 0, semSR 1, semSL 1, semSR 2, semSL 2, semSR 3] : Fin 7 → DmaSem sig) i
/-- The semaphore of transfer `i` at its target. -/
def rcvS (i : Fin 7) : DmaSem sig := (![semRR 0, semRL 0, semRR 1, semRL 1, semRR 2, semRL 2, semRR 3] : Fin 7 → DmaSem sig) i

/-- A kernel's own cells: the barrier's, and of each transfer the target's (`true`) and the source's (`false`). -/
abbrev osem (k : Bool × Fin 7) : SemLoc sig := if k.1 then .dma (rcvS k.2) else .dma (sndS k.2)
abbrev ksem : Option (Bool × Fin 7) → SemLoc sig
  | none => .reg barSem
  | some k => osem k

/-- Different cells have different semaphores. -/
theorem ksem_inj : Function.Injective ksem := by decide +kernel

abbrev barCell (c : Dev nD) : GSem nD τ sig := ((c : Thread nD τ), .reg barSem)
abbrev sndCell (i : Fin 7) (c : Dev nD) : GSem nD τ sig := ((c : Thread nD τ), .dma (sndS i))
abbrev rcvCell (i : Fin 7) (c : Dev nD) : GSem nD τ sig := ((c : Thread nD τ), .dma (rcvS i))
abbrev cellAt (p : Dev nD × Option (Bool × Fin 7)) : GSem nD τ sig := ((p.1 : Thread nD τ), ksem p.2)

/-- Which of the kernel's semaphores a semaphore is. -/
def ixOf (s : SemLoc sig) : Option (Option (Bool × Fin 7)) :=
  (none :: (List.finRange 7).map (fun i => some (true, i)) ++ (List.finRange 7).map (fun i => some (false, i))).find? fun k => ksem k = s
/-- Which one a cell's semaphore is. -/
theorem ixOf_ksem : ∀ k, ixOf (ksem k) = some k := by decide +kernel
/-- A semaphore that is one of the kernel's is that one's. -/
theorem ixOf_some (s : SemLoc sig) (k) (h : ixOf s = some k) : ksem k = s := by
  unfold ixOf at h
  have := List.find?_some h
  exact of_decide_eq_true this

/-! ## The transfers -/

/-- The elements one block moves. -/
def N : ℕ := (slot (wd 0) (wd_lt 0)).view.dmaCredit
/-- Every block moves the same number of elements. -/
theorem N_eq (o : BitVec 32) (ho : o.toNat < 8) : (slot o ho).view.dmaCredit = N := rfl
/-- A block moves some elements. -/
theorem N_pos : 0 < N := View.dmaCredit_pos _ (by decide)

/-- The share of a block transfer `i` reads it at: the own block is read by two. -/
def sh (i : Fin 7) : PosShare TreeShare := if i = 1 then (fullShare.right).left else fullShare.left

/-- Block `d` of core `c`'s gathered input, at contents not chosen. -/
def slotAny (c d : Dev nD) : sProp 𝕄 :=
  iprop(∃ f : Vec F S8x2x512x1024 .bf16, ((c : Thread nD τ).loc cc0_scratch0) ↦[slotSet d]{fullShare} f)

/-- What core `c` needs of the device its transfer `i` goes to: the block there, and that its cell is open. -/
def land (c : Dev nD) (i : Fin 7) : sProp 𝕄 := iprop(slotAny (dst i c) (blk i c) ∗ reached ER (rcvCell i (dst i c)) 0)

/-- The same, as the device it arrives at gives it. -/
def give (c : Dev nD) (i : Fin 7) : sProp 𝕄 := iprop(slotAny c (arr i c) ∗ reached ER (rcvCell i c) 0)

/-- What an arrival's device gives is what the sender needs. -/
theorem give_eq (c : Dev nD) (i : Fin 7) : (give c i : sProp 𝕄) = land (src i c) i := by
  unfold give land
  rw [dst_src, ← arr_dst, dst_src]

/-- The transfers of one direction. -/
def way (d : Bool) : Finset (Fin 7) := Finset.univ.filter fun i => isR i = d

/-- Paid to a barrier's cell: the blocks of one direction. -/
def barPay (c : Dev nD) (d : Bool) : sProp 𝕄 := bigSep (way d) fun i => land c i

instance slotAny_storable (c d : Dev nD) : BI.Storable (upEmb : UEmb _ 𝕄) (slotAny (F := F) c d) := by unfold slotAny; infer_instance
instance slotPt_storable (c d : Dev nD) (q) : BI.Storable (upEmb : UEmb _ 𝕄) (slotPt J c d q) := by unfold slotPt; infer_instance
instance land_storable (c : Dev nD) (i) : BI.Storable (upEmb : UEmb _ 𝕄) (land (F := F) c i) := by unfold land; infer_instance
instance barPay_storable (c : Dev nD) (d) : BI.Storable (upEmb : UEmb _ 𝕄) (barPay (F := F) c d) := by unfold barPay; infer_instance

/-- What a cell's duty hands over. -/
def pay (g : GSem nD τ sig) (d : Bool) : sProp 𝕄 :=
  match ixOf g.2 with
  | some none => barPay g.1.1 d
  | some (some (true, i)) => slotPt J g.1.1 (arr i g.1.1) fullShare
  | some (some (false, i)) => slotPt J g.1.1 (blk i g.1.1) (sh i)
  | none => iprop(emp)

instance pay_storable (g) (d) : BI.Storable (upEmb : UEmb _ 𝕄) (pay J g d) := by
  unfold pay
  split <;> infer_instance

/-- One round: a barrier's two units, one from each neighbour, and each transfer's two credits. -/
def rd : Rounds.Schedule (GSem nD τ sig) Bool 𝕄 where
  duties g r := if r = 0 ∧ g.1.2 = .tc then (match ixOf g.2 with | some none => Finset.univ | some (some _) => {true} | none => ∅) else ∅
  unitless _ := False
  amount g _ _ := if g.2 = .reg barSem then 1 else N
  payload g _ d := pay J g d
  amount_pos g _ _ _ := by
    by_cases h : g.2 = .reg barSem
    · rw [if_pos h]; exact Nat.one_pos
    · rw [if_neg h]; exact N_pos

instance rd_storable (g : GSem nD τ sig) (r : ℕ) (d : Bool) : BI.Storable (upEmb : UEmb _ 𝕄) ((rd J).payload g r d) := pay_storable J g d

section Sched
variable (c : Dev nD) (i : Fin 7)

/-- The barrier's semaphore among the kernel's. -/
theorem ix_bar : ixOf (.reg barSem) = some none := ixOf_ksem none
/-- The target's semaphore of transfer `i` among the kernel's. -/
theorem ix_rcv : ixOf (.dma (rcvS i)) = some (some (true, i)) := ixOf_ksem (some (true, i))
/-- The source's semaphore of transfer `i` among the kernel's. -/
theorem ix_snd : ixOf (.dma (sndS i)) = some (some (false, i)) := ixOf_ksem (some (false, i))

/-- A barrier has two duties. -/
theorem duties_bar : (rd J).duties (barCell c) 0 = Finset.univ := by dsimp only [rd]; rw [if_pos ⟨rfl, rfl⟩, ix_bar]
/-- An arrival has one duty. -/
theorem duties_rcv : (rd J).duties (rcvCell i c) 0 = {true} := by dsimp only [rd]; rw [if_pos ⟨rfl, rfl⟩, ix_rcv]
/-- A departure has one duty. -/
theorem duties_snd : (rd J).duties (sndCell i c) 0 = {true} := by dsimp only [rd]; rw [if_pos ⟨rfl, rfl⟩, ix_snd]
/-- There are no duties after the first round. -/
theorem duties_later (g : GSem nD τ sig) : ∀ r, 1 ≤ r → (rd J).duties g r = ∅ :=
  fun r hr => by dsimp only [rd]; exact if_neg fun h => by omega
/-- A barrier's duty is one unit. -/
theorem amount_bar (d : Bool) : (rd J).amount (barCell c) 0 d = 1 := by dsimp only [rd]; exact if_pos rfl
/-- A transfer's duty is a block's elements. -/
theorem amount_dma (q : DmaSem sig) (d : Bool) : (rd J).amount ((c : Thread nD τ), .dma q) 0 d = N := by dsimp only [rd]; exact if_neg (fun h => by cases h)
/-- A barrier's round is two units. -/
theorem expect_bar : (rd J).expect (barCell c) 0 = 2 := by
  unfold Schedule.expect Schedule.amountOf
  rw [duties_bar, Finset.sum_congr rfl fun d _ => amount_bar J c d, Finset.sum_const, Finset.card_univ, Fintype.card_bool, smul_eq_mul]
/-- An arrival's round is a block's elements. -/
theorem expect_rcv : (rd J).expect (rcvCell i c) 0 = N := by
  unfold Schedule.expect Schedule.amountOf; rw [duties_rcv, Finset.sum_singleton, amount_dma]
/-- A departure's round is a block's elements. -/
theorem expect_snd : (rd J).expect (sndCell i c) 0 = N := by
  unfold Schedule.expect Schedule.amountOf; rw [duties_snd, Finset.sum_singleton, amount_dma]
/-- What a barrier's duty hands over. -/
theorem payload_bar (d : Bool) : (rd J).payload (barCell c) 0 d = barPay c d := by
  show pay J (barCell c) d = _
  unfold pay; rw [ix_bar]
/-- An arrival's duty hands over the block, arrived. -/
theorem payload_rcv (d : Bool) : (rd J).payload (rcvCell i c) 0 d = slotPt J c (arr i c) fullShare := by
  show pay J (rcvCell i c) d = _
  unfold pay; rw [ix_rcv]
/-- A departure's duty hands back the share the block was read at. -/
theorem payload_snd (d : Bool) : (rd J).payload (sndCell i c) 0 d = slotPt J c (blk i c) (sh i) := by
  show pay J (sndCell i c) d = _
  unfold pay; rw [ix_snd]
/-- All that a barrier's round hands over. -/
theorem rest_bar : bigSep ((rd J).duties (barCell c) 0 \ ∅) (fun d => (rd J).payload (barCell c) 0 d) = iprop(barPay c false ∗ barPay c true) := by
  rw [Finset.sdiff_empty, duties_bar, bigSep_univ_eq_bigSepL [false, true] (by decide) (by decide), bigSepL_cons_cons, bigSepL_singleton, payload_bar, payload_bar]
  rfl
/-- All that an arrival's round hands over. -/
theorem rest_rcv : bigSep ((rd J).duties (rcvCell i c) 0 \ ∅) (fun d => (rd J).payload (rcvCell i c) 0 d) = slotPt J c (arr i c) fullShare := by
  rw [Finset.sdiff_empty, duties_rcv, bigSep_singleton, payload_rcv]
/-- All that a departure's round hands over. -/
theorem rest_snd : bigSep ((rd J).duties (sndCell i c) 0 \ ∅) (fun d => (rd J).payload (sndCell i c) 0 d) = slotPt J c (blk i c) (sh i) := by
  rw [Finset.sdiff_empty, duties_snd, bigSep_singleton, payload_snd]

end Sched

/-! ## What each core owes; the levels -/

/-- What core `c` owes with its last `n` transfers to come. -/
def rem (c : Dev nD) : ℕ → CellTallies nD τ sig Unit
  | 0 => 0
  | n + 1 => rem c n + tallyAt (rcvCell (Fin.ofNat 7 (6 - n)) (dst (Fin.ofNat 7 (6 - n)) c)) () N

/-- What is owed before transfer `i` is what is owed after it, and its arrival. -/
theorem rem_step (c : Dev nD) (i : Fin 7) : rem c (7 - i.val) = rem c (6 - i.val) + tallyAt (rcvCell i (dst i c)) () N := by
  fin_cases i <;> rfl

/-- What core `c` owes with the signal to the next device to come. -/
def O₁ (c : Dev nD) : CellTallies nD τ sig Unit := rem c 7 + tallyAt (barCell (nxt c)) () 1
/-- What core `c` owes at the start: also the signal to the previous device. -/
def O₀ (c : Dev nD) : CellTallies nD τ sig Unit := O₁ c + tallyAt (barCell (prv c)) () 1

/-- What is owed of the last `n` transfers is owed to their arrivals. -/
theorem rem_pos {c : Dev nD} {n : ℕ} {g : GSem nD τ sig} {u : Unit} (h : 0 < rem c n g u) : ∃ j : Fin 7, 7 ≤ j.val + n ∧ g = rcvCell j (dst j c) := by
  induction n with
  | zero => exact absurd h (Nat.lt_irrefl 0)
  | succ n ih =>
    rw [rem, Pi.add_apply, Finsupp.add_apply, tallyAt_apply] at h
    by_cases e : g = rcvCell (Fin.ofNat 7 (6 - n)) (dst (Fin.ofNat 7 (6 - n)) c) ∧ u = ()
    · refine ⟨_, ?_, e.1⟩
      have : (Fin.ofNat 7 (6 - n)).val = 6 - n := Nat.mod_eq_of_lt (by omega)
      rw [this]; omega
    · rw [if_neg e] at h
      obtain ⟨j, hj, hg⟩ := ih h
      exact ⟨j, by omega, hg⟩

/-- What is owed at the start is owed to an arrival or to a neighbour's barrier. -/
theorem O₀_pos {c : Dev nD} {g : GSem nD τ sig} {u : Unit} (h : 0 < O₀ c g u) :
    (∃ j : Fin 7, g = rcvCell j (dst j c)) ∨ g = barCell (nxt c) ∨ g = barCell (prv c) := by
  unfold O₀ O₁ at h
  rw [Pi.add_apply, Finsupp.add_apply, Pi.add_apply, Finsupp.add_apply, tallyAt_apply, tallyAt_apply] at h
  by_contra hn; rw [not_or, not_or] at hn
  rw [if_neg (fun h' => hn.2.1 h'.1), if_neg (fun h' => hn.2.2 h'.1)] at h
  obtain ⟨j, -, hg⟩ := rem_pos (c := c) (n := 7) (g := g) (u := u) h
  exact hn.1 ⟨j, hg⟩

/-- The kernel's core has one index per semaphore, other threads none. -/
def L (g : GSem nD τ sig) : Finset Unit := if g.1.2 = .tc then {()} else ∅
/-- A barrier's cell is at level 1, the cell of arriving transfer `i` at `i + 2`, the others at 0. -/
def lv (g : GSem nD τ sig) (_ : Unit) : ℕ :=
  match ixOf g.2 with
  | some none => 1
  | some (some (true, i)) => i.val + 2
  | _ => 0

/-- Other threads have no index. -/
theorem L_of_ne (g : GSem nD τ sig) (h : g.1.2 ≠ .tc) : L g = ∅ := if_neg h
/-- The kernel's core has one index. -/
theorem L_tc (c : Dev nD) (sm : SemLoc sig) : L ((c : Thread nD τ), sm) = {()} := if_pos rfl
/-- Every index is one of the kernel's core. -/
theorem mem_L (c : Dev nD) (sm : SemLoc sig) (u : Unit) : u ∈ L ((c : Thread nD τ), sm) := by rw [L_tc]; exact Finset.mem_singleton_self _
/-- The barrier's level. -/
theorem lv_bar (c : Dev nD) (u) : lv (barCell c) u = 1 := by dsimp only [lv]; rw [ix_bar]
/-- An arrival's level. -/
theorem lv_rcv (c : Dev nD) (i u) : lv (rcvCell i c) u = i.val + 2 := by dsimp only [lv]; rw [ix_rcv]
/-- A departure's level. -/
theorem lv_snd (c : Dev nD) (i u) : lv (sndCell i c) u = 0 := by dsimp only [lv]; rw [ix_snd]

/-- A core may wait at a cell below the arrivals of all the transfers it still owes. -/
theorem mayWait_rem (c : Dev nD) (sm : SemLoc sig) (n b : ℕ) (hb : lv ((c : Thread nD τ), sm) () ≤ b) (hn : ∀ j : Fin 7, 7 ≤ j.val + n → b < j.val + 2) :
    (levAts L lv : sProp 𝕄) ⊢ MayWait (c : Thread nD τ) sm () (rem c n) :=
  MayOwe.of_cut (L := L) (lev := lv) b (fun p hp => by rw [Finset.mem_singleton.mp hp]; exact mem_L _ _ _)
    (fun g u hg => by obtain ⟨j, -, rfl⟩ := rem_pos hg; exact mem_L _ _ _)
    (fun p hp => by rw [Finset.mem_singleton.mp hp]; exact hb)
    (fun g u hg => by obtain ⟨j, hj, rfl⟩ := rem_pos hg; rw [lv_rcv]; exact hn j hj)

/-- A core may wait at its barrier while it owes every transfer. -/
theorem mayWait_bar (c : Dev nD) : (levAts L lv : sProp 𝕄) ⊢ MayWait (c : Thread nD τ) (.reg barSem) () (rem c 7) :=
  mayWait_rem c _ 7 1 (by rw [lv_bar]) (fun j _ => by omega)
/-- A core may wait for arrival `i` when only transfers after `i + 1` are still to come. -/
theorem mayWait_rcv (c : Dev nD) (i : Fin 7) : (levAts L lv : sProp 𝕄) ⊢ MayWait (c : Thread nD τ) (.dma (rcvS i)) () (rem c (5 - i.val)) :=
  mayWait_rem c _ _ (i.val + 2) (by rw [lv_rcv]) (fun j hj => by omega)
/-- A core may wait for a departure whatever transfers it owes. -/
theorem mayWait_snd (c : Dev nD) (i : Fin 7) (n : ℕ) : (levAts L lv : sProp 𝕄) ⊢ MayWait (c : Thread nD τ) (.dma (sndS i)) () (rem c n) :=
  mayWait_rem c _ _ 0 (by rw [lv_snd]) (fun j hj => by omega)

/-! ## The steps of the protocol -/

/-- Core `c` owes `O`, whatever it has waited on. -/
def owe (c : Dev nD) (O : CellTallies nD τ sig Unit) : sProp 𝕄 := iprop(∃ W, owes (c : Thread nD τ) O W)

/-- Every cell's invariant, and that every barrier's first round is reached. -/
def recs (K : GSem nD τ sig → ℕ) : sProp 𝕄 :=
  iprop((bigSep Finset.univ fun p : Dev nD × Option (Bool × Fin 7) => cellInv ER (rd J) (K (cellAt p)) (cellAt p))
    ∗ bigSep Finset.univ fun c : Dev nD => reached ER (barCell c) 0)
instance recs_persistent (K) : BI.Persistent (recs J K) := by unfold recs; infer_instance

/-- The records hold every cell's invariant. -/
theorem recs_inv (K : GSem nD τ sig → ℕ) (c : Dev nD) (k) : recs J K ⊢ cellInv ER (rd J) (K ((c : Thread nD τ), ksem k)) ((c : Thread nD τ), ksem k) := by
  have h : (bigSep Finset.univ fun p : Dev nD × Option (Bool × Fin 7) => (cellInv ER (rd J) (K (cellAt p)) (cellAt p) : sProp 𝕄))
      ⊢ cellInv ER (rd J) (K ((c : Thread nD τ), ksem k)) ((c : Thread nD τ), ksem k) := bigSep_elim (Finset.mem_univ ((c, k) : Dev nD × Option (Bool × Fin 7)))
  unfold recs
  iintro ⟨#H, -⟩
  iapply h; iexact H
/-- The records hold a barrier's invariant. -/
theorem recs_bar (K : GSem nD τ sig → ℕ) (c : Dev nD) : recs J K ⊢ cellInv ER (rd J) (K (barCell c)) (barCell c) := recs_inv J K c none
/-- The records hold a departure's invariant. -/
theorem recs_snd (K : GSem nD τ sig → ℕ) (c : Dev nD) (i) : recs J K ⊢ cellInv ER (rd J) (K (sndCell i c)) (sndCell i c) := recs_inv J K c (some (false, i))
/-- The records hold an arrival's invariant. -/
theorem recs_rcv (K : GSem nD τ sig → ℕ) (c : Dev nD) (i) : recs J K ⊢ cellInv ER (rd J) (K (rcvCell i c)) (rcvCell i c) := recs_inv J K c (some (true, i))
/-- The records hold that a barrier's first round is reached. -/
theorem recs_at (K : GSem nD τ sig → ℕ) (c : Dev nD) : recs J K ⊢ (reached ER (barCell c) 0 : sProp 𝕄) := by
  have h : (bigSep Finset.univ fun c : Dev nD => (reached ER (barCell c) 0 : sProp 𝕄)) ⊢ reached ER (barCell c) 0 := bigSep_elim (Finset.mem_univ c)
  unfold recs
  iintro ⟨-, #H⟩
  iapply h; iexact H

/-- The tokens core `c` pays transfer `i`'s two credits with. -/
def toks (c : Dev nD) (i : Fin 7) : sProp 𝕄 := iprop(dutyTok ER (sndCell i c) 0 true ∗ dutyTok ER (rcvCell i (dst i c)) 0 true)

/-- A check that holds is passed. -/
theorem checked_eq {C : BitVec 32 → Prop} {dec} {lt} {w : BitVec 32} (h : C w) {c : Dev nD} {k : w.toNat < 8 → PK F PUnit} {Q : PUnit → sProp 𝕄} :
    (WP c (k (lt w h)) Q : sProp 𝕄) ⊢ WP c (checked C dec lt w k) Q := by
  exact Entails.of_eq (wp_assume_of (defs := defs₀ (F := F)) (P := C w) (d := dec w) (k := fun h' => k (lt w h'.down)) 𝒱₀ (c : Thread nD τ) none Set.univ h).symm

/-- Starting transfer `i`: the core gives the share it reads the block at and what it needs at the far end, and owes one arrival less. -/
theorem wp_send (K : GSem nD τ sig → ℕ) (c : Dev nD) (i : Fin 7) {α : Type} (w hw o ho) (sS sR) (eS : sS = sndS i) (eR : sR = rcvS i) (ew : peer w hw = dst i c) (eo : dv o ho = blk i c) (k : PUnit → PK F α) (Q : α → sProp 𝕄) :
    iprop(recs J K ∗ slotPt J c (blk i c) (sh i) ∗ land c i ∗ reached ER (sndCell i c) 0 ∗ toks c i ∗ owe c (rem c (7 - i.val)))
      ⊢ iprop((cred (tallyAt (sndCell i c) () N) ∗ owe c (rem c (6 - i.val)) -∗ WP c (k ⟨⟩) Q) -∗ WP c (send w hw o ho sS sR >>= k) Q) := by
  subst eS eR
  unfold land slotAny toks owe
  iintro ⟨#HR, Hs, ⟨⟨%fn, Hd⟩, #Hr⟩, #Hrs, ⟨HtS, HtR⟩, ⟨%W, HO⟩⟩ Hk
  unfold slotPt
  rw [← eo, ← slot_set]
  have hp : ((slot o ho).view.loc (peer w hw).tc ↦[(slot o ho).view.set]{fullShare} (slot o ho).view.write (Elt F) fn ((slot o ho).view.read (Elt F) (AllX J.X)) Finset.univ : sProp 𝕄)
      ⊢ (rd J).payload (rcvCell i (peer w hw)) 0 true := by
    rw [payload_rcv, ew, arr_dst, ← eo]
    unfold slotPt
    rw [← slot_set]
    refine Entails.of_eq (pointsTo_congr fun x hx => ?_)
    exact write_slot o ho fn (AllX J.X) x (by rwa [slot_set] at hx)
  rw [← ew]
  iapply (Rounds.wp_send_pointsTo (defs := defs₀ (F := F)) 𝒱₀ ER (rd J) (c : Thread nD τ) none (c' := (peer w hw : Thread nD τ)) (src := slot o ho) (dst := slot o ho)
      (sS := .dma (sndS i)) (sem := .dma (rcvS i)) (q := sh i) (fs := AllX J.X) (κ₁ := K (sndCell i c)) (κ₂ := K (rcvCell i (peer w hw)))
      (r₁ := 0) (r₂ := 0) (d₁ := true) (d₂ := true) (fd := fn)
      (by rw [duties_snd]; exact Finset.mem_singleton_self _) (by rw [duties_rcv]; exact Finset.mem_singleton_self _)
      () () N rfl (amount_dma J c _ true) (amount_dma J (peer w hw) _ true) (rem c (6 - i.val)) ((rem_step c i).trans (congrArg (fun d => rem c (6 - i.val) + tallyAt (rcvCell i d) () N) ew.symm)) (W := W)
      (by rw [payload_snd]; unfold slotPt; rw [← eo, ← slot_set]) hp) $$ [Hs Hd HO HtS HtR]
  · isplitr; · iapply (recs_snd J K c i); iexact HR
    isplitr; · iapply (recs_rcv J K (peer w hw) i); iexact HR
    isplitl [Hs]; · iexact Hs
    isplitl [Hd]; · iexact Hd
    isplitl [HO]; · iexact HO
    isplitl [HtS]; · iexact HtS
    isplitr; · iexact Hrs
    isplitl [HtR]; · iexact HtR
    iexact Hr
  iintro ⟨HcS, HO⟩
  iapply Hk
  isplitl [HcS]; · iexact HcS
  iexists W; iexact HO

/-- Waiting for departure `i` gives the share of the block back. -/
theorem wp_waitSnd (K : GSem nD τ sig → ℕ) (c : Dev nD) (i : Fin 7) (n : ℕ) {α : Type} (o ho) (sS) (eS : sS = sndS i) (k : PUnit → PK F α) (Q : α → sProp 𝕄) :
    iprop(recs J K ∗ levAts L lv ∗ cred (tallyAt (sndCell i c) () N) ∗ owe c (rem c n) ∗ atPos ER (sndCell i c) 0 ∅ 0)
      ⊢ iprop((slotPt J c (blk i c) (sh i) ∗ owe c (rem c n) ∗ atPos ER (sndCell i c) 1 ∅ 0 -∗ WP c (k ⟨⟩) Q) -∗ WP c (waitCopy sS o ho >>= k) Q) := by
  subst eS
  unfold owe
  iintro ⟨#HR, #Hlev, Hc, ⟨%W, HO⟩, Hat⟩ Hk
  iapply (Rounds.wp_wait_rest_token (defs := defs₀ (F := F)) 𝒱₀ ER (rd J) (c : Thread nD τ) none (κ := K (sndCell i c))
      (wpE_waitDma2_eq (src := slot o ho) (dst := slot o ho) 𝒱₀ (c : Thread nD τ) none Set.univ) (Set.mem_univ _) () (O := rem c n) (W := W) (R := 0) (m := 0) (T := ∅)
      ((Nat.zero_add _).trans (expect_snd J c i).symm)) $$ [Hc HO Hat]
  · isplitr; · iapply (recs_snd J K c i); iexact HR
    isplitl [Hc]; · iexact Hc
    isplitl [HO]; · iexact HO
    isplitr; · iapply (mayWait_snd c i n); iexact Hlev
    iexact Hat
  iintro ⟨HO, Hat, -, Hpay⟩
  ihave Hs := (Entails.of_eq (rest_snd J c i)) $$ Hpay
  iapply Hk
  isplitl [Hs]; · iexact Hs
  isplitl [HO]; · iexists _; iexact HO
  iexact Hat

/-- Waiting for arrival `i` gives the block that arrives. -/
theorem wp_waitRcv (K : GSem nD τ sig → ℕ) (c : Dev nD) (i : Fin 7) {α : Type} (o ho) (sR) (eR : sR = rcvS i) (k : PUnit → PK F α) (Q : α → sProp 𝕄) :
    iprop(recs J K ∗ levAts L lv ∗ cred (tallyAt (rcvCell i c) () N) ∗ owe c (rem c (5 - i.val)) ∗ atPos ER (rcvCell i c) 0 ∅ 0)
      ⊢ iprop((slotPt J c (arr i c) fullShare ∗ owe c (rem c (5 - i.val)) ∗ atPos ER (rcvCell i c) 1 ∅ 0 -∗ WP c (k ⟨⟩) Q) -∗ WP c (waitCopy sR o ho >>= k) Q) := by
  subst eR
  unfold owe
  iintro ⟨#HR, #Hlev, Hc, ⟨%W, HO⟩, Hat⟩ Hk
  iapply (Rounds.wp_wait_rest_token (defs := defs₀ (F := F)) 𝒱₀ ER (rd J) (c : Thread nD τ) none (κ := K (rcvCell i c))
      (wpE_waitDma2_eq (src := slot o ho) (dst := slot o ho) 𝒱₀ (c : Thread nD τ) none Set.univ) (Set.mem_univ _) () (O := rem c (5 - i.val)) (W := W) (R := 0) (m := 0) (T := ∅)
      ((Nat.zero_add _).trans (expect_rcv J c i).symm)) $$ [Hc HO Hat]
  · isplitr; · iapply (recs_rcv J K c i); iexact HR
    isplitl [Hc]; · iexact Hc
    isplitl [HO]; · iexact HO
    isplitr; · iapply (mayWait_rcv c i); iexact Hlev
    iexact Hat
  iintro ⟨HO, Hat, -, Hpay⟩
  ihave Hs := (Entails.of_eq (rest_rcv J c i)) $$ Hpay
  iapply Hk
  isplitl [Hs]; · iexact Hs
  isplitl [HO]; · iexists _; iexact HO
  iexact Hat

/-- The seven transfers are those of one direction and those of the other. -/
theorem way_split (Φ : Fin 7 → sProp 𝕄) : bigSep Finset.univ Φ = iprop(bigSep (way false) Φ ∗ bigSep (way true) Φ) := by
  have h : (Finset.univ : Finset (Fin 7)) = way false ∪ way true := by decide
  rw [h, BI.bigSep_union (by decide)]
  rfl

/-- What is given in one direction is what the neighbour's barrier is paid. -/
theorem way_give (c : Dev nD) (d : Bool) : (bigSep (way d) fun i => (give c i : sProp 𝕄)) = barPay (if d then prv c else nxt c) d := by
  unfold barPay
  refine bigSep_congr fun i hi => ?_
  rw [give_eq]
  have := (Finset.mem_filter.mp hi).2
  subst this
  rfl

/-- What a core meets its neighbours with, and its tokens there. -/
def meetPts (c : Dev nD) : sProp 𝕄 :=
  iprop((bigSep Finset.univ fun i => give c i) ∗ dutyTok ER (barCell (prv c)) 0 true ∗ dutyTok ER (barCell (nxt c)) 0 false
    ∗ cred (tallyAt (barCell c) () 2) ∗ atPos ER (barCell c) 0 ∅ 0)

/-- The meeting: a signal to each neighbour, then the wait for two, which gives what each transfer needs at the far end. -/
theorem wp_meet (K : GSem nD τ sig → ℕ) (c : Dev nD) {α : Type} (l r hl hr) (el : peer l hl = prv c) (er : peer r hr = nxt c) (k : PUnit → PK F α) (Q : α → sProp 𝕄) :
    iprop(recs J K ∗ levAts L lv ∗ meetPts c ∗ owe c (O₀ c))
      ⊢ iprop(((bigSep Finset.univ fun i => land c i) ∗ owe c (rem c 7) ∗ atPos ER (barCell c) 1 ∅ 0 -∗ WP c (k ⟨⟩) Q) -∗ WP c (meet l r hl hr >>= k) Q) := by
  unfold meetPts owe
  rw [way_split, way_split, way_give, way_give]
  iintro ⟨#HR, #Hlev, ⟨⟨Hg0, Hg1⟩, Ht1, Ht0, Hc, Hat⟩, ⟨%W, HO⟩⟩ Hk
  simp only [meet, el, er, semSignalWord, semWaitWord, Prog.lift, Prog.bind_op, Prog.bind_ret, Prog.pure_eq_ret, Prog.bind_assoc]
  iapply (Rounds.wp_signal (defs := defs₀ (F := F)) 𝒱₀ ER (rd J) (c : Thread nD τ) none (dst := (prv c : Thread nD τ)) (sem := barSem) (r := 0) (d := true) (κ := K (barCell (prv c)))
      (by rw [duties_bar]; exact Finset.mem_univ _) (amount_bar J (prv c) true) () (O₁ c) rfl) $$ [HO Ht1 Hg1]
  · isplitr; · iapply (recs_bar J K (prv c)); iexact HR
    isplitl [HO]; · iexact HO
    isplitl [Ht1]; · iexact Ht1
    isplitl [Hg1]; · rw [payload_bar]; iexact Hg1
    iapply (recs_at J K (prv c)); iexact HR
  iintro HO
  iapply (Rounds.wp_signal (defs := defs₀ (F := F)) 𝒱₀ ER (rd J) (c : Thread nD τ) none (dst := (nxt c : Thread nD τ)) (sem := barSem) (r := 0) (d := false) (κ := K (barCell (nxt c)))
      (by rw [duties_bar]; exact Finset.mem_univ _) (amount_bar J (nxt c) false) () (rem c 7) rfl) $$ [HO Ht0 Hg0]
  · isplitr; · iapply (recs_bar J K (nxt c)); iexact HR
    isplitl [HO]; · iexact HO
    isplitl [Ht0]; · iexact Ht0
    isplitl [Hg0]; · rw [payload_bar]; iexact Hg0
    iapply (recs_at J K (nxt c)); iexact HR
  iintro HO
  iapply (Rounds.wp_wait_rest_token (defs := defs₀ (F := F)) 𝒱₀ ER (rd J) (c : Thread nD τ) none (κ := K (barCell c))
      (wpE_semWait_eq 𝒱₀ (c : Thread nD τ) none Set.univ) (Set.mem_univ _) () (O := rem c 7) (W := W) (R := 0) (m := 0) (T := ∅)
      ((Nat.zero_add 2).trans (expect_bar J c).symm)) $$ [Hc HO Hat]
  · isplitr; · iapply (recs_bar J K c); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar J c)) $$ Hpay
  iapply Hk
  isplitl [Hp]; · unfold barPay; iexact Hp
  isplitl [HO]; · iexists _; iexact HO
  iexact Hat

end Cert.KernelIdeal.Clean

end
-- ==== Proof.Run.lean ====
/-
  One core's run of the body: from its buffers, its ghost state and what it owes, to the output's value.
-/
module

public import proofs.«01_k».proof.Proof.Protocol

@[expose] public section

set_option maxRecDepth 16384

noncomputable section

namespace Cert.KernelIdeal.Clean

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (J : Ins F)

/-! ## The value -/

/-- Two slots' tables. -/
def tbl {α : Type} (v w : Fin 2 → Fin 8 → α) : Fin 8 → Fin 2 → Fin 2 → α := fun h b j => if j = 0 then v b h else w b h

/-- Both slots replaced, whatever was there. -/
theorem setSlot_both {α : Type} (A : Fin 8 → Fin 2 → Fin 2 → α) (v w : Fin 2 → Fin 8 → α) : setSlot (setSlot A 0 v) 1 w = tbl v w := by
  funext h b j
  fin_cases j <;> rfl

/-- The sums of weights after the own block; pairs of blocks follow, and last the one block left. -/
def l0 (c : Dev nD) : Fin 2 → Fin 8 → Vec F S1x1x512x1 .f32 := passL1 (Qst J c) (tbl (Kst J c) (Kst J c)) zeroL
/-- The weighted values after the own block. -/
def a0 (c : Dev nD) : Fin 2 → Fin 8 → Vec F S1x1x512x128 .f32 := passA1 (Qst J c) (tbl (Kst J c) (Kst J c)) (tbl (Vst J c) (Vst J c)) zeroA
/-- The sums of weights after the first pair. -/
def l1 (c : Dev nD) : Fin 2 → Fin 8 → Vec F S1x1x512x1 .f32 := passL2 (Qst J c) (tbl (Kst J (arr 0 c)) (Kst J (arr 1 c))) (l0 J c)
/-- The weighted values after the first pair. -/
def a1 (c : Dev nD) : Fin 2 → Fin 8 → Vec F S1x1x512x128 .f32 := passA2 (Qst J c) (tbl (Kst J (arr 0 c)) (Kst J (arr 1 c))) (tbl (Vst J (arr 0 c)) (Vst J (arr 1 c))) (a0 J c)
/-- The sums of weights after the second pair. -/
def l2 (c : Dev nD) : Fin 2 → Fin 8 → Vec F S1x1x512x1 .f32 := passL2 (Qst J c) (tbl (Kst J (arr 2 c)) (Kst J (arr 3 c))) (l1 J c)
/-- The weighted values after the second pair. -/
def a2 (c : Dev nD) : Fin 2 → Fin 8 → Vec F S1x1x512x128 .f32 := passA2 (Qst J c) (tbl (Kst J (arr 2 c)) (Kst J (arr 3 c))) (tbl (Vst J (arr 2 c)) (Vst J (arr 3 c))) (a1 J c)
/-- The sums of weights after the third pair. -/
def l3 (c : Dev nD) : Fin 2 → Fin 8 → Vec F S1x1x512x1 .f32 := passL2 (Qst J c) (tbl (Kst J (arr 4 c)) (Kst J (arr 5 c))) (l2 J c)
/-- The weighted values after the third pair. -/
def a3 (c : Dev nD) : Fin 2 → Fin 8 → Vec F S1x1x512x128 .f32 := passA2 (Qst J c) (tbl (Kst J (arr 4 c)) (Kst J (arr 5 c))) (tbl (Vst J (arr 4 c)) (Vst J (arr 5 c))) (a2 J c)
/-- The sums of weights after the last block. -/
def l4 (c : Dev nD) : Fin 2 → Fin 8 → Vec F S1x1x512x1 .f32 := passL1 (Qst J c) (tbl (Kst J (arr 6 c)) (Kst J (arr 6 c))) (l3 J c)
/-- The weighted values after the last block. -/
def a4 (c : Dev nD) : Fin 2 → Fin 8 → Vec F S1x1x512x128 .f32 := passA1 (Qst J c) (tbl (Kst J (arr 6 c)) (Kst J (arr 6 c))) (tbl (Vst J (arr 6 c)) (Vst J (arr 6 c))) (a3 J c)

/-- What core `c` writes. -/
def outOf (c : Dev nD) : Vec F S2x512x1024 .bf16 := k0_pay1 (k0_pay702 (ctxOf (l4 J c) (a4 J c)) J.Wo)

/-! ## Checks -/

/-- Every check holds of every word that names a device. -/
theorem chk_all : ∀ s : Fin 8, k0_chk1 (wd s) ∧ k0_chk2 (wd s) ∧ k0_chk3 (wd s) ∧ k0_chk4 (wd s) ∧ k0_chk5 (wd s) ∧ k0_chk6 (wd s) ∧ k0_chk7 (wd s) ∧ k0_chk8 (wd s)
    ∧ k0_chk9 (wd s) ∧ k0_chk10 (wd s) ∧ k0_chk11 (wd s) ∧ k0_chk12 (wd s) ∧ k0_chk13 (wd s) ∧ k0_chk14 (wd s) ∧ k0_chk15 (wd s) := by decide +kernel

/-- A word of the ring's table and its check. -/
theorem wp_word (c : Dev nD) (n : Fin 10) {C : BitVec 32 → Prop} {dec} {lt} (hC : ∀ s : Dev nD, C (wd s))
    (k : (w : BitVec 32) → w.toNat < 8 → PK F PUnit) (Q : PUnit → sProp 𝕄) :
    (pt c cc0_stg0_0 fullShare ringTab : sProp 𝕄)
      ⊢ iprop((pt c cc0_stg0_0 fullShare ringTab -∗ ∀ h : (wd (ringDev c n)).toNat < 8, WP c (k (wd (ringDev c n)) h) Q)
        -∗ WP c (ringWord c n >>= fun w => checked C dec lt w (k w)) Q) := by
  iintro Ht Hk
  iapply (wp_ringWord c n fullShare _ Q) $$ Ht
  iintro Ht
  iapply (checked_eq (hC (ringDev c n)))
  iapply Hk $$ Ht

/-! ## Transfers, two waits at a time -/

/-- Where core `c` stands with its transfer `i`, not yet waited on. -/
def posn (c : Dev nD) (i : Fin 7) : sProp 𝕄 :=
  iprop(atPos ER (sndCell i c) 0 ∅ 0 ∗ atPos ER (rcvCell i c) 0 ∅ 0 ∗ cred (tallyAt (rcvCell i c) () N))
/-- The same, waited on. -/
def done (c : Dev nD) (i : Fin 7) : sProp 𝕄 := iprop(atPos ER (sndCell i c) 1 ∅ 0 ∗ atPos ER (rcvCell i c) 1 ∅ 0)
/-- What transfer `i` of core `c` starts with. -/
def xfer (c : Dev nD) (i : Fin 7) : sProp 𝕄 := iprop(land c i ∗ toks c i ∗ reached ER (sndCell i c) 0)

/-- Starting a transfer, from the resources gathered for it. -/
theorem wp_start (K : GSem nD τ sig → ℕ) (c : Dev nD) (i : Fin 7) (w hw o ho) (sS sR) (eS : sS = sndS i) (eR : sR = rcvS i)
    (ew : peer w hw = dst i c) (eo : dv o ho = blk i c) (k : PUnit → PK F PUnit) (Q : PUnit → sProp 𝕄) :
    iprop(recs J K ∗ slotPt J c (blk i c) (sh i) ∗ xfer c i ∗ owe c (rem c (7 - i.val)))
      ⊢ iprop((cred (tallyAt (sndCell i c) () N) ∗ owe c (rem c (6 - i.val)) -∗ WP c (k ⟨⟩) Q) -∗ WP c (send w hw o ho sS sR >>= k) Q) := by
  unfold xfer
  iintro ⟨#HR, Hs, ⟨Hl, Ht, #Hr⟩, HO⟩
  iapply (wp_send J K c i w hw o ho sS sR eS eR ew eo k Q)
  isplitr; · iexact HR
  isplitl [Hs]; · iexact Hs
  isplitl [Hl]; · iexact Hl
  isplitr; · iexact Hr
  isplitl [Ht]; · iexact Ht
  iexact HO

/-- The two waits of a transfer: the share back, and the block that arrives. -/
theorem wp_waits (K : GSem nD τ sig → ℕ) (c : Dev nD) (i : Fin 7) (o ho) (sS sR) (eS : sS = sndS i) (eR : sR = rcvS i) (k : PUnit → PK F PUnit) (Q : PUnit → sProp 𝕄) :
    iprop(recs J K ∗ levAts L lv ∗ cred (tallyAt (sndCell i c) () N) ∗ posn c i ∗ owe c (rem c (5 - i.val)))
      ⊢ iprop((slotPt J c (blk i c) (sh i) ∗ slotPt J c (arr i c) fullShare ∗ done c i ∗ owe c (rem c (5 - i.val)) -∗ WP c (k ⟨⟩) Q)
        -∗ WP c (waitCopy sS o ho >>= fun _ => waitCopy sR o ho >>= k) Q) := by
  unfold posn done
  iintro ⟨#HR, #Hlev, Hc, ⟨HaS, HaR, HcR⟩, HO⟩ Hk
  iapply (wp_waitSnd J K c i (5 - i.val) o ho sS eS _ Q) $$ [Hc HO HaS]
  · isplitr; · iexact HR
    isplitr; · iexact Hlev
    isplitl [Hc]; · iexact Hc
    isplitl [HO]; · iexact HO
    iexact HaS
  iintro ⟨Hs, HO, HaS⟩
  iapply (wp_waitRcv J K c i o ho sR eR k Q) $$ [HcR HO HaR]
  · isplitr; · iexact HR
    isplitr; · iexact Hlev
    isplitl [HcR]; · iexact HcR
    isplitl [HO]; · iexact HO
    iexact HaR
  iintro ⟨Ha, HO, HaR⟩
  iapply Hk
  isplitl [Hs]; · iexact Hs
  isplitl [Ha]; · iexact Ha
  isplitl [HaS HaR]; · isplitl [HaS] <;> iassumption
  iexact HO

/-- Staging a block that a word names. -/
theorem wp_stage' {α : Type} (c : Dev nD) (o ho) (s : Dev nD) (e : dv o ho = s) (j) (q) (A B) (k : PUnit → PK F α) (Q : α → sProp 𝕄) :
    iprop(slotPt J c s q ∗ inPts J c ∗ kvPts c A B)
      ⊢ iprop((slotPt J c s q ∗ inPts J c ∗ kvPts c (setSlot A j (Kst J s)) (setSlot B j (Vst J s)) -∗ WP c (k ⟨⟩) Q) -∗ WP c (stage o ho j >>= k) Q) := by
  subst e
  exact wp_stage J c o ho j q A B k Q

/-! ## Splitting the gathered input -/

/-- A product over seven is the seven. -/
theorem bigSep_fin7 (Φ : Fin 7 → sProp 𝕄) : bigSep Finset.univ Φ = iprop(Φ 0 ∗ Φ 1 ∗ Φ 2 ∗ Φ 3 ∗ Φ 4 ∗ Φ 5 ∗ Φ 6) := by
  rw [bigSep_univ_eq_bigSepL [0, 1, 2, 3, 4, 5, 6] (by decide) (by decide)]
  simp only [bigSepL_cons_cons, bigSepL_singleton]
  rfl

/-- A core's own block first, then the blocks that arrive, in order. -/
theorem bigSep_ring (c : Dev nD) (Φ : Dev nD → sProp 𝕄) : bigSep Finset.univ Φ = iprop(Φ c ∗ bigSep Finset.univ fun i : Fin 7 => Φ (arr i c)) := by
  have h : (Finset.univ : Finset (Dev nD)) = insert c (Finset.univ.map ⟨fun i : Fin 7 => arr i c, arr_inj c⟩) := by
    ext d
    simp only [Finset.mem_univ, Finset.mem_insert, Finset.mem_map, Function.Embedding.coeFn_mk, true_and, true_iff]
    exact arr_all c d
  rw [h, bigSep_insert (by
    simp only [Finset.mem_map, Function.Embedding.coeFn_mk, Finset.mem_univ, true_and, not_exists]
    exact fun i => arr_ne i c), bigSep_map]
  rfl

/-- Every element of the gathered input is of some block. -/
theorem slots_cover : (Finset.univ : Finset (Dev nD)).biUnion slotSet = Finset.univ := by
  ext i
  simp only [Finset.mem_biUnion, Finset.mem_univ, true_and, iff_true]
  exact ⟨(i 0 : Fin 8), mem_slotSet.mpr rfl⟩

/-- Different blocks have no element in common. -/
theorem slots_disj : ∀ d ∈ (Finset.univ : Finset (Dev nD)), ∀ d' ∈ (Finset.univ : Finset (Dev nD)), d ≠ d' → Disjoint (slotSet d) (slotSet d') := by
  intro d _ d' _ hne
  refine Finset.disjoint_left.mpr fun i h h' => hne ?_
  rw [mem_slotSet] at h h'
  exact Fin.ext (h.symm.trans h')

/-- The gathered input is its eight blocks. -/
theorem all_split (c : Dev nD) (f : Vec F S8x2x512x1024 .bf16) :
    (pt c cc0_scratch0 fullShare f : sProp 𝕄) = bigSep Finset.univ fun d : Dev nD => (((c : Thread nD τ).loc cc0_scratch0) ↦[slotSet d]{fullShare} f : sProp 𝕄) := by
  unfold pt
  rw [← pointsTo_biUnion _ _ slots_disj, slots_cover]

/-- A program that is done meets what an update gives. -/
theorem wp_end (c : Dev nD) (Q : PUnit → sProp 𝕄) : (iprop(|={Set.univ}=> Q ⟨⟩) : sProp 𝕄) ⊢ WP c (pure ⟨⟩) Q :=
  Entails.of_eq (wp_ret (Fr := frame) (wpE := wpE (defs₀ (F := F)) 𝒱₀ (c : Thread nD τ) none) (E := Set.univ) PUnit.unit Q).symm

/-! ## The run -/

/-- A core's scratch buffers, at contents not chosen. -/
def scr (c : Dev nD) : sProp 𝕄 :=
  iprop((∃ f, pt c cc0_scratch0 fullShare f) ∗ (∃ f, pt c cc0_scratch1 fullShare f) ∗ (∃ f, pt c cc0_scratch2 fullShare f) ∗ (∃ f, pt c cc0_scratch3 fullShare f)
    ∗ (∃ f, pt c cc0_scratch4 fullShare f) ∗ (∃ f, pt c cc0_scratch5 fullShare f) ∗ (∃ f, pt c cc0_scratch6 fullShare f))

/-- A core's ghost state with every cell of its own open. -/
def opened (K : GSem nD τ sig → ℕ) (c : Dev nD) : sProp 𝕄 :=
  iprop(recs J K ∗ (dutyTok ER (barCell (prv c)) 0 true ∗ dutyTok ER (barCell (nxt c)) 0 false ∗ cred (tallyAt (barCell c) () 2) ∗ atPos ER (barCell c) 0 ∅ 0)
    ∗ bigSep Finset.univ fun i : Fin 7 => iprop((toks c i ∗ posn c i) ∗ (reached ER (sndCell i c) 0 ∗ reached ER (rcvCell i c) 0)))

/-- A core's counters, at zero. -/
def sems (c : Dev nD) : sProp 𝕄 :=
  iprop(semVal (barCell c) 0 ∗ bigSep Finset.univ fun i : Fin 7 => iprop(semVal (sndCell i c) 0 ∗ semVal (rcvCell i c) 0))

/-- What the body starts from. -/
def bodyPre (K : GSem nD τ sig → ℕ) (c : Dev nD) : sProp 𝕄 :=
  iprop(opened J K c ∗ levAts L lv ∗ pt c cc0_stg0_0 fullShare ringTab ∗ inPts J c ∗ (∃ f, pt c cc0_stg8_0 fullShare f) ∗ scr c ∗ owe c (O₀ c))
/-- What the body ends with. -/
def bodyPost (c : Dev nD) : sProp 𝕄 :=
  iprop(sems c ∗ pt c cc0_stg0_0 fullShare ringTab ∗ inPts J c ∗ pt c cc0_stg8_0 fullShare (outOf J c) ∗ scr c ∗ owe c 0)

/-- A cell whose round is done gives its counter back, at zero. -/
theorem close (κ : ℕ) (g : GSem nD τ sig) :
    iprop(cellInv ER (rd J) κ g ∗ atPos ER g 1 ∅ 0) ⊢ (|={Set.univ}=> semVal g 0 : sProp 𝕄) :=
  Rounds.cell_close ER (rd J) (Set.mem_univ κ) id (duties_later J g)

/-- A transfer waited on gives both its counters back, at zero. -/
theorem close_done (K : GSem nD τ sig → ℕ) (c : Dev nD) (i : Fin 7) :
    iprop(recs J K ∗ done c i) ⊢ (|={Set.univ}=> (semVal (sndCell i c) 0 ∗ semVal (rcvCell i c) 0) : sProp 𝕄) := by
  unfold done
  iintro ⟨#HR, HaS, HaR⟩
  imod (close J (K (sndCell i c)) (sndCell i c)) $$ [HaS] with Hs
  · isplitr; · iapply (recs_snd J K c i); iexact HR
    iexact HaS
  imod (close J (K (rcvCell i c)) (rcvCell i c)) $$ [HaR] with Hr
  · isplitr; · iapply (recs_rcv J K c i); iexact HR
    iexact HaR
  imodintro
  isplitl [Hs] <;> iassumption

/-- A share of a block is its two halves. -/
theorem slot_halves (c d : Dev nD) (q : PosShare TreeShare) : (slotPt J c d q : sProp 𝕄) ⊣⊢ iprop(slotPt J c d q.left ∗ slotPt J c d q.right) := by
  unfold slotPt
  exact pointsTo_share (PosShare.mem_left_op_right q)

/-- The start: the gathered input split by blocks, those that will arrive offered to the neighbours. -/
theorem offer (K : GSem nD τ sig → ℕ) (c : Dev nD) (f : Vec F S8x2x512x1024 .bf16) :
    iprop(pt c cc0_scratch0 fullShare f
      ∗ bigSep Finset.univ fun i : Fin 7 => iprop((toks c i ∗ posn c i) ∗ (reached ER (sndCell i c) 0 ∗ reached ER (rcvCell i c) 0)))
      ⊢ (iprop((((c : Thread nD τ).loc cc0_scratch0) ↦[slotSet c]{fullShare} f) ∗ (bigSep Finset.univ fun i : Fin 7 => give c i)
        ∗ bigSep Finset.univ fun i : Fin 7 => iprop((toks c i ∗ reached ER (sndCell i c) 0) ∗ posn c i)) : sProp 𝕄) := by
  have one (i : Fin 7) : iprop((((c : Thread nD τ).loc cc0_scratch0) ↦[slotSet (arr i c)]{fullShare} f)
        ∗ ((toks c i ∗ posn c i) ∗ (reached ER (sndCell i c) 0 ∗ reached ER (rcvCell i c) 0)))
      ⊢ (iprop(give c i ∗ ((toks c i ∗ reached ER (sndCell i c) 0) ∗ posn c i)) : sProp 𝕄) := by
    unfold give slotAny
    iintro ⟨Ha, ⟨Ht, Hp⟩, Hs, Hr⟩
    isplitl [Ha Hr]
    · isplitl [Ha]; · iexists f; iexact Ha
      iexact Hr
    isplitr [Hp]
    · isplitl [Ht] <;> iassumption
    iexact Hp
  rw [all_split, bigSep_ring c, ← bigSep_sep' Finset.univ (fun i : Fin 7 => (give c i : sProp 𝕄))]
  have all : iprop((bigSep Finset.univ fun i : Fin 7 => (((c : Thread nD τ).loc cc0_scratch0) ↦[slotSet (arr i c)]{fullShare} f))
        ∗ bigSep Finset.univ fun i : Fin 7 => iprop((toks c i ∗ posn c i) ∗ (reached ER (sndCell i c) 0 ∗ reached ER (rcvCell i c) 0)))
      ⊢ (bigSep Finset.univ fun i : Fin 7 => iprop(give c i ∗ ((toks c i ∗ reached ER (sndCell i c) 0) ∗ posn c i)) : sProp 𝕄) := by
    rw [← bigSep_sep']
    exact bigSep_mono fun i _ => one i
  iintro ⟨⟨Ho, Ha⟩, Hx⟩
  isplitl [Ho]; · iexact Ho
  iapply all
  isplitl [Ha] <;> iassumption

/-- After the meeting: what each transfer starts with. -/
theorem ready (c : Dev nD) :
    iprop((bigSep Finset.univ fun i : Fin 7 => land c i) ∗ bigSep Finset.univ fun i : Fin 7 => iprop((toks c i ∗ reached ER (sndCell i c) 0) ∗ posn c i))
      ⊢ (iprop((bigSep Finset.univ fun i : Fin 7 => xfer c i) ∗ bigSep Finset.univ fun i : Fin 7 => posn c i) : sProp 𝕄) := by
  unfold xfer
  rw [bigSep_sep', bigSep_sep' Finset.univ (fun i : Fin 7 => (land c i : sProp 𝕄))]
  iintro ⟨Hl, Hx, Hp⟩
  isplitr [Hp]
  · isplitl [Hl] <;> iassumption
  iexact Hp

/-- The end: every transfer's counters back, at zero. -/
theorem close_all (K : GSem nD τ sig → ℕ) (c : Dev nD) :
    iprop(recs J K ∗ atPos ER (barCell c) 1 ∅ 0 ∗ done c 0 ∗ done c 1 ∗ done c 2 ∗ done c 3 ∗ done c 4 ∗ done c 5 ∗ done c 6) ⊢ (|={Set.univ}=> sems c : sProp 𝕄) := by
  unfold sems
  rw [bigSep_fin7]
  iintro ⟨#HR, Hb, H0, H1, H2, H3, H4, H5, H6⟩
  imod (close J (K (barCell c)) (barCell c)) $$ [Hb] with Hb
  · isplitr; · iapply (recs_bar J K c); iexact HR
    iexact Hb
  have cl (i : Fin 7) := close_done J K c i
  imod (cl 0) $$ [H0] with H0; · isplitr; · iexact HR
                                 iexact H0
  imod (cl 1) $$ [H1] with H1; · isplitr; · iexact HR
                                 iexact H1
  imod (cl 2) $$ [H2] with H2; · isplitr; · iexact HR
                                 iexact H2
  imod (cl 3) $$ [H3] with H3; · isplitr; · iexact HR
                                 iexact H3
  imod (cl 4) $$ [H4] with H4; · isplitr; · iexact HR
                                 iexact H4
  imod (cl 5) $$ [H5] with H5; · isplitr; · iexact HR
                                 iexact H5
  imod (cl 6) $$ [H6] with H6; · isplitr; · iexact HR
                                 iexact H6
  imodintro
  iframe

/-- Every block in place is the gathered input, whole. -/
theorem gathered (c : Dev nD) :
    iprop(slotPt J c c fullShare ∗ slotPt J c (arr 0 c) fullShare ∗ slotPt J c (arr 1 c) fullShare ∗ slotPt J c (arr 2 c) fullShare ∗ slotPt J c (arr 3 c) fullShare
      ∗ slotPt J c (arr 4 c) fullShare ∗ slotPt J c (arr 5 c) fullShare ∗ slotPt J c (arr 6 c) fullShare) ⊢ (pt c cc0_scratch0 fullShare (AllX J.X) : sProp 𝕄) := by
  rw [all_split, bigSep_ring c, bigSep_fin7]
  exact .rfl

/-- The product with the output's weights, stored last. -/
theorem wp_outputEnd (c : Dev nD) (C : Vec F S1024x1024 .bf16) (r : Vec F S2x512x1024 .bf16) (Q : PUnit → sProp 𝕄) :
    iprop(inPts J c ∗ pt c cc0_scratch6 fullShare C ∗ pt c cc0_stg8_0 fullShare r)
      ⊢ iprop((inPts J c ∗ pt c cc0_scratch6 fullShare C ∗ pt c cc0_stg8_0 fullShare (k0_pay1 (k0_pay702 C J.Wo)) -∗ |={Set.univ}=> Q ⟨⟩) -∗ WP c output Q) := by
  have h := wp_output J c C r (fun _ => (pure ⟨⟩ : PK F PUnit)) Q
  rw [bind_pure] at h
  iintro H Hk
  iapply h $$ H
  iintro H
  iapply (wp_end c Q)
  iapply Hk $$ H

set_option maxHeartbeats 2000000 in
/-- The body runs from what it starts from to what it ends with, the result's buffer holding what the core writes. -/
theorem bodyRun (K : GSem nD τ sig → ℕ) (c : Dev nD) (Q : PUnit → sProp 𝕄) :
    iprop(bodyPre J K c ∗ (bodyPost J c -∗ Q ⟨⟩)) ⊢ WP c body Q := by
  unfold bodyPre opened scr
  iintro ⟨⟨⟨#HR, ⟨Htp, Htn, HcB, HaB⟩, Hx⟩, #Hlev, Ht, Hin, ⟨%r0, Ho⟩, ⟨⟨%x0, Hall⟩, ⟨%q0, Hq⟩, ⟨%k0, Hkk⟩, ⟨%v0, Hvv⟩, ⟨%l0', Hl⟩, ⟨%a0', Ha⟩, ⟨%c0, Hc⟩⟩, HO⟩, Hk⟩
  obtain ⟨C0, rfl⟩ := exists_Qof q0
  obtain ⟨A0, rfl⟩ := exists_Kof k0
  obtain ⟨B0, rfl⟩ := exists_Kof v0
  obtain ⟨X0, rfl⟩ := exists_Cof c0
  ihave H := (offer K c x0) $$ [Hall Hx]
  · isplitl [Hall]; · iexact Hall
    iexact Hx
  icases H with ⟨Hown, Hgive, Hx⟩
  unfold body
  simp only [Prog.lift, Prog.bind_op, Prog.bind_ret, wp_deviceId]
  iapply (wp_word c 0 (fun s => (chk_all s).2.1) _ _) $$ Ht
  iintro Ht %hr
  iapply (wp_word c 1 (fun s => (chk_all s).1) _ _) $$ Ht
  iintro Ht %hl
  iapply (wp_meet J K c _ _ hl hr (peer_wd _ _) (peer_wd _ _) _ _) $$ [Htp Htn HcB HaB Hgive HO]
  · isplitr; · iexact HR
    isplitr; · iexact Hlev
    isplitr [HO]
    · unfold meetPts
      isplitl [Hgive]; · iexact Hgive
      isplitl [Htp]; · iexact Htp
      isplitl [Htn]; · iexact Htn
      isplitl [HcB] <;> iassumption
    iexact HO
  iintro ⟨Hland, HO, HaB⟩
  ihave H := (ready (F := F) c) $$ [Hland Hx]
  · isplitl [Hland]; · iexact Hland
    iexact Hx
  rw [bigSep_fin7, bigSep_fin7]
  icases H with ⟨⟨Hx0, Hx1, Hx2, Hx3, Hx4, Hx5, Hx6⟩, ⟨Hp0, Hp1, Hp2, Hp3, Hp4, Hp5, Hp6⟩⟩
  iapply (wp_word c 2 (fun s => (chk_all s).2.2.1) _ _) $$ Ht
  iintro Ht %hme
  iapply (wp_ownBlock J c _ hme (dv_wd _ _) x0 _ _) $$ [Hin Hown]
  · isplitl [Hin]; · iexact Hin
    iexact Hown
  iintro ⟨Hin, HS⟩
  ihave H := (slot_halves J c (c) fullShare).1 $$ HS
  icases H with ⟨Hc0, HS⟩
  ihave H := (slot_halves J c (c) fullShare.right).1 $$ HS
  icases H with ⟨Hc1, Hc2⟩
  iapply (wp_start J K c 0 _ _ _ _ _ _ rfl rfl (peer_wd _ _) (dv_wd _ _) _ _) $$ [Hc0 Hx0 HO]
  · isplitr; · iexact HR
    isplitl [Hc0]; · iexact Hc0
    isplitl [Hx0]; · iexact Hx0
    iexact HO
  iintro ⟨Hs0, HO⟩
  iapply (wp_start J K c 1 _ _ _ _ _ _ rfl rfl (peer_wd _ _) (dv_wd _ _) _ _) $$ [Hc1 Hx1 HO]
  · isplitr; · iexact HR
    isplitl [Hc1]; · iexact Hc1
    isplitl [Hx1]; · iexact Hx1
    iexact HO
  iintro ⟨Hs1, HO⟩
  iapply (wp_allQueries J c _ hme (dv_wd _ _) C0 _ _) $$ [Hin Hq]
  · isplitl [Hin]; · iexact Hin
    iexact Hq
  iintro ⟨Hin, Hq⟩
  iapply (wp_zeros c l0' a0' _ _) $$ [Hl Ha]
  · isplitl [Hl]; · iexact Hl
    iexact Ha
  iintro Hla
  ihave HKV := (show iprop(pt c cc0_scratch2 fullShare (Kof A0) ∗ pt c cc0_scratch3 fullShare (Kof B0)) ⊢ (kvPts c A0 B0 : sProp 𝕄) from .rfl) $$ [Hkk Hvv]
  · isplitl [Hkk]; · iexact Hkk
    iexact Hvv
  iapply (wp_stage' J c _ _ (c) (dv_wd _ _) 0 (fullShare.right).right _ _ _ _) $$ [Hc2 Hin HKV]
  · isplitl [Hc2]; · iexact Hc2
    isplitl [Hin] <;> iassumption
  iintro ⟨Hc2, Hin, HKV⟩
  iapply (wp_attn1 c _ _ _ _ _ _ _) $$ [Hq HKV Hla]
  · unfold passPts
    isplitl [Hq]; · iexact Hq
    isplitl [HKV] <;> iassumption
  unfold passPts
  iintro ⟨Hq, HKV, Hla⟩
  rw [show passL1 (Qst J c) (setSlot A0 0 (Kst J c)) zeroL = l0 J c from rfl, show passA1 (Qst J c) (setSlot A0 0 (Kst J c)) (setSlot B0 0 (Vst J c)) zeroA = a0 J c from rfl]
  iapply (wp_waits J K c 0 _ _ _ _ rfl rfl _ _) $$ [Hs0 Hp0 HO]
  · isplitr; · iexact HR
    isplitr; · iexact Hlev
    isplitl [Hs0]; · iexact Hs0
    isplitl [Hp0]; · iexact Hp0
    iexact HO
  iintro ⟨Hc0, Hr0, Hp0, HO⟩
  iapply (wp_word c 3 (fun s => (chk_all s).2.2.2.1) _ _) $$ Ht
  iintro Ht %hp1
  ihave H := (slot_halves J c (arr 0 c) fullShare).1 $$ Hr0
  icases H with ⟨Hr0a, Hr0⟩
  iapply (wp_start J K c 2 _ _ _ _ _ _ rfl rfl (peer_wd _ _) (dv_wd _ _) _ _) $$ [Hr0a Hx2 HO]
  · isplitr; · iexact HR
    isplitl [Hr0a]; · iexact Hr0a
    isplitl [Hx2]; · iexact Hx2
    iexact HO
  iintro ⟨Hs2, HO⟩
  iapply (wp_waits J K c 1 _ _ _ _ rfl rfl _ _) $$ [Hs1 Hp1 HO]
  · isplitr; · iexact HR
    isplitr; · iexact Hlev
    isplitl [Hs1]; · iexact Hs1
    isplitl [Hp1]; · iexact Hp1
    iexact HO
  iintro ⟨Hc1, Hr1, Hp1, HO⟩
  ihave HS := (slot_halves J c (c) fullShare.right).2 $$ [Hc1 Hc2]
  · isplitl [Hc1]; · iexact Hc1
    iexact Hc2
  ihave HS := (slot_halves J c (c) fullShare).2 $$ [Hc0 HS]
  · isplitl [Hc0]; · iexact Hc0
    iexact HS
  iapply (wp_word c 7 (fun s => (chk_all s).2.2.2.2.1) _ _) $$ Ht
  iintro Ht %hn1
  ihave H := (slot_halves J c (arr 1 c) fullShare).1 $$ Hr1
  icases H with ⟨Hr1a, Hr1⟩
  iapply (wp_start J K c 3 _ _ _ _ _ _ rfl rfl (peer_wd _ _) (dv_wd _ _) _ _) $$ [Hr1a Hx3 HO]
  · isplitr; · iexact HR
    isplitl [Hr1a]; · iexact Hr1a
    isplitl [Hx3]; · iexact Hx3
    iexact HO
  iintro ⟨Hs3, HO⟩
  iapply (wp_word c 3 (fun s => (chk_all s).2.2.2.2.2.1) _ _) $$ Ht
  iintro Ht %hs6
  iapply (wp_stage' J c _ _ (arr 0 c) (dv_wd _ _) 0 fullShare.right _ _ _ _) $$ [Hr0 Hin HKV]
  · isplitl [Hr0]; · iexact Hr0
    isplitl [Hin] <;> iassumption
  iintro ⟨Hr0, Hin, HKV⟩
  iapply (wp_word c 7 (fun s => (chk_all s).2.2.2.2.2.2.1) _ _) $$ Ht
  iintro Ht %hs7
  iapply (wp_stage' J c _ _ (arr 1 c) (dv_wd _ _) 1 fullShare.right _ _ _ _) $$ [Hr1 Hin HKV]
  · isplitl [Hr1]; · iexact Hr1
    isplitl [Hin] <;> iassumption
  iintro ⟨Hr1, Hin, HKV⟩
  iapply (wp_attn2 c _ _ _ _ _ _ _) $$ [Hq HKV Hla]
  · unfold passPts
    isplitl [Hq]; · iexact Hq
    isplitl [HKV] <;> iassumption
  unfold passPts
  iintro ⟨Hq, HKV, Hla⟩
  rw [setSlot_both, setSlot_both]
  rw [show passL2 (Qst J c) (tbl (Kst J (arr 0 c)) (Kst J (arr 1 c))) (l0 J c) = l1 J c from rfl, show passA2 (Qst J c) (tbl (Kst J (arr 0 c)) (Kst J (arr 1 c))) (tbl (Vst J (arr 0 c)) (Vst J (arr 1 c))) (a0 J c) = a1 J c from rfl]
  iapply (wp_waits J K c 2 _ _ _ _ rfl rfl _ _) $$ [Hs2 Hp2 HO]
  · isplitr; · iexact HR
    isplitr; · iexact Hlev
    isplitl [Hs2]; · iexact Hs2
    isplitl [Hp2]; · iexact Hp2
    iexact HO
  iintro ⟨Hr0a, Hr2, Hp2, HO⟩
  ihave Hr0 := (slot_halves J c (arr 0 c) fullShare).2 $$ [Hr0a Hr0]
  · isplitl [Hr0a]; · iexact Hr0a
    iexact Hr0
  iapply (wp_word c 4 (fun s => (chk_all s).2.2.2.2.2.2.2.1) _ _) $$ Ht
  iintro Ht %hp2
  ihave H := (slot_halves J c (arr 2 c) fullShare).1 $$ Hr2
  icases H with ⟨Hr2a, Hr2⟩
  iapply (wp_start J K c 4 _ _ _ _ _ _ rfl rfl (peer_wd _ _) (dv_wd _ _) _ _) $$ [Hr2a Hx4 HO]
  · isplitr; · iexact HR
    isplitl [Hr2a]; · iexact Hr2a
    isplitl [Hx4]; · iexact Hx4
    iexact HO
  iintro ⟨Hs4, HO⟩
  iapply (wp_waits J K c 3 _ _ _ _ rfl rfl _ _) $$ [Hs3 Hp3 HO]
  · isplitr; · iexact HR
    isplitr; · iexact Hlev
    isplitl [Hs3]; · iexact Hs3
    isplitl [Hp3]; · iexact Hp3
    iexact HO
  iintro ⟨Hr1a, Hr3, Hp3, HO⟩
  ihave Hr1 := (slot_halves J c (arr 1 c) fullShare).2 $$ [Hr1a Hr1]
  · isplitl [Hr1a]; · iexact Hr1a
    iexact Hr1
  iapply (wp_word c 8 (fun s => (chk_all s).2.2.2.2.2.2.2.2.1) _ _) $$ Ht
  iintro Ht %hn2
  ihave H := (slot_halves J c (arr 3 c) fullShare).1 $$ Hr3
  icases H with ⟨Hr3a, Hr3⟩
  iapply (wp_start J K c 5 _ _ _ _ _ _ rfl rfl (peer_wd _ _) (dv_wd _ _) _ _) $$ [Hr3a Hx5 HO]
  · isplitr; · iexact HR
    isplitl [Hr3a]; · iexact Hr3a
    isplitl [Hx5]; · iexact Hx5
    iexact HO
  iintro ⟨Hs5, HO⟩
  iapply (wp_word c 4 (fun s => (chk_all s).2.2.2.2.2.2.2.2.2.1) _ _) $$ Ht
  iintro Ht %hs10
  iapply (wp_stage' J c _ _ (arr 2 c) (dv_wd _ _) 0 fullShare.right _ _ _ _) $$ [Hr2 Hin HKV]
  · isplitl [Hr2]; · iexact Hr2
    isplitl [Hin] <;> iassumption
  iintro ⟨Hr2, Hin, HKV⟩
  iapply (wp_word c 8 (fun s => (chk_all s).2.2.2.2.2.2.2.2.2.2.1) _ _) $$ Ht
  iintro Ht %hs11
  iapply (wp_stage' J c _ _ (arr 3 c) (dv_wd _ _) 1 fullShare.right _ _ _ _) $$ [Hr3 Hin HKV]
  · isplitl [Hr3]; · iexact Hr3
    isplitl [Hin] <;> iassumption
  iintro ⟨Hr3, Hin, HKV⟩
  iapply (wp_attn2 c _ _ _ _ _ _ _) $$ [Hq HKV Hla]
  · unfold passPts
    isplitl [Hq]; · iexact Hq
    isplitl [HKV] <;> iassumption
  unfold passPts
  iintro ⟨Hq, HKV, Hla⟩
  rw [setSlot_both, setSlot_both]
  rw [show passL2 (Qst J c) (tbl (Kst J (arr 2 c)) (Kst J (arr 3 c))) (l1 J c) = l2 J c from rfl, show passA2 (Qst J c) (tbl (Kst J (arr 2 c)) (Kst J (arr 3 c))) (tbl (Vst J (arr 2 c)) (Vst J (arr 3 c))) (a1 J c) = a2 J c from rfl]
  iapply (wp_waits J K c 4 _ _ _ _ rfl rfl _ _) $$ [Hs4 Hp4 HO]
  · isplitr; · iexact HR
    isplitr; · iexact Hlev
    isplitl [Hs4]; · iexact Hs4
    isplitl [Hp4]; · iexact Hp4
    iexact HO
  iintro ⟨Hr2a, Hr4, Hp4, HO⟩
  ihave Hr2 := (slot_halves J c (arr 2 c) fullShare).2 $$ [Hr2a Hr2]
  · isplitl [Hr2a]; · iexact Hr2a
    iexact Hr2
  iapply (wp_word c 5 (fun s => (chk_all s).2.2.2.2.2.2.2.2.2.2.2.1) _ _) $$ Ht
  iintro Ht %hp3
  ihave H := (slot_halves J c (arr 4 c) fullShare).1 $$ Hr4
  icases H with ⟨Hr4a, Hr4⟩
  iapply (wp_start J K c 6 _ _ _ _ _ _ rfl rfl (peer_wd _ _) (dv_wd _ _) _ _) $$ [Hr4a Hx6 HO]
  · isplitr; · iexact HR
    isplitl [Hr4a]; · iexact Hr4a
    isplitl [Hx6]; · iexact Hx6
    iexact HO
  iintro ⟨Hs6, HO⟩
  iapply (wp_waits J K c 5 _ _ _ _ rfl rfl _ _) $$ [Hs5 Hp5 HO]
  · isplitr; · iexact HR
    isplitr; · iexact Hlev
    isplitl [Hs5]; · iexact Hs5
    isplitl [Hp5]; · iexact Hp5
    iexact HO
  iintro ⟨Hr3a, Hr5, Hp5, HO⟩
  ihave Hr3 := (slot_halves J c (arr 3 c) fullShare).2 $$ [Hr3a Hr3]
  · isplitl [Hr3a]; · iexact Hr3a
    iexact Hr3
  iapply (wp_word c 5 (fun s => (chk_all s).2.2.2.2.2.2.2.2.2.2.2.2.1) _ _) $$ Ht
  iintro Ht %hs13
  iapply (wp_stage' J c _ _ (arr 4 c) (dv_wd _ _) 0 fullShare.right _ _ _ _) $$ [Hr4 Hin HKV]
  · isplitl [Hr4]; · iexact Hr4
    isplitl [Hin] <;> iassumption
  iintro ⟨Hr4, Hin, HKV⟩
  iapply (wp_word c 9 (fun s => (chk_all s).2.2.2.2.2.2.2.2.2.2.2.2.2.1) _ _) $$ Ht
  iintro Ht %hs14
  iapply (wp_stage' J c _ _ (arr 5 c) (dv_wd _ _) 1 fullShare _ _ _ _) $$ [Hr5 Hin HKV]
  · isplitl [Hr5]; · iexact Hr5
    isplitl [Hin] <;> iassumption
  iintro ⟨Hr5, Hin, HKV⟩
  iapply (wp_attn2 c _ _ _ _ _ _ _) $$ [Hq HKV Hla]
  · unfold passPts
    isplitl [Hq]; · iexact Hq
    isplitl [HKV] <;> iassumption
  unfold passPts
  iintro ⟨Hq, HKV, Hla⟩
  rw [setSlot_both, setSlot_both]
  rw [show passL2 (Qst J c) (tbl (Kst J (arr 4 c)) (Kst J (arr 5 c))) (l2 J c) = l3 J c from rfl, show passA2 (Qst J c) (tbl (Kst J (arr 4 c)) (Kst J (arr 5 c))) (tbl (Vst J (arr 4 c)) (Vst J (arr 5 c))) (a2 J c) = a3 J c from rfl]
  iapply (wp_waits J K c 6 _ _ _ _ rfl rfl _ _) $$ [Hs6 Hp6 HO]
  · isplitr; · iexact HR
    isplitr; · iexact Hlev
    isplitl [Hs6]; · iexact Hs6
    isplitl [Hp6]; · iexact Hp6
    iexact HO
  iintro ⟨Hr4a, Hr6, Hp6, HO⟩
  ihave Hr4 := (slot_halves J c (arr 4 c) fullShare).2 $$ [Hr4a Hr4]
  · isplitl [Hr4a]; · iexact Hr4a
    iexact Hr4
  iapply (wp_word c 6 (fun s => (chk_all s).2.2.2.2.2.2.2.2.2.2.2.2.2.2) _ _) $$ Ht
  iintro Ht %hs15
  iapply (wp_stage' J c _ _ (arr 6 c) (dv_wd _ _) 0 fullShare _ _ _ _) $$ [Hr6 Hin HKV]
  · isplitl [Hr6]; · iexact Hr6
    isplitl [Hin] <;> iassumption
  iintro ⟨Hr6, Hin, HKV⟩
  iapply (wp_attn1 c _ _ _ _ _ _ _) $$ [Hq HKV Hla]
  · unfold passPts
    isplitl [Hq]; · iexact Hq
    isplitl [HKV] <;> iassumption
  unfold passPts
  iintro ⟨Hq, HKV, Hla⟩
  rw [show passL1 (Qst J c) (setSlot (tbl (Kst J (arr 4 c)) (Kst J (arr 5 c))) 0 (Kst J (arr 6 c))) (l3 J c) = l4 J c from rfl, show passA1 (Qst J c) (setSlot (tbl (Kst J (arr 4 c)) (Kst J (arr 5 c))) 0 (Kst J (arr 6 c))) (setSlot (tbl (Vst J (arr 4 c)) (Vst J (arr 5 c))) 0 (Vst J (arr 6 c))) (a3 J c) = a4 J c from rfl]
  iapply (wp_quots c 0 _ _ X0 _ _) $$ [Hla Hc]
  · isplitl [Hla]; · iexact Hla
    iexact Hc
  iintro ⟨Hla, Hc⟩
  iapply (wp_quots c 1 _ _ _ _ _) $$ [Hla Hc]
  · isplitl [Hla]; · iexact Hla
    iexact Hc
  iintro ⟨Hla, Hc⟩
  rw [quots_eq]
  iapply (wp_outputEnd J c _ _ _) $$ [Hin Hc Ho]
  · isplitl [Hin]; · iexact Hin
    isplitl [Hc] <;> iassumption
  iintro ⟨Hin, Hc, Ho⟩
  imod (close_all J K c) $$ [HaB Hp0 Hp1 Hp2 Hp3 Hp4 Hp5 Hp6] with Hsems
  · isplitr; · iexact HR
    iframe
  imodintro
  ihave Hall := (gathered J c) $$ [HS Hr0 Hr1 Hr2 Hr3 Hr4 Hr5 Hr6]
  · iframe
  iapply Hk
  unfold bodyPost scr kvPts laPts
  icases HKV with ⟨Hkk, Hvv⟩
  icases Hla with ⟨Hl, Ha⟩
  isplitl [Hsems]; · iexact Hsems
  isplitl [Ht]; · iexact Ht
  isplitl [Hin]; · iexact Hin
  isplitl [Ho]; · iexact Ho
  isplitr [HO]
  · isplitl [Hall]; · iexists _; iexact Hall
    isplitl [Hq]; · iexists _; iexact Hq
    isplitl [Hkk]; · iexists _; iexact Hkk
    isplitl [Hvv]; · iexists _; iexact Hvv
    isplitl [Hl]; · iexists _; iexact Hl
    isplitl [Ha]; · iexists _; iexact Ha
    iexists _; iexact Hc
  iexact HO

end Cert.KernelIdeal.Clean

end
-- ==== Proof.Launch1.lean ====
/-
  The one region's proof data, and its record.
-/
module

public import proofs.«01_k».proof.Proof.BodyEq
public import proofs.«01_k».proof.Proof.Run
public import proofs.«01_k».proof.Proof.Gen.KernelIdeal.Frame
public import proofs.«01_k».proof.Proof.Gen.KernelIdeal.Launch
public import proofs.«01_k».proof.Proof.Gen.KernelIdeal.Points
public import Idealize.ShloMosaic.Lib.Pipeline.RegionTalk
public import Idealize.ShloMosaic.Lib.Pipeline.ValueKit.Point
public import Idealize.ShloMosaic.Lib.Tactic

@[expose] public section

set_option maxRecDepth 16384

noncomputable section

namespace Cert.KernelIdeal.Clean

open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ)

/-! ## What the region finds -/

/-- What core `c` computes from: every device's block of `x`, its own copy of the rest. -/
def Jm (c : Dev nD) : Ins F where
  X d := V m d main_arg0
  Wq := V m c main_arg1
  Wk := V m c main_arg2
  Wv := V m c main_arg3
  Wo := V m c main_arg4
  Cos := V m c main_v23
  Sin := V m c main_v27

/-- The schedule depends only on the blocks of `x`, so every core names the same one. -/
theorem rd_congr (J J' : Ins F) (h : J.X = J'.X) : rd J = rd J' := by
  rcases J with ⟨X, _, _, _, _, _, _⟩
  rcases J' with ⟨X', _, _, _, _, _, _⟩
  obtain rfl : X = X' := h
  rfl
/-- Every core names the same schedule. -/
theorem rd_Jm (c d : Dev nD) : rd (Jm m c) = rd (Jm m d) := rd_congr _ _ rfl

/-- The ring table is what the program's first operation makes. -/
theorem V_main_c (c : Dev nD) : V m c main_c = (ringTab : Vec F S8x10 .i32) := by
  show StableHlo.after hostOps0 _ (Proc.devRef .tc main_c) = _
  rw [StableHlo.after_cons, StableHlo.after_of_forall_not_mem (b := Proc.devRef .tc main_c) _ _ (List.forall_iff_forall_mem.mp (by
    simp only [List.Forall, StableHlo.nullary_writes, StableHlo.unary_writes, StableHlo.binary_writes, StableHlo.reshape_writes, Finset.mem_singleton]
    repeat' apply And.intro
    all_goals exact StableHlo.devRef_ne_of_ne (by decide))), StableHlo.nullary_result]
  exact lit0_eq

/-- Every window of the region's one point starts at zero. -/
theorem idx_zero : ∀ t : Fin cfg0.N, win0_0.index t = ![0, 0] ∧ win0_1.index t = ![0, 0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0, 0] :=
  (by decide +kernel : ∀ t : Fin grid0.N, _)

/-- The block window 0 is filled with is the whole of the ring table. -/
theorem iblk_0 (c : Dev nD) : iblk m c 0 t0_0 = V m c main_c := by blk_ext! [iblk, idx_zero t0_0]
/-- The block window 1 is filled with is the whole of the blocks of the input. -/
theorem iblk_1 (c : Dev nD) : iblk m c 1 t0_0 = V m c main_arg0 := by blk_ext! [iblk, idx_zero t0_0]
/-- The block window 2 is filled with is the whole of the queries' weights. -/
theorem iblk_2 (c : Dev nD) : iblk m c 2 t0_0 = V m c main_arg1 := by blk_ext! [iblk, idx_zero t0_0]
/-- The block window 3 is filled with is the whole of the keys' weights. -/
theorem iblk_3 (c : Dev nD) : iblk m c 3 t0_0 = V m c main_arg2 := by blk_ext! [iblk, idx_zero t0_0]
/-- The block window 4 is filled with is the whole of the values' weights. -/
theorem iblk_4 (c : Dev nD) : iblk m c 4 t0_0 = V m c main_arg3 := by blk_ext! [iblk, idx_zero t0_0]
/-- The block window 5 is filled with is the whole of the output's weights. -/
theorem iblk_5 (c : Dev nD) : iblk m c 5 t0_0 = V m c main_arg4 := by blk_ext! [iblk, idx_zero t0_0]
/-- The block window 6 is filled with is the whole of the cosines. -/
theorem iblk_6 (c : Dev nD) : iblk m c 6 t0_0 = V m c main_v23 := by blk_ext! [iblk, idx_zero t0_0]
/-- The block window 7 is filled with is the whole of the sines. -/
theorem iblk_7 (c : Dev nD) : iblk m c 7 t0_0 = V m c main_v27 := by blk_ext! [iblk, idx_zero t0_0]

/-! ## The proof data -/

/-- What enters the region's invariant: the protocol's ghost state with every cell open, and the levels. -/
def Xk (c : Dev nD) : sProp 𝕄 := iprop((∃ K, opened (Jm m c) K c) ∗ levAts L lv)

/-- The region: before its one point the core owes the arrivals and the barrier's units, after it nothing. -/
def dat (c : Dev nD) : Dat τ (Elt F) Unit ℕ UU ℕ cfg0 c where
  A w := V m c (Pipeline.arrRef spec0 w)
  after
    | 0 => iblk m c 0 | 1 => iblk m c 1 | 2 => iblk m c 2 | 3 => iblk m c 3 | 4 => iblk m c 4
    | 5 => iblk m c 5 | 6 => iblk m c 6 | 7 => iblk m c 7 | 8 => fun _ => outOf (Jm m c) c
  Φ t := if t.val = 0 then iprop(Xk m c ∗ scr c ∗ ∃ r, prngReg c r) else iprop(sems c ∗ scr c ∗ ∃ r, prngReg c r)
  q _ := fullShare
  owed t := if t.val = 0 then O₀ c else 0

/-- Before the point window 0 holds the ring table. -/
theorem before_0 (c : Dev nD) (d) : (dat m c).before 0 t0_0 d = V m c main_c :=
  (((dat m c).before_in_eq_fetched 0 rfl (fun _ => rfl) (fun _ _ _ => rfl) (fun _ => rfl) t0_0 d).trans rfl).trans (iblk_0 m c)
/-- Before the point window 1 holds the blocks of the input. -/
theorem before_1 (c : Dev nD) (d) : (dat m c).before 1 t0_0 d = V m c main_arg0 :=
  (((dat m c).before_in_eq_fetched 1 rfl (fun _ => rfl) (fun _ _ _ => rfl) (fun _ => rfl) t0_0 d).trans rfl).trans (iblk_1 m c)
/-- Before the point window 2 holds the queries' weights. -/
theorem before_2 (c : Dev nD) (d) : (dat m c).before 2 t0_0 d = V m c main_arg1 :=
  (((dat m c).before_in_eq_fetched 2 rfl (fun _ => rfl) (fun _ _ _ => rfl) (fun _ => rfl) t0_0 d).trans rfl).trans (iblk_2 m c)
/-- Before the point window 3 holds the keys' weights. -/
theorem before_3 (c : Dev nD) (d) : (dat m c).before 3 t0_0 d = V m c main_arg2 :=
  (((dat m c).before_in_eq_fetched 3 rfl (fun _ => rfl) (fun _ _ _ => rfl) (fun _ => rfl) t0_0 d).trans rfl).trans (iblk_3 m c)
/-- Before the point window 4 holds the values' weights. -/
theorem before_4 (c : Dev nD) (d) : (dat m c).before 4 t0_0 d = V m c main_arg3 :=
  (((dat m c).before_in_eq_fetched 4 rfl (fun _ => rfl) (fun _ _ _ => rfl) (fun _ => rfl) t0_0 d).trans rfl).trans (iblk_4 m c)
/-- Before the point window 5 holds the output's weights. -/
theorem before_5 (c : Dev nD) (d) : (dat m c).before 5 t0_0 d = V m c main_arg4 :=
  (((dat m c).before_in_eq_fetched 5 rfl (fun _ => rfl) (fun _ _ _ => rfl) (fun _ => rfl) t0_0 d).trans rfl).trans (iblk_5 m c)
/-- Before the point window 6 holds the cosines. -/
theorem before_6 (c : Dev nD) (d) : (dat m c).before 6 t0_0 d = V m c main_v23 :=
  (((dat m c).before_in_eq_fetched 6 rfl (fun _ => rfl) (fun _ _ _ => rfl) (fun _ => rfl) t0_0 d).trans rfl).trans (iblk_6 m c)
/-- Before the point window 7 holds the sines. -/
theorem before_7 (c : Dev nD) (d) : (dat m c).before 7 t0_0 d = V m c main_v27 :=
  (((dat m c).before_in_eq_fetched 7 rfl (fun _ => rfl) (fun _ _ _ => rfl) (fun _ => rfl) t0_0 d).trans rfl).trans (iblk_7 m c)

/-- A staging buffer at what it was found with, as its points-to. -/
theorem stage_in (c : Dev nD) (w : Fin cfg0.W) (b : Ref sig .tc) (X : (cfg0.win w).block.Idx → Elt F (cfg0.win w).elt) (P : sProp 𝕄)
    (hP : (owns (c : Thread nD τ) ((cfg0.win w).stage (cfg0.slots t0_0 w)) fullShare X : sProp 𝕄) = P)
    (h : ∀ d, (dat m c).before w t0_0 d = X) :
    iprop(∃ d, owns (c : Thread nD τ) ((cfg0.win w).stage (cfg0.slots t0_0 w)) fullShare ((dat m c).before w t0_0 d)) ⊢ P := by
  subst hP
  iintro ⟨%d, H⟩
  rw [h d]
  iexact H

/-- What a core owes, as the pipeline states it. -/
theorem owesAt_intro {cfg : Pipeline.Cfg sig Λ₀} {c : Dev nD} (dat : Dat τ (Elt F) Unit ℕ UU ℕ cfg c) (t : Fin (cfg.N + 1))
    (O : CellTallies nD τ sig Unit) (h0 : dat.owed t = O) (hr : dat.recorded t = Set.univ) :
    (owe c O : sProp 𝕄) ⊢ (dat.owesAt () t : sProp 𝕄) := by
  unfold Dat.owesAt Pipeline.owesWithin Dat.bound owe
  rw [h0, hr]
  iintro ⟨%W, HO⟩
  iexists W
  isplitr; · ipureintro; exact fun _ _ => Or.inl trivial
  iexact HO
/-- What the pipeline states a core owes, read back. -/
theorem owesAt_elim {cfg : Pipeline.Cfg sig Λ₀} {c : Dev nD} (dat : Dat τ (Elt F) Unit ℕ UU ℕ cfg c) (t : Fin (cfg.N + 1))
    (O : CellTallies nD τ sig Unit) (h0 : dat.owed t = O) : (dat.owesAt () t : sProp 𝕄) ⊢ owe c O := by
  unfold Dat.owesAt Pipeline.owesWithin owe
  rw [h0]
  iintro ⟨%W, -, HO⟩
  iexists W
  iexact HO

/-- At the point a core owes the arrivals and the barrier's units. -/
theorem owed_first (c : Dev nD) : (dat (F := F) m c).owed t0_0.castSucc = O₀ c := by
  show (if (t0_0.castSucc : Fin (cfg0.N + 1)).val = 0 then O₀ c else 0) = O₀ c; exact if_pos rfl
/-- Where the region starts a core owes the arrivals and the barrier's units. -/
theorem owed_zero (c : Dev nD) : (dat (F := F) m c).owed 0 = O₀ c := by
  show (if (0 : Fin (cfg0.N + 1)).val = 0 then O₀ c else 0) = O₀ c; exact if_pos rfl
/-- The end is not the start. -/
theorem last_ne : (Fin.last cfg0.N).val ≠ 0 := by rw [Fin.val_last, show cfg0.N = 1 from N_0]; decide
/-- Where the region ends a core owes nothing. -/
theorem owed_last (c : Dev nD) : (dat (F := F) m c).owed (Fin.last _) = 0 := by
  show (if (Fin.last cfg0.N).val = 0 then O₀ c else 0) = 0; exact if_neg last_ne
/-- The invariant where the region starts. -/
theorem Φ_first (c : Dev nD) : (dat (F := F) m c).Φ 0 = iprop(Xk m c ∗ scr c ∗ ∃ r, prngReg c r) := by
  show (if (0 : Fin (cfg0.N + 1)).val = 0 then iprop(Xk m c ∗ scr c ∗ ∃ r, prngReg c r) else iprop(sems c ∗ scr c ∗ ∃ r, prngReg c r)) = _; exact if_pos rfl
/-- The invariant where the region ends. -/
theorem Φ_last (c : Dev nD) : (dat (F := F) m c).Φ (Fin.last _) = iprop(sems c ∗ scr c ∗ ∃ r, prngReg c r) := by
  show (if (Fin.last cfg0.N).val = 0 then iprop(Xk m c ∗ scr c ∗ ∃ r, prngReg c r) else iprop(sems c ∗ scr c ∗ ∃ r, prngReg c r)) = _; exact if_neg last_ne

/-- After the point window 0 still holds the ring table. -/
theorem after_0 (c : Dev nD) : (dat m c).after 0 t0_0 = ringTab := (iblk_0 m c).trans (V_main_c m c)
/-- After the point window 1 still holds the blocks of the input. -/
theorem after_1 (c : Dev nD) : (dat m c).after 1 t0_0 = V m c main_arg0 := iblk_1 m c
/-- After the point window 2 still holds the queries' weights. -/
theorem after_2 (c : Dev nD) : (dat m c).after 2 t0_0 = V m c main_arg1 := iblk_2 m c
/-- After the point window 3 still holds the keys' weights. -/
theorem after_3 (c : Dev nD) : (dat m c).after 3 t0_0 = V m c main_arg2 := iblk_3 m c
/-- After the point window 4 still holds the values' weights. -/
theorem after_4 (c : Dev nD) : (dat m c).after 4 t0_0 = V m c main_arg3 := iblk_4 m c
/-- After the point window 5 still holds the output's weights. -/
theorem after_5 (c : Dev nD) : (dat m c).after 5 t0_0 = V m c main_arg4 := iblk_5 m c
/-- After the point window 6 still holds the cosines. -/
theorem after_6 (c : Dev nD) : (dat m c).after 6 t0_0 = V m c main_v23 := iblk_6 m c
/-- After the point window 7 still holds the sines. -/
theorem after_7 (c : Dev nD) : (dat m c).after 7 t0_0 = V m c main_v27 := iblk_7 m c

set_option maxHeartbeats 1000000 in
/-- The region's body, from what the pipeline hands it to what it takes back. -/
theorem bodyOb (c : Dev nD) : BodyObligation (dat (F := F) m c) defs₀ 𝒱₀ () Set.univ := fun t => by
  obtain rfl := fin_N0 t
  rw [bigSep_W0, bigSep_W0]
  rw [show (dat (F := F) m c).Φ t0_0.castSucc = iprop(Xk m c ∗ scr c ∗ ∃ r, prngReg c r) from Φ_first m c,
    show (dat (F := F) m c).Φ t0_0.succ = iprop(sems c ∗ scr c ∗ ∃ r, prngReg c r) from Φ_last m c]
  unfold Xk
  iintro ⟨⟨⟨⟨%K, Hg⟩, Hlev⟩, Hs, Hp⟩, HO, H0, H1, H2, H3, H4, H5, H6, H7, ⟨%d8, H8⟩⟩
  ihave HO' := (owesAt_elim (dat m c) _ (O₀ c) (owed_first m c)) $$ HO
  have e : (defs₀ (F := F) .tc cfg0.body (cfg0.bodyArgs t0_0 (cfg0.slots t0_0))) = body := cc0_body_clean
  rw [e]
  have i0 := stage_in m c 0 cc0_stg0_0 ringTab (pt c cc0_stg0_0 fullShare ringTab) (owns_whole (c : Thread nD τ) cc0_stg0_0 fullShare _) (fun d => (before_0 m c d).trans (V_main_c m c))
  have i1 := stage_in m c 1 cc0_stg1_0 (V m c main_arg0) (pt c cc0_stg1_0 fullShare (V m c main_arg0)) (owns_whole (c : Thread nD τ) cc0_stg1_0 fullShare _) (before_1 m c)
  have i2 := stage_in m c 2 cc0_stg2_0 (V m c main_arg1) (pt c cc0_stg2_0 fullShare (V m c main_arg1)) (owns_whole (c : Thread nD τ) cc0_stg2_0 fullShare _) (before_2 m c)
  have i3 := stage_in m c 3 cc0_stg3_0 (V m c main_arg2) (pt c cc0_stg3_0 fullShare (V m c main_arg2)) (owns_whole (c : Thread nD τ) cc0_stg3_0 fullShare _) (before_3 m c)
  have i4 := stage_in m c 4 cc0_stg4_0 (V m c main_arg3) (pt c cc0_stg4_0 fullShare (V m c main_arg3)) (owns_whole (c : Thread nD τ) cc0_stg4_0 fullShare _) (before_4 m c)
  have i5 := stage_in m c 5 cc0_stg5_0 (V m c main_arg4) (pt c cc0_stg5_0 fullShare (V m c main_arg4)) (owns_whole (c : Thread nD τ) cc0_stg5_0 fullShare _) (before_5 m c)
  have i6 := stage_in m c 6 cc0_stg6_0 (V m c main_v23) (pt c cc0_stg6_0 fullShare (V m c main_v23)) (owns_whole (c : Thread nD τ) cc0_stg6_0 fullShare _) (before_6 m c)
  have i7 := stage_in m c 7 cc0_stg7_0 (V m c main_v27) (pt c cc0_stg7_0 fullShare (V m c main_v27)) (owns_whole (c : Thread nD τ) cc0_stg7_0 fullShare _) (before_7 m c)
  have o0 : (pt c cc0_stg0_0 fullShare ringTab : sProp 𝕄) ⊢ owns (c : Thread nD τ) ((cfg0.win 0).stage (cfg0.slots t0_0 0)) fullShare ((dat m c).after 0 t0_0) := by
    rw [show (dat m c).after 0 t0_0 = ringTab from (after_0 m c)]
    exact Entails.of_eq (owns_whole (c : Thread nD τ) cc0_stg0_0 fullShare _).symm
  have o1 : (pt c cc0_stg1_0 fullShare (V m c main_arg0) : sProp 𝕄) ⊢ owns (c : Thread nD τ) ((cfg0.win 1).stage (cfg0.slots t0_0 1)) fullShare ((dat m c).after 1 t0_0) := by
    rw [show (dat m c).after 1 t0_0 = (V m c main_arg0) from (after_1 m c)]
    exact Entails.of_eq (owns_whole (c : Thread nD τ) cc0_stg1_0 fullShare _).symm
  have o2 : (pt c cc0_stg2_0 fullShare (V m c main_arg1) : sProp 𝕄) ⊢ owns (c : Thread nD τ) ((cfg0.win 2).stage (cfg0.slots t0_0 2)) fullShare ((dat m c).after 2 t0_0) := by
    rw [show (dat m c).after 2 t0_0 = (V m c main_arg1) from (after_2 m c)]
    exact Entails.of_eq (owns_whole (c : Thread nD τ) cc0_stg2_0 fullShare _).symm
  have o3 : (pt c cc0_stg3_0 fullShare (V m c main_arg2) : sProp 𝕄) ⊢ owns (c : Thread nD τ) ((cfg0.win 3).stage (cfg0.slots t0_0 3)) fullShare ((dat m c).after 3 t0_0) := by
    rw [show (dat m c).after 3 t0_0 = (V m c main_arg2) from (after_3 m c)]
    exact Entails.of_eq (owns_whole (c : Thread nD τ) cc0_stg3_0 fullShare _).symm
  have o4 : (pt c cc0_stg4_0 fullShare (V m c main_arg3) : sProp 𝕄) ⊢ owns (c : Thread nD τ) ((cfg0.win 4).stage (cfg0.slots t0_0 4)) fullShare ((dat m c).after 4 t0_0) := by
    rw [show (dat m c).after 4 t0_0 = (V m c main_arg3) from (after_4 m c)]
    exact Entails.of_eq (owns_whole (c : Thread nD τ) cc0_stg4_0 fullShare _).symm
  have o5 : (pt c cc0_stg5_0 fullShare (V m c main_arg4) : sProp 𝕄) ⊢ owns (c : Thread nD τ) ((cfg0.win 5).stage (cfg0.slots t0_0 5)) fullShare ((dat m c).after 5 t0_0) := by
    rw [show (dat m c).after 5 t0_0 = (V m c main_arg4) from (after_5 m c)]
    exact Entails.of_eq (owns_whole (c : Thread nD τ) cc0_stg5_0 fullShare _).symm
  have o6 : (pt c cc0_stg6_0 fullShare (V m c main_v23) : sProp 𝕄) ⊢ owns (c : Thread nD τ) ((cfg0.win 6).stage (cfg0.slots t0_0 6)) fullShare ((dat m c).after 6 t0_0) := by
    rw [show (dat m c).after 6 t0_0 = (V m c main_v23) from (after_6 m c)]
    exact Entails.of_eq (owns_whole (c : Thread nD τ) cc0_stg6_0 fullShare _).symm
  have o7 : (pt c cc0_stg7_0 fullShare (V m c main_v27) : sProp 𝕄) ⊢ owns (c : Thread nD τ) ((cfg0.win 7).stage (cfg0.slots t0_0 7)) fullShare ((dat m c).after 7 t0_0) := by
    rw [show (dat m c).after 7 t0_0 = (V m c main_v27) from (after_7 m c)]
    exact Entails.of_eq (owns_whole (c : Thread nD τ) cc0_stg7_0 fullShare _).symm
  have o8 : (pt c cc0_stg8_0 fullShare (outOf (Jm m c) c) : sProp 𝕄) ⊢ owns (c : Thread nD τ) ((cfg0.win 8).stage (cfg0.slots t0_0 8)) fullShare ((dat m c).after 8 t0_0) := by
    rw [show (dat m c).after 8 t0_0 = (outOf (Jm m c) c) from rfl]
    exact Entails.of_eq (owns_whole (c : Thread nD τ) cc0_stg8_0 fullShare _).symm
  have e8 : (owns (c : Thread nD τ) ((cfg0.win 8).stage (cfg0.slots t0_0 8)) fullShare ((dat m c).before 8 t0_0 d8) : sProp 𝕄)
      ⊢ pt c cc0_stg8_0 fullShare ((dat m c).before 8 t0_0 d8) := Entails.of_eq (owns_whole (c : Thread nD τ) cc0_stg8_0 fullShare _)
  iapply (bodyRun (Jm m c) K c _)
  isplitl [Hg Hlev Hs HO' H0 H1 H2 H3 H4 H5 H6 H7 H8]
  · unfold bodyPre inPts
    isplitl [Hg]; · iexact Hg
    isplitl [Hlev]; · iexact Hlev
    isplitl [H0]; · iapply i0; iexact H0
    isplitl [H1 H2 H3 H4 H5 H6 H7]
    · isplitl [H1]; · iapply i1; iexact H1
      isplitl [H2]; · iapply i2; iexact H2
      isplitl [H3]; · iapply i3; iexact H3
      isplitl [H4]; · iapply i4; iexact H4
      isplitl [H5]; · iapply i5; iexact H5
      isplitl [H6]; · iapply i6; iexact H6
      iapply i7; iexact H7
    isplitl [H8]; · iexists ((dat m c).before 8 t0_0 d8); iapply e8; iexact H8
    isplitl [Hs]; · iexact Hs
    iexact HO'
  unfold bodyPost inPts
  iintro ⟨Hsem, H0, ⟨H1, H2, H3, H4, H5, H6, H7⟩, H8, Hs, HO⟩
  isplitl [Hsem Hs Hp]
  · isplitl [Hsem]; · iexact Hsem
    isplitl [Hs]; · iexact Hs
    iexact Hp
  isplitl [HO]; · iapply (owesAt_intro (dat m c) t0_0.succ 0 (owed_last m c) rfl); iexact HO
  isplitl [H0]; · iapply o0; iexact H0
  isplitl [H1]; · iapply o1; iexact H1
  isplitl [H2]; · iapply o2; iexact H2
  isplitl [H3]; · iapply o3; iexact H3
  isplitl [H4]; · iapply o4; iexact H4
  isplitl [H5]; · iapply o5; iexact H5
  isplitl [H6]; · iapply o6; iexact H6
  isplitl [H7]; · iapply o7; iexact H7
  iapply o8; iexact H8

end Cert.KernelIdeal.Clean

end
-- ==== Proof.Launch2.lean ====
/-
  The region's record: how it is entered, opened, left.
-/
module

public import proofs.«01_k».proof.Proof.Launch1

@[expose] public section

set_option maxRecDepth 16384

noncomputable section

namespace Cert.KernelIdeal.Clean

open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ)

/-! ## Before the region opens its cells -/

/-- What transfer `i` of core `c` needs before its cells are open: the tokens, the rights to open, the credit of the arrival. -/
def shut (c : Dev nD) (i : Fin 7) : sProp 𝕄 :=
  iprop((toks c i ∗ (openTok ER (sndCell i c) ∗ openTok ER (rcvCell i c))) ∗ cred (tallyAt (rcvCell i c) () N))

/-- A core's ghost state with only the barrier's cell open. -/
def ghost (K : GSem nD τ sig → ℕ) (c : Dev nD) : sProp 𝕄 :=
  iprop(recs (Jm m c) K ∗ (dutyTok ER (barCell (prv c)) 0 true ∗ dutyTok ER (barCell (nxt c)) 0 false ∗ cred (tallyAt (barCell c) () 2) ∗ atPos ER (barCell c) 0 ∅ 0)
    ∗ bigSep Finset.univ fun i : Fin 7 => shut c i)

/-- A core's ghost state with only the barrier's cell open, for some names of the invariants. -/
def Tk (c : Dev nD) : sProp 𝕄 := iprop(∃ K, ghost m K c)

/-- Opening the two cells of one transfer, their counters at zero. -/
theorem open_one (K : GSem nD τ sig → ℕ) (c : Dev nD) (i : Fin 7) :
    iprop(recs (Jm m c) K ∗ (shut c i ∗ (semVal (sndCell i c) 0 ∗ semVal (rcvCell i c) 0)))
      ⊢ (|={Set.univ}=> ((toks c i ∗ posn c i) ∗ (reached ER (sndCell i c) 0 ∗ reached ER (rcvCell i c) 0)) : sProp 𝕄) := by
  unfold shut posn
  iintro ⟨#HR, ⟨⟨Ht, HoS, HoR⟩, Hc⟩, Hs, Hr⟩
  imod (Rounds.cell_open ER (rd (Jm m c)) (g := sndCell i c) (Set.mem_univ (K (sndCell i c)))) $$ [HoS Hs] with ⟨HaS, #HrS⟩
  · isplitr; · iapply (recs_snd (Jm m c) K c i); iexact HR
    isplitl [HoS] <;> iassumption
  imod (Rounds.cell_open ER (rd (Jm m c)) (g := rcvCell i c) (Set.mem_univ (K (rcvCell i c)))) $$ [HoR Hr] with ⟨HaR, #HrR⟩
  · isplitr; · iapply (recs_rcv (Jm m c) K c i); iexact HR
    isplitl [HoR] <;> iassumption
  imodintro
  isplitl [Ht HaS HaR Hc]
  · isplitl [Ht]; · iexact Ht
    isplitl [HaS]; · iexact HaS
    isplitl [HaR]; · iexact HaR
    iexact Hc
  isplitr; · iexact HrS
  iexact HrR

/-- Opening the cells of all seven transfers. -/
theorem open_all (K : GSem nD τ sig → ℕ) (c : Dev nD) :
    iprop(recs (Jm m c) K ∗ bigSep Finset.univ fun i : Fin 7 => iprop(shut c i ∗ (semVal (sndCell i c) 0 ∗ semVal (rcvCell i c) 0)))
      ⊢ (|={Set.univ}=> bigSep Finset.univ fun i : Fin 7 => iprop((toks c i ∗ posn c i) ∗ (reached ER (sndCell i c) 0 ∗ reached ER (rcvCell i c) 0)) : sProp 𝕄) :=
  (bigSep_with_persistent (R := recs (Jm m c) K) fun i _ => open_one m K c i).trans (bigSep_fupd Finset.univ _)

/-- A product over two is the two. -/
theorem bigSep_bool (Φ : Bool → sProp 𝕄) : bigSep Finset.univ Φ = iprop(Φ false ∗ Φ true) := by
  rw [bigSep_univ_eq_bigSepL [false, true] (by decide) (by decide)]
  simp only [bigSepL_cons_cons, bigSepL_singleton]
  rfl

/-- Over a core's transfer cells: each transfer's source cell and target cell. -/
theorem bigSep_osem (Φ : Bool × Fin 7 → sProp 𝕄) : bigSep Finset.univ Φ = bigSep Finset.univ fun i : Fin 7 => iprop(Φ (false, i) ∗ Φ (true, i)) := by
  rw [bigSep_univ_prod, bigSep_bool, bigSep_sep']

/-- The counters of a core's own cells, transfer by transfer. -/
theorem ownSems_eq (c : Dev nD) : (Pipeline.ownSems0 osem c : sProp 𝕄) = bigSep Finset.univ fun i : Fin 7 => iprop(semVal (sndCell i c) 0 ∗ semVal (rcvCell i c) 0) :=
  bigSep_osem fun k => (semVal ((c : Thread nD τ), osem k) 0 : sProp 𝕄)

/-- The region's entry opens every cell of the core's transfers. -/
theorem hopen (c : Dev nD) : iprop(Tk m c ∗ Pipeline.ownSems0 osem c ∗ levAts L lv) ⊢ (|={Set.univ}=> Xk m c : sProp 𝕄) := by
  rw [ownSems_eq]
  unfold Tk Xk ghost
  iintro ⟨⟨%K, #HR, Hb, Hx⟩, Hs, #Hlev⟩
  imod (open_all m K c) $$ [Hx Hs] with H
  · isplitr; · iexact HR
    rw [bigSep_sep' Finset.univ (fun i : Fin 7 => (shut c i : sProp 𝕄))]
    isplitl [Hx] <;> iassumption
  imodintro
  isplitl [Hb H]
  · iexists K
    unfold opened
    isplitr; · iexact HR
    isplitl [Hb]; · iexact Hb
    iexact H
  iexact Hlev

/-! ## The record -/

abbrev adm : (p : Fin 1) → (pcfgs (F := F) p).Adm := fun p => (cfgs p).toPCfg_adm
/-- The region's proof data, for each pipeline and core. -/
def pdats : (p : Fin 1) → (c : Dev nD) → Dat τ (Elt F) Unit ℕ UU ℕ (Pipeline.pin (pcfgs (F := F)) adm p) c
  | 0 => dat m
  | ⟨_ + 1, h⟩ => absurd h (Nat.not_lt.2 (Nat.le_add_left _ _))

/-- Different staging semaphores are different cells. -/
theorem cells_inj : Function.Injective (Pipeline.cellOf (nD := nD) (τ := τ) (Pipeline.pin (pcfgs (F := F)) adm)) := cellOf_inj

/-- The facts the launch of the pipeline rests on. -/
theorem kitP : Pipeline.PLaunchFacts (nD := nD) (τ := τ) (pcfgs (F := F)) 0 where
  cellOf_inj a := by rw [Subsingleton.elim a adm]; exact cells_inj
  win := winFacts0
  pre := Pipeline.PreFacts.none _
  block_pos := block_pos0
  arr_whole := arr_whole0
  stage_whole := stage_whole0

/-- The buffers where the region ends: the result at its value, the rest as found. -/
def Vend (c : Dev nD) : Valuation τ sig (Elt F) := Function.update (fun b => StableHlo.after hostOps0 (fun b => m (c, b)) b) (Proc.devRef .tc main_v28) (outOf (Jm m c) c)

/-- At the end the result's buffer holds what the core writes. -/
theorem Vend_res (c : Dev nD) : Vend m c (Proc.devRef .tc main_v28) = outOf (Jm m c) c := Function.update_self ..
/-- At the end every other buffer is as the host operations left it. -/
theorem Vend_ne (c : Dev nD) (b : DevRef τ sig) (h : b ≠ Proc.devRef .tc main_v28) : Vend m c b = StableHlo.after hostOps0 (fun b => m (c, b)) b := Function.update_of_ne h ..

/-- The result's array at the end is what the core writes. -/
theorem arr_end (c : Dev nD) : (dat m c).arrAt 8 cfg0.N = outOf (Jm m c) c := by
  refine (dat m c).arrAt_eq_of_after_last 8 t0_0 (by decide +kernel) _ fun j => ?_
  blk_simp
  rfl

/-- What the region is entered with makes its invariant at the start. -/
theorem hin (c : Dev nD) : iprop(Pipeline.scopedRest spec0 c ∗ (∃ r, prngReg c r) ∗ StableHlo.held (c.tc : Thread nD τ) ∅ (fun b => StableHlo.after hostOps0 (fun b => m (c, b)) b) ∗ Xk m c)
    ⊢ (dat m c).Φ 0 := by
  rw [Φ_first, scopedRest0_eq]
  unfold scr
  iintro ⟨Hs, Hp, -, HX⟩
  isplitl [HX]; · iexact HX
  isplitl [Hs]; · iexact Hs
  iexact Hp

/-- The invariant at the end gives back what the region was entered with. -/
theorem hout (c : Dev nD) : (dat m c).Φ (Fin.last cfg0.N)
    ⊢ iprop(Pipeline.scopedRest spec0 c ∗ (∃ r, prngReg c r) ∗ StableHlo.held (c.tc : Thread nD τ) ∅ (Vend m c) ∗ Pipeline.ownSems0 osem c ∗ semVal (barCell c) 0) := by
  rw [Φ_last, scopedRest0_eq, ownSems_eq, show (StableHlo.held (c.tc : Thread nD τ) ∅ (Vend m c) : sProp 𝕄) = BI.emp from bigSep_empty]
  unfold scr sems
  iintro ⟨⟨Hb, Hx⟩, Hs, Hp⟩
  isplitl [Hs]; · iexact Hs
  isplitl [Hp]; · iexact Hp
  isplitr; · iempintro
  isplitl [Hx]; · iexact Hx
  iexact Hb

/-- What is owed within the region is owed above level zero. -/
theorem cutD (c : Dev nD) (t : Fin (cfg0.N + 1)) (g : GSem nD τ sig) (i : Unit) (h : 0 < (dat m c).owed t g i) : i ∈ L g ∧ (0 : ℕ) < lv g i := by
  have e : (dat m c).owed t = if t.val = 0 then O₀ c else 0 := rfl
  rw [e] at h
  split at h
  · rcases O₀_pos h with ⟨j, rfl⟩ | rfl | rfl
    · exact ⟨mem_L _ _ _, by rw [lv_rcv]; omega⟩
    · exact ⟨mem_L _ _ _, by rw [lv_bar]; decide⟩
    · exact ⟨mem_L _ _ _, by rw [lv_bar]; decide⟩
  · exact absurd h (Nat.lt_irrefl 0)

/-- A staging semaphore is none of the protocol's. -/
theorem stage_ix : ∀ (w : Fin 9) (s : Fin ((win0 w).nbuf)), ixOf (.dma ((win0 w).sem s)) = none := by decide +kernel

abbrev arrs : Finset (DevRef τ sig) := Pipeline.arrRefs (τ := τ) spec0
/-- The result's buffer is among the region's arrays. -/
theorem res_mem : (Proc.devRef .tc main_v28 : DevRef τ sig) ∈ arrs := by
  unfold arrs Pipeline.arrRefs
  exact Finset.mem_map_of_mem _ (Finset.mem_image.mpr ⟨8, Finset.mem_univ _, rfl⟩)
abbrev restRefs : Finset (DevRef τ sig) := Pipeline.ucRefs τ sig \ arrs

abbrev Vin (c : Dev nD) : Valuation τ sig (Elt F) := StableHlo.after hostOps0 (fun b => m (c, b))

/-- At the start each array is as the host operations left it. -/
theorem hW (c : Dev nD) : ∀ w : Fin 9, (dat m c).arrAt w 0 = Vin m c (Proc.devRef .tc (Pipeline.arrRef spec0 w)) := fun _ => rfl
/-- An array the region only reads ends as it was found. -/
theorem arr_in (c : Dev nD) (w : Fin 9) (hw : w ≠ 8) (h : (cfg0.win w).isOut = false) (hne : Pipeline.arrRef spec0 w ≠ main_v28) :
    (dat m c).arrAt w cfg0.N = Vend m c (Proc.devRef .tc (Pipeline.arrRef spec0 w)) := by
  rw [Vend_ne m c _ (StableHlo.devRef_ne_of_ne hne), (dat m c).arrAt_in w h]
  rfl
/-- At the end each array is as stated. -/
theorem hW' (c : Dev nD) : ∀ w : Fin 9, (dat m c).arrAt w cfg0.N = Vend m c (Proc.devRef .tc (Pipeline.arrRef spec0 w)) := by
  intro w
  by_cases hw : w = 8
  · subst hw
    exact (arr_end m c).trans (Vend_res m c).symm
  · have k : ∀ w : Fin 9, w ≠ 8 → (cfg0.win w).isOut = false ∧ Pipeline.arrRef spec0 w ≠ main_v28 := by decide
    exact arr_in m c w hw (k w hw).1 (k w hw).2

/-- Every array is held whole. -/
theorem share_full (c : Dev nD) (w : Fin 9) : (dat m c).share w = fullShare := by
  unfold Dat.share
  split <;> rfl

set_option backward.isDefEq.respectTransparency.types false in
/-- The region, entered from its arrays as the host operations leave them and left with the result at its value. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ restRefs (Finset.empty_subset _) kitP rfl (fun c => (bodyOb m c).loose)
    (fun _ => 0) O₀ (fun c => (owed_zero m c).trans (zero_add _).symm) (owed_last m) (fun _ => rfl) (share_full m)
    (Vin m) (Vend m) (fun c b hb => Vend_ne m c b fun h => (Finset.mem_sdiff.mp (Finset.mem_sdiff.mp hb).1).2 (h ▸ res_mem))
    (Tk m) (fun c => semVal (barCell c) 0) (Xk m) (fun c => semVal (barCell c) 0) (hopen m) (hin m) (hout m)
    (fun c => by iintro H; imodintro; iexact H)
    (fun _ => 0)
    ⟨fun c w s => mem_L _ _ _, fun c w s => Nat.le_of_eq (by dsimp only [lv]; rw [stage_ix w s]), fun c t g i h => cutD m c t g i h⟩
    (fun _ => iprop(emp))
    (hW m) (hW' m)

end Cert.KernelIdeal.Clean

end
-- ==== Proof.Launch3.lean ====
/-
  The launch: every cell's invariant allocated, the tokens and credits dealt.
-/
module

public import proofs.«01_k».proof.Proof.Launch2

@[expose] public section

set_option maxRecDepth 16384

noncomputable section

namespace Cert.KernelIdeal.Clean

open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ)

/-! ## Cells and tokens -/

/-- The barrier's cells, one of each device. -/
def barEmb : Dev nD ↪ GSem nD τ sig := ⟨fun c => barCell c, fun _ _ h => congrArg (fun g : GSem nD τ sig => g.1.1) h⟩
/-- Different transfers have different semaphores. -/
theorem osem_inj : Function.Injective osem := fun a b h => Option.some.inj (ksem_inj (a₁ := some a) (a₂ := some b) h)
/-- A transfer's semaphore is not the barrier's. -/
theorem osem_ne_bar (k : Bool × Fin 7) : osem k ≠ .reg barSem := fun h => Option.some_ne_none k (ksem_inj (a₁ := some k) (a₂ := none) h)
/-- The transfers' cells, of every device. -/
def scEmb : Dev nD × (Bool × Fin 7) ↪ GSem nD τ sig :=
  ⟨fun p => ((p.1 : Thread nD τ), osem p.2), fun _ _ h =>
    Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb

/-- Of each core's cells the duties: the barrier's two, and one of each transfer cell. -/
abbrev tokKey : Bool ⊕ (Bool × Fin 7) → SemLoc sig × Bool
  | .inl b => (.reg barSem, b)
  | .inr k => (osem k, true)
/-- Different duties have different keys. -/
theorem tokKey_inj : Function.Injective tokKey := by
  rintro (a | a) (b | b) h
  · exact congrArg Sum.inl (congrArg Prod.snd h)
  · exact absurd (congrArg Prod.fst h).symm (osem_ne_bar b)
  · exact absurd (congrArg Prod.fst h) (osem_ne_bar a)
  · exact congrArg Sum.inr (osem_inj (congrArg Prod.fst h))
/-- The duties of every device, as keys. -/
def tokEmb : Dev nD × (Bool ⊕ (Bool × Fin 7)) ↪ GSem nD τ sig × ℕ × Bool :=
  ⟨fun p => (((p.1 : Thread nD τ), (tokKey p.2).1), 0, (tokKey p.2).2), fun _ _ h =>
    Prod.ext (congrArg (fun t : GSem nD τ sig × ℕ × Bool => t.1.1.1) h)
      (tokKey_inj (Prod.ext (congrArg (fun t : GSem nD τ sig × ℕ × Bool => t.1.2) h) (congrArg (fun t : GSem nD τ sig × ℕ × Bool => t.2.2) h)))⟩
/-- All duties. -/
def allToks : Finset (GSem nD τ sig × ℕ × Bool) := Finset.univ.map tokEmb

/-- No barrier's cell is a transfer's. -/
theorem disjoint_cells : Disjoint barCells scCells := by
  rw [Finset.disjoint_left]
  rintro g h₁ h₂
  obtain ⟨c, -, rfl⟩ := Finset.mem_map.mp h₁
  obtain ⟨p, -, h⟩ := Finset.mem_map.mp h₂
  exact osem_ne_bar p.2 (congrArg Prod.snd h)

/-- Every cell of the protocol is a barrier's or a transfer's. -/
theorem cell_mem (p : Dev nD × Option (Bool × Fin 7)) : cellAt p ∈ barCells ∪ scCells := by
  rcases p with ⟨c, _ | k⟩
  · exact Finset.mem_union_left _ (Finset.mem_map_of_mem barEmb (Finset.mem_univ c))
  · exact Finset.mem_union_right _ (Finset.mem_map_of_mem scEmb (Finset.mem_univ (c, k)))

/-- The launch element: the pipeline's own at the staging cells, the protocol's beside it. -/
def u₀ : UU :=
  (initOf (Pipeline.cells (Pipeline.pin (pcfgs (F := F)) adm) cells_inj) (Pipeline.launchToks (Pipeline.pin (pcfgs (F := F)) adm) cells_inj),
    launchOf barCells scCells allToks)

/-- A resource held by one core alone. -/
def onDev (c₀ : Dev nD) (X : sProp 𝕄) (c : Dev nD) : sProp 𝕄 := if c = c₀ then X else iprop(emp)
/-- A resource held by one core alone, over all cores, is the resource. -/
theorem bigSep_onDev (c₀ : Dev nD) (X : sProp 𝕄) : bigSep Finset.univ (onDev c₀ X) = X := by
  rw [bigSep_univ_at _ c₀, bigSep_congr (s := Finset.univ.erase c₀) (Ψ := fun _ => (BI.emp : sProp 𝕄))
    fun c hc => by unfold onDev; rw [if_neg (Finset.ne_of_mem_erase hc)]; rfl, BI.bigSep_emp_const]
  unfold onDev
  rw [if_pos rfl]
  exact BI.equiv_iff.mp sep_emp
/-- The launch element, held by core 0. -/
def G : Dev nD → sProp 𝕄 := onDev 0 (BI.own (ER (launchOf barCells scCells allToks)))

/-! ## What each core is dealt -/

/-- Every cell's invariant, and every barrier cell at its first round. -/
def records (κ : GSem nD τ sig → ℕ) : sProp 𝕄 :=
  iprop((bigSep (barCells ∪ scCells) fun g => cellInv ER (rd (Jm m 0)) (κ g) g) ∗ bigSep barCells fun g => reached ER g 0)
instance records_persistent (κ : GSem nD τ sig → ℕ) : BI.Persistent (records m κ) := by unfold records; infer_instance

/-- The records of the launch are those the protocol names. -/
theorem recs_intro (κ : GSem nD τ sig → ℕ) (c : Dev nD) : records m κ ⊢ recs (Jm m c) κ := by
  have h1 : (bigSep (barCells ∪ scCells) fun g => (cellInv ER (rd (Jm m 0)) (κ g) g : sProp 𝕄))
      ⊢ bigSep Finset.univ fun p : Dev nD × Option (Bool × Fin 7) => cellInv ER (rd (Jm m 0)) (κ (cellAt p)) (cellAt p) :=
    bigSep_intro_persistent fun p _ => bigSep_elim (cell_mem p)
  have h2 : (bigSep barCells fun g => (reached ER g 0 : sProp 𝕄)) ⊢ bigSep Finset.univ fun c : Dev nD => reached ER (barCell c) 0 :=
    Entails.of_eq (bigSep_map (s := Finset.univ) barEmb (Φ := fun g : GSem nD τ sig => (reached ER g 0 : sProp 𝕄)))
  unfold records recs
  rw [rd_Jm m c 0]
  iintro ⟨#HI, #HR⟩
  isplitr
  · iapply h1; iexact HI
  iapply h2; iexact HR

/-- A core's tokens, positions and rights to open. -/
def linear (c : Dev nD) : sProp 𝕄 :=
  iprop((dutyTok ER (barCell (prv c)) 0 true ∗ dutyTok ER (barCell (nxt c)) 0 false) ∗ atPos ER (barCell c) 0 ∅ 0
    ∗ bigSep Finset.univ fun i : Fin 7 => iprop(toks c i ∗ (openTok ER (sndCell i c) ∗ openTok ER (rcvCell i c))))
/-- A core's credits: two units of its barrier, and each arrival. -/
def credit (c : Dev nD) : sProp 𝕄 := iprop(cred (tallyAt (barCell c) () 2) ∗ bigSep Finset.univ fun i : Fin 7 => cred (tallyAt (rcvCell i c) () N))

/-- Records, tokens and credits make a core's ghost state. -/
theorem Tk_intro (κ : GSem nD τ sig → ℕ) (c : Dev nD) : iprop(records m κ ∗ linear c ∗ credit c) ⊢ Tk m c := by
  have e : iprop((bigSep Finset.univ fun i : Fin 7 => iprop(toks c i ∗ (openTok ER (sndCell i c) ∗ openTok ER (rcvCell i c))))
      ∗ bigSep Finset.univ fun i : Fin 7 => cred (tallyAt (rcvCell i c) () N)) ⊢ (bigSep Finset.univ fun i : Fin 7 => shut c i : sProp 𝕄) := by
    rw [← bigSep_sep']
    exact .rfl
  unfold linear credit Tk ghost
  iintro ⟨#HR, ⟨⟨Ht, Hf⟩, Ha, Hx⟩, Hb, Hc⟩
  iexists κ
  isplitr; · iapply (recs_intro m κ c); iexact HR
  isplitl [Ht Hf Hb Ha]
  · isplitl [Ht]; · iexact Ht
    isplitl [Hf]; · iexact Hf
    isplitl [Hb] <;> iassumption
  iapply e
  isplitl [Hx] <;> iassumption

/-- All tokens, dealt cell by cell. -/
theorem toks_eq : bigSep allToks (fun x => (dutyTok ER x.1 x.2.1 x.2.2 : sProp 𝕄))
    = bigSep Finset.univ fun c : Dev nD => iprop((dutyTok ER (barCell c) 0 false ∗ dutyTok ER (barCell c) 0 true)
        ∗ bigSep Finset.univ fun i : Fin 7 => iprop(dutyTok ER (sndCell i c) 0 true ∗ dutyTok ER (rcvCell i c) 0 true)) := by
  unfold allToks
  rw [bigSep_map, bigSep_univ_prod]
  refine bigSep_congr fun c _ => ?_
  rw [bigSep_univ_sum, bigSep_bool, bigSep_osem]
  rfl

/-- Each token to the core that pays its duty. -/
theorem toks_dealt : bigSep allToks (fun x => (dutyTok ER x.1 x.2.1 x.2.2 : sProp 𝕄))
    = iprop((bigSep Finset.univ fun c : Dev nD => iprop(dutyTok ER (barCell (prv c)) 0 true ∗ dutyTok ER (barCell (nxt c)) 0 false))
        ∗ bigSep Finset.univ fun c : Dev nD => bigSep Finset.univ fun i : Fin 7 => toks c i) := by
  have ed (i : Fin 7) : Function.Bijective (dst i) :=
    ⟨Function.LeftInverse.injective (g := src i) (src_dst i), Function.RightInverse.surjective (g := src i) (dst_src i)⟩
  have er : (bigSep Finset.univ fun c : Dev nD => bigSep Finset.univ fun i : Fin 7 => (dutyTok ER (rcvCell i c) 0 true : sProp 𝕄))
      = bigSep Finset.univ fun c : Dev nD => bigSep Finset.univ fun i : Fin 7 => dutyTok ER (rcvCell i (dst i c)) 0 true := by
    rw [BI.bigSep_univ_comm, BI.bigSep_univ_comm (fun (c : Dev nD) (i : Fin 7) => (dutyTok ER (rcvCell i (dst i c)) 0 true : sProp 𝕄))]
    exact bigSep_congr fun i _ => bigSep_univ_equiv (Equiv.ofBijective _ (ed i)) fun c : Dev nD => (dutyTok ER (rcvCell i c) 0 true : sProp 𝕄)
  unfold toks
  rw [toks_eq]
  simp only [bigSep_sep']
  rw [er, bigSep_univ_equiv ring.symm (fun c : Dev nD => (dutyTok ER (barCell c) 0 true : sProp 𝕄)),
    bigSep_univ_equiv ring (fun c : Dev nD => (dutyTok ER (barCell c) 0 false : sProp 𝕄))]
  congr 1
  exact BI.Entails.antisymm Idealize.SL.BI.sep_comm Idealize.SL.BI.sep_comm

/-! ## The launch credit -/

/-- What a core owes of transfers, at a cell, is a sum over its seven transfers. -/
theorem rem_apply (d : Dev nD) (g : GSem nD τ sig) (u : Unit) : rem d 7 g u = ∑ j : Fin 7, (tallyAt (rcvCell j (dst j d)) () N : CellTallies nD τ sig Unit) g u := by
  rw [Fin.sum_univ_seven]
  generalize ha : (fun j : Fin 7 => (tallyAt (rcvCell j (dst j d)) () N : CellTallies nD τ sig Unit) g u) = a
  have h (j : Fin 7) : (tallyAt (rcvCell j (dst j d)) () N : CellTallies nD τ sig Unit) g u = a j := by rw [← ha]
  have e : rem d 7 g u = ((((((0 + a 6) + a 5) + a 4) + a 3) + a 2) + a 1) + a 0 := by rw [← ha]; rfl
  rw [e, h, h, h, h, h, h, h]
  omega

/-- Different arrivals have different cells. -/
theorem rcv_inj {i j : Fin 7} {c d : Dev nD} (h : rcvCell i c = rcvCell j d) : i = j ∧ c = d :=
  ⟨congrArg Prod.snd (osem_inj (a₁ := (true, i)) (a₂ := (true, j)) (congrArg Prod.snd h)), congrArg (fun g : GSem nD τ sig => g.1.1) h⟩
/-- An arrival's cell is not a barrier's. -/
theorem rcv_ne_bar (i : Fin 7) (c d : Dev nD) : rcvCell i c ≠ barCell d := fun h => osem_ne_bar (true, i) (congrArg Prod.snd h)
/-- Different devices have different barriers. -/
theorem bar_inj {c d : Dev nD} (h : barCell c = barCell d) : c = d := congrArg (fun g : GSem nD τ sig => g.1.1) h

/-- What a core owes at the start, at a cell. -/
theorem O₀_apply (d : Dev nD) (g : GSem nD τ sig) : O₀ d g () = (∑ j : Fin 7, if g = rcvCell j (dst j d) then N else 0)
    + (if g = barCell (nxt d) then 1 else 0) + (if g = barCell (prv d) then 1 else 0) := by
  unfold O₀ O₁
  rw [Pi.add_apply, Finsupp.add_apply, Pi.add_apply, Finsupp.add_apply, rem_apply]
  simp only [tallyAt_apply, and_true]

/-- A barrier is owed one unit by each neighbour of its device. -/
theorem owed_bar (d c : Dev nD) : O₀ d (barCell c) () = (if d = prv c then 1 else 0) + (if d = nxt c then 1 else 0) := by
  have e1 : (barCell c = barCell (nxt d)) ↔ d = prv c := ⟨fun h => by rw [bar_inj h, prv_nxt], fun h => by rw [h, nxt_prv]⟩
  have e2 : (barCell c = barCell (prv d)) ↔ d = nxt c := ⟨fun h => by rw [bar_inj h, nxt_prv], fun h => by rw [h, prv_nxt]⟩
  rw [O₀_apply, Finset.sum_eq_zero fun j _ => if_neg fun h => rcv_ne_bar _ _ _ h.symm, zero_add]
  simp only [e1, e2]

/-- An arrival is owed by the device it comes from. -/
theorem owed_rcv (d c : Dev nD) (i : Fin 7) : O₀ d (rcvCell i c) () = if d = src i c then N else 0 := by
  have e : (rcvCell i c = rcvCell i (dst i d)) ↔ d = src i c := ⟨fun h => by rw [(rcv_inj h).2, src_dst], fun h => by rw [h, dst_src]⟩
  rw [O₀_apply, if_neg (rcv_ne_bar _ _ _), if_neg (rcv_ne_bar _ _ _), Finset.sum_eq_single i
    (fun j _ hj => if_neg fun h => hj (rcv_inj h).1.symm) (fun h => absurd (Finset.mem_univ i) h)]
  simp only [e, add_zero]

/-- The launch credits each barrier with two units. -/
theorem launch_bar (c : Dev nD) :
    tallyOn (barCell c) (launchCredit (Pipeline.owing O₀) 0 (barCell c)) = (tallyAt (barCell c) () 2 : CellTallies nD τ sig Unit) := by
  unfold tallyAt
  refine congrArg _ (Finsupp.ext fun u => ?_)
  cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

/-- The launch credits each arrival with one block. -/
theorem launch_rcv (c : Dev nD) (i : Fin 7) :
    tallyOn (rcvCell i c) (launchCredit (Pipeline.owing O₀) 0 (rcvCell i c)) = (tallyAt (rcvCell i c) () N : CellTallies nD τ sig Unit) := by
  unfold tallyAt
  refine congrArg _ (Finsupp.ext fun u => ?_)
  cases u
  rw [Pipeline.launchCredit_owing, Finsupp.single_eq_same, Finset.sum_congr rfl fun d _ => owed_rcv d c i,
    Finset.sum_ite_eq' Finset.univ (src i c) fun _ => N, if_pos (Finset.mem_univ _)]

/-- The launch gives every core its credits. -/
theorem creds (c : Dev nD) : (Pipeline.launchCred O₀ c : sProp 𝕄) ⊢ credit c := by
  have hs : (Finset.univ.map ⟨fun i : Fin 7 => (SemLoc.dma (rcvS i) : SemLoc sig), fun i j h => congrArg Prod.snd (osem_inj (a₁ := (true, i)) (a₂ := (true, j)) h)⟩ : Finset (SemLoc sig))
      ⊆ Finset.univ.erase (.reg barSem) := fun s h => by
    obtain ⟨i, -, rfl⟩ := Finset.mem_map.mp h
    exact Finset.mem_erase.mpr ⟨osem_ne_bar (true, i), Finset.mem_univ _⟩
  unfold Pipeline.launchCred credit
  rw [bigSep_univ_at _ (SemLoc.reg barSem), launch_bar]
  refine sep_mono_right ((bigSep_subset hs).trans ?_)
  rw [bigSep_map]
  have e (i : Fin 7) : (cred (tallyOn (rcvCell i c) (launchCredit (Pipeline.owing O₀) 0 (rcvCell i c))) : sProp 𝕄) = cred (tallyAt (rcvCell i c) () N) := by
    rw [launch_rcv]
  exact bigSep_mono fun i _ => Entails.of_eq (e i)

end Cert.KernelIdeal.Clean

end
-- ==== Proof.Launch4.lean ====
/-
  The run of the whole program: what every fair execution leaves.
-/
module

public import proofs.«01_k».proof.Proof.Launch3

@[expose] public section

set_option maxRecDepth 16384

noncomputable section

namespace Cert.KernelIdeal.Clean

open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ)

variable (ρ : Dev nD → PrngReg)

abbrev bufs : Finset (DevRef τ sig) := Pipeline.ucRefs τ sig
abbrev V₀ (c : Dev nD) : Valuation τ sig (Elt F) := fun b => m (c, b)

/-- What a core holds beside its buffers. -/
def R (c : Dev nD) : sProp 𝕄 := iprop(Tk m c ∗ (∃ r, prngReg c r) ∗ ∃ W, owes (c : Thread nD τ) (O₀ c) W)
abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (Vend m c) ∗ semVal (barCell c) 0)

/-! ## The segments -/

/-- The host operations before the region. -/
def seg0 : Pipeline.HostSeg (Name := ℕ) (U := UU) (pcfgs (F := F)) defs₀ 𝒱₀ L lv :=
  Pipeline.HostSeg.ofOps _ _ _ _ _ bufs hostOps0 (fun op h => Pipeline.sub_ucRefs op (List.forall_iff_forall_mem.mp hostOps0_sub op h))
    (fun op h => List.forall_iff_forall_mem.mp hostOps0_fresh op h) (V₀ m) (R m)
/-- The program's segments: the host operations, then the region. -/
def segs : List (Pipeline.Seg (pcfgs (F := F)) adm (pdats m) () defs₀ 𝒱₀ L lv) := [.host (seg0 m), .region (reg0 m)]
/-- The program is its segments in turn. -/
theorem main_eq (c : Dev nD) : main (F := F) c = Pipeline.Seg.run (segs m) := main_segs adm (pdats m) () 𝒱₀ L lv (seg0 m) (reg0 m) rfl c

/-- The region's arrays are among the core's buffers. -/
theorem arrs_sub : arrs ⊆ bufs := Pipeline.arrRefs_sub_ucRefs spec0 (by decide)

/-- The region is entered from what the host operations leave. -/
theorem reg_pre (c : Dev nD) : iprop(StableHlo.held (c : Thread nD τ) bufs (Vin m c) ∗ R m c) ⊢ (reg0 m).pre c := by
  show _ ⊢ iprop(StableHlo.held (c : Thread nD τ) arrs (Vin m c) ∗ (∃ r, prngReg c r) ∗ (StableHlo.held (c : Thread nD τ) restRefs (Vin m c) ∗ emp) ∗ Tk m c ∗ ∃ Wd, owes (c : Thread nD τ) (0 + O₀ c) Wd)
  rw [StableHlo.held_sub_split c.tc arrs_sub, zero_add]
  unfold R
  iintro ⟨⟨Ha, Hr⟩, Ht, Hp, HO⟩
  isplitl [Ha]; · iexact Ha
  isplitl [Hp]; · iexact Hp
  isplitl [Hr]
  · isplitl [Hr]; · iexact Hr
    iempintro
  isplitl [Ht]; · iexact Ht
  iexact HO

/-- Leaving the region its arrays and the rest come together again. -/
theorem reg_post (c : Dev nD) : (reg0 m).post c ⊢ iprop(Tₙ m c ∗ ∃ W, owes (c : Thread nD τ) (0 : CellTallies nD τ sig Unit) W) := by
  show iprop(StableHlo.held (c : Thread nD τ) arrs (Vend m c) ∗ (∃ r, prngReg c r) ∗ (StableHlo.held (c : Thread nD τ) restRefs (Vend m c) ∗ emp) ∗ semVal (barCell c) 0 ∗ ∃ Wd, owes (c : Thread nD τ) (0 : CellTallies nD τ sig Unit) Wd) ⊢ _
  unfold Tₙ
  rw [StableHlo.held_sub_split c.tc arrs_sub]
  iintro ⟨Ha, -, ⟨Hr, -⟩, Hb, HO⟩
  isplitr [HO]
  · isplitl [Ha Hr]
    · isplitl [Ha] <;> iassumption
    iexact Hb
  iexact HO

/-! ## The start -/

/-- Two resources dealt to every core, dealt together. -/
theorem dealt_together {Φ Ψ : Dev nD → sProp 𝕄} : iprop(bigSep Finset.univ Φ ∗ bigSep Finset.univ Ψ) ⊢ bigSep Finset.univ fun c => iprop(Φ c ∗ Ψ c) :=
  Entails.of_eq (bigSep_sep' ..).symm
/-- Two resources dealt together to every core, dealt apart. -/
theorem dealt_apart {Φ Ψ : Dev nD → sProp 𝕄} : (bigSep Finset.univ fun c => iprop(Φ c ∗ Ψ c)) ⊢ iprop(bigSep Finset.univ Φ ∗ bigSep Finset.univ Ψ) :=
  Entails.of_eq (bigSep_sep' ..)

/-- What of a core's launch holdings is not the protocol's. -/
def bundle (c : Dev nD) : sProp 𝕄 :=
  iprop(StableHlo.held (c : Thread nD τ) bufs (V₀ m c) ∗ owes (c : Thread nD τ) (O₀ c) ∅ ∗ ∃ r, prngReg c r)

/-- What a core starts with, from records, tokens, credits and its buffers. -/
theorem T₀_intro (κ : GSem nD τ sig → ℕ) (c : Dev nD) : iprop(records m κ ∗ (linear c ∗ credit c) ∗ bundle m c) ⊢ T₀ m c := by
  unfold bundle T₀ R
  iintro ⟨#HR, ⟨Hl, Hc⟩, Hh, HO, Hp⟩
  isplitl [Hh]; · iexact Hh
  isplitl [Hl Hc]
  · iapply (Tk_intro m κ c)
    isplitr; · iexact HR
    isplitl [Hl] <;> iassumption
  isplitl [Hp]; · iexact Hp
  iexists ∅; iexact HO

/-- The only semaphore outside the region is the barrier's. -/
theorem unscoped_eq : ∀ sm : SemLoc sig, sm.isScoped .tc = false → sm = .reg barSem := by decide

/-- The counters outside the region are the barrier's. -/
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barSem} from by decide, bigSep_singleton]

/-- What the machine starts with is what every core starts with. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop((credit c ∗ bundle m c) ∗ (semVal (barCell c) 0 ∗ G c)) : sProp 𝕄) := by
    rw [show unscopedBufs c (fun b => m ((c : Thread nD τ).loc b)) = StableHlo.held (c : Thread nD τ) bufs (V₀ m c) from Pipeline.unscopedBufs_held c (V₀ m c),
      unscopedSems0_eq]
    unfold bundle
    iintro ⟨Hh, Hus, HO, Hcr, Hp, HG⟩
    ihave Hc := (creds (F := F) c) $$ Hcr
    isplitl [Hh Hc HO Hp]
    · isplitl [Hc]; · iexact Hc
      isplitl [Hh]; · iexact Hh
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep scCells (fun g => (openTok ER g : sProp 𝕄))
      ⊢ bigSep Finset.univ (fun c : Dev nD => bigSep Finset.univ fun i : Fin 7 => iprop(openTok ER (sndCell i c) ∗ openTok ER (rcvCell i c))) :=
    Entails.of_eq (by
      rw [bigSep_map, bigSep_univ_prod]
      exact bigSep_congr fun c _ => bigSep_osem (fun k : Bool × Fin 7 => (openTok ER ((c : Thread nD τ), osem k) : sProp 𝕄)))
  have hlin : iprop((bigSep Finset.univ fun c : Dev nD => iprop(dutyTok ER (barCell (prv c)) 0 true ∗ dutyTok ER (barCell (nxt c)) 0 false))
        ∗ (bigSep Finset.univ fun c : Dev nD => (atPos ER (barCell c) 0 ∅ 0 : sProp 𝕄))
        ∗ (bigSep Finset.univ fun c : Dev nD => bigSep Finset.univ fun i : Fin 7 => toks c i)
        ∗ (bigSep Finset.univ fun c : Dev nD => bigSep Finset.univ fun i : Fin 7 => iprop(openTok ER (sndCell i c) ∗ openTok ER (rcvCell i c))))
      ⊢ (bigSep Finset.univ fun c : Dev nD => linear c : sProp 𝕄) := by
    unfold linear
    simp only [bigSep_sep']
    iintro ⟨H1, H2, H3, H4⟩
    isplitl [H1]; · iexact H1
    isplitl [H2]; · iexact H2
    isplitl [H3]; · iexact H3
    iexact H4
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop((credit c ∗ bundle m c) ∗ (semVal (barCell c) 0 ∗ G c)) : sProp 𝕄) from bigSep_mono fun c _ => hcore c) $$ H
  ihave H2 := dealt_apart $$ H'; icases H2 with ⟨HB, H3⟩
  ihave H4 := dealt_apart $$ H3; icases H4 with ⟨Hv, HG⟩
  ihave H5 := dealt_apart $$ HB; icases H5 with ⟨HC, HB⟩
  ihave Hu := (show bigSep Finset.univ (G (F := F)) ⊢ BI.own (ER (launchOf barCells scCells allToks)) from
    Entails.of_eq (bigSep_onDev (F := F) 0 (BI.own (ER (launchOf barCells scCells allToks))))) $$ HG
  imod (Rounds.fund_launch ER (rd (Jm m 0)) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop((linear c ∗ credit c) ∗ bundle m c)) fun c _ => T₀_intro m κ c)
  isplitr
  · unfold records
    isplitr; · iexact Hinv
    iexact Hr
  iapply dealt_together
  isplitr [HB]
  · iapply dealt_together
    isplitr [HC]
    · ihave Ht := (Entails.of_eq (toks_dealt (F := F))) $$ Htok
      icases Ht with ⟨Ht, Hx⟩
      iapply hlin
      isplitl [Ht]; · iexact Ht
      isplitl [Hat]; · iapply hat $$ Hat
      isplitl [Hx]; · iexact Hx
      iapply hop $$ Hopen
    iexact HC
  iexact HB

/-! ## The run -/

set_option backward.isDefEq.respectTransparency.types false in
/-- From any memory with every counter at zero every fair execution ends, with each core's buffers as the region and the host
    operations before it leave them and every counter at zero. -/
theorem run_main : θ_run defs (onTc (τ := τ) (main (F := F))) ⟨m, fun _ => 0, ρ⟩
    (fun r => (∀ c : Dev nD, ∀ b ∈ bufs, r.2.mem ((c : Thread nD τ).1, b) = Vend m c b) ∧ r.2.sem = fun _ => 0) :=
  Pipeline.θ_run_regions_kit_sems (pcfgs (F := F)) adm (pdats m) () cells_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G (F := F)) (u₀ := u₀ (F := F))
    (hu₀ := by
      unfold u₀ G
      iintro Hu
      ihave H := (ownU_pair _ _) $$ Hu
      icases H with ⟨HP, HX⟩
      imodintro
      isplitl [HP]; · iexact HP
      rw [bigSep_onDev (F := F)]; iexact HX)
    (T₀ := T₀ m) (Tₙ := Tₙ m)
    (hch := ⟨fun c => .rfl, fun c => reg_pre m c, fun c => reg_post m c⟩)
    (hinit := init m ρ)
    (QY := fun c s => (∀ b ∈ bufs, s.mem ((c : Thread nD τ).1, b) = Vend m c b) ∧ s.sem (barCell c) = 0)
    (hfin := fun c s' => by
      unfold Tₙ StableHlo.held
      iintro ⟨⟨Hh, Hb⟩, HSI⟩
      icombine HSI Hb gives %hb
      ihave Hr := (pointsTo_read_all bufs (fun b => ((c : Thread nD τ).1, b)) (Vend m c) s') $$ [Hh HSI]
      · isplitl [Hh] <;> iassumption
      icases Hr with ⟨%hr, HSI⟩
      imodintro
      isplitr
      · ipureintro
        exact ⟨hr, by simpa using hb⟩
      iexact HSI)
    (hQ := fun s h hs => ⟨fun c => (h c).1,
      sem_eq_zero hs fun c sm hsm => by
        obtain rfl := unscoped_eq sm hsm
        exact (h c).2⟩)

/-- The run, read at the argument arrays and the result. -/
theorem run_frame : θ_run defs (onTc (τ := τ) (main (F := F))) ⟨m, fun _ => 0, ρ⟩
    (fun r => ((∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
        ∧ r.2.sem = fun _ => 0)
      ∧ ∀ c : Dev nD, r.2.mem ((c.tc : Thread nD τ).loc main_v28) = outOf (Jm m c) c) := by
  refine (θ_run defs _ _).mono (fun r hr => ?_) (run_main m ρ)
  obtain ⟨h, hs⟩ := hr
  have hm : ∀ b ∈ [main_arg0, main_arg1, main_arg2, main_arg3, main_arg4, main_v28], (Proc.devRef .tc b : DevRef τ sig) ∈ bufs := by decide
  have g (c : Dev nD) (b : Ref sig .tc) (hb : b ∈ [main_arg0, main_arg1, main_arg2, main_arg3, main_arg4, main_v28]) (hne : b ≠ main_v28) (hV : V m c b = m ((c.tc : Thread nD τ).loc b)) :
      r.2.mem ((c.tc : Thread nD τ).loc b) = m ((c.tc : Thread nD τ).loc b) :=
    (h c _ (hm b hb)).trans ((Vend_ne m c _ (StableHlo.devRef_ne_of_ne hne)).trans hV)
  refine ⟨⟨fun c => ⟨g c _ (by decide) (by decide) (V_main_arg0 m c), g c _ (by decide) (by decide) (V_main_arg1 m c), g c _ (by decide) (by decide) (V_main_arg2 m c),
    g c _ (by decide) (by decide) (V_main_arg3 m c), g c _ (by decide) (by decide) (V_main_arg4 m c)⟩, hs⟩, fun c => ?_⟩
  exact (h c _ (hm main_v28 (by decide))).trans (Vend_res m c)

end Cert.KernelIdeal.Clean

end
-- ==== Proof.Frames.lean ====
/-
  The frames: each program runs to an end with its arguments unchanged and every counter at zero.
-/
module

public import proofs.«01_k».proof.Defs
public import proofs.«01_k».proof.Proof.Launch4
public import proofs.«01_k».proof.Proof.Gen.Kernel
public import proofs.«01_k».proof.Proof.Gen.ReferenceIdeal.Run

@[expose] public section

set_option maxRecDepth 100000

noncomputable section

namespace Cert.Frames

open Idealize.ShloMosaic Idealize.SL.Sem
open Cert.Kernel.Gen Cert.KernelIdeal.Gen Cert.ReferenceIdeal.Gen

/-- The idealized kernel: its run, at the extended reals. -/
theorem kernelIdeal : Cert.quiescent_KernelIdeal (hKernelIdeal := Cert.KernelIdeal.Gen.facts) := fun m g _ =>
  (θ_run Cert.KernelIdeal.defs _ _).mono (fun _ hr => hr.1) (Cert.KernelIdeal.Clean.run_frame (F := Ideal) m g)

/-- At bit patterns a named constant stands for the bits it replaced. -/
@[instance_reducible] def bitsNamed : Named Bits where
  named _ _ {φ} bits := Scalar.ofBits φ bits

attribute [local instance] bitsNamed

set_option maxHeartbeats 2000000

/-- At bit patterns the kernel's program is the idealized kernel's. -/
theorem main_bits : Cert.Kernel.main (F := Bits) = Cert.KernelIdeal.main (F := Bits) := rfl
/-- At bit patterns the kernel's body is the idealized kernel's. -/
theorem body_bits : @Cert.Kernel.cc0_body Bits _ _ = @Cert.KernelIdeal.cc0_body Bits _ _ _ := rfl
/-- At bit patterns the two programs' entries are the same. -/
theorem entry_bits : Cert.Kernel.defs₀ (F := Bits) = Cert.KernelIdeal.defs₀ (F := Bits) := by
  unfold Cert.Kernel.defs₀ Cert.KernelIdeal.defs₀
  refine congrArg (Defs.onTc (nD := Cert.Kernel.nD) (τ := Cert.Kernel.τ) (sig := Cert.Kernel.sig) (Λ := Cert.Kernel.Λ₀)) (funext fun l => funext fun x => ?_)
  match l, x with
  | 0, (t, s) =>
    dsimp only
    rw [body_bits]
  | ⟨_ + 1, h⟩, _ => exact absurd h (Nat.not_lt.2 (Nat.le_add_left _ _))
/-- At bit patterns the two programs' definitions are the same. -/
theorem defs_bits : Cert.Kernel.defs (F := Bits) = Cert.KernelIdeal.defs (F := Bits) :=
  congrArg (Pipeline.defs Cert.Kernel.pcfgs) entry_bits

/-- The kernel as compiled: the same run, at bit patterns. -/
theorem kernel : Cert.quiescent_Kernel (hKernel := Cert.Kernel.Gen.facts) := fun m g _ => by
  rw [main_bits, defs_bits]
  exact (θ_run Cert.KernelIdeal.defs _ _).mono (fun _ hr => hr.1) (Cert.KernelIdeal.Clean.run_frame (F := Bits) m g)

/-- The reference has no semaphore, so none can end above zero. -/
theorem referenceIdeal : Cert.quiescent_ReferenceIdeal (hReferenceIdeal := Cert.ReferenceIdeal.Gen.facts) := fun m g _ =>
  (θ_run Cert.ReferenceIdeal.defs _ _).mono (fun _ hr => ⟨fun c => (hr c).2, sem_eq_zero_of_no_sems (by decide) _⟩)
    (Cert.ReferenceIdeal.Value.run (F := Ideal) m g)

end Cert.Frames

end
-- ==== Proof.ValueModel.lean ====
/-
  Attention with rotary embeddings over real numbers: the function that kernel and reference both compute.
-/
module

public import Idealize.ShloMosaic.Lib.Pointwise

@[expose] public section

noncomputable section

namespace Cert.Value

open Idealize.ShloMosaic

/-- The arguments and the two rotation tables: the input, the queries' and keys' weights and the tables as real numbers, the two other weights any. -/
structure Data where
  x : Fin 2 → Fin 4096 → Fin 1024 → ℝ
  wq : Fin 1024 → Fin 1024 → ℝ
  wk : Fin 1024 → Fin 1024 → ℝ
  wv : Fin 1024 → Fin 1024 → EReal
  wo : Fin 1024 → Fin 1024 → EReal
  co : Fin 4096 → Fin 128 → ℝ
  si : Fin 4096 → Fin 128 → ℝ

/-- Column `e` of head `h`. -/
def col (h : Fin 8) (e : Fin 128) : Fin 1024 := ⟨128 * h.val + e.val, by omega⟩
/-- Row `r` of block `d`. -/
def row (d : Fin 8) (r : Fin 512) : Fin 4096 := ⟨512 * d.val + r.val, by omega⟩

/-- The pairs of columns exchanged, the even one negated. -/
def swap (p : Fin 128 → ℝ) (e : Fin 128) : ℝ := if h : e.val % 2 = 0 then -p ⟨e.val + 1, by omega⟩ else p ⟨e.val - 1, by omega⟩

variable (D : Data)

/-- The input times a weight. -/
def pr (w : Fin 1024 → Fin 1024 → ℝ) (b : Fin 2) (i : Fin 4096) (k : Fin 1024) : ℝ := ∑ q, D.x b i q * w q k
/-- A projection, rotated. -/
def rp (w : Fin 1024 → Fin 1024 → ℝ) (b : Fin 2) (i : Fin 4096) (h : Fin 8) (e : Fin 128) : ℝ :=
  pr D w b i (col h e) * D.co i e + swap (fun e => pr D w b i (col h e)) e * D.si i e
/-- A query against a key. -/
def score (b : Fin 2) (h : Fin 8) (i j : Fin 4096) : ℝ := ∑ e, rp D D.wq b i h e * rp D D.wk b j h e
/-- The scale of the scores: the binary32 number nearest the inverse root of 128. -/
def sc : ℝ := 11863283 / 134217728
/-- A position's weight, before it is divided by the weights' sum. -/
def wt (b : Fin 2) (h : Fin 8) (i j : Fin 4096) : ℝ := Real.exp (score D b h i j * sc)
/-- The values: the input times their weight. -/
def val (b : Fin 2) (i : Fin 4096) (k : Fin 1024) : EReal := ∑ q, ((D.x b i q : ℝ) : EReal) * D.wv q k
/-- The weighted mean of the values. -/
def cx (b : Fin 2) (i : Fin 4096) (h : Fin 8) (e : Fin 128) : EReal :=
  (∑ j, ((wt D b h i j : ℝ) : EReal) * val D b j (col h e)) * ((1 / ∑ j, wt D b h i j : ℝ) : EReal)
/-- The means of all heads times the output weight. -/
def out (b : Fin 2) (i : Fin 4096) (n : Fin 1024) : EReal :=
  ∑ k : Fin 1024, cx D b i ⟨k.val / 128, by omega⟩ ⟨k.val % 128, by omega⟩ * D.wo k n

/-- A weight is positive. -/
theorem wt_pos (b h i j) : 0 < wt D b h i j := Real.exp_pos _
/-- A row's weights have a positive sum. -/
theorem sum_wt_pos (b h i) : 0 < ∑ j, wt D b h i j := Finset.sum_pos (fun j _ => wt_pos D b h i j) ⟨0, Finset.mem_univ _⟩

/-- A sum of reals, taken among the extended reals. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum of products of reals, taken among the extended reals. -/
theorem coe_sum_mul {ι : Type*} (s : Finset ι) (f g : ι → ℝ) :
    (∑ i ∈ s, ((f i : ℝ) : EReal) * ((g i : ℝ) : EReal)) = ((∑ i ∈ s, f i * g i : ℝ) : EReal) := by
  rw [← coe_sum]
  exact Finset.sum_congr rfl fun i _ => (EReal.coe_mul _ _).symm

/-- A sum over all rows, block by block. -/
theorem sum_rows {α : Type*} [AddCommMonoid α] (f : Fin 4096 → α) : ∑ j, f j = ∑ d, ∑ r, f (row d r) := by
  have e : ∑ d : Fin 8, ∑ r : Fin 512, f (row d r) = ∑ p : Fin 8 × Fin 512, f (row p.1 p.2) := by
    rw [Fintype.sum_prod_type]
  rw [e]
  refine (Fintype.sum_equiv (finProdFinEquiv (m := 8) (n := 512)) _ _ fun p => ?_).symm
  refine congrArg f (Fin.ext ?_)
  simp [row, finProdFinEquiv]
  omega

/-- A sum over two blocks' rows, laid one after the other. -/
theorem sum_two {α : Type*} [AddCommMonoid α] (f : Fin 2 → Fin 512 → α) :
    ∑ s : Fin 1024, f ⟨s.val / 512, by omega⟩ ⟨s.val % 512, by omega⟩ = (∑ s, f 0 s) + ∑ s, f 1 s := by
  have e : (∑ s, f 0 s) + ∑ s, f 1 s = ∑ p : Fin 2 × Fin 512, f p.1 p.2 := by
    rw [Fintype.sum_prod_type, Fin.sum_univ_two]
  rw [e]
  exact Fintype.sum_equiv (finProdFinEquiv (m := 2) (n := 512)).symm _ _ fun s => rfl

/-- The factor that turns the natural exponential into a power of two. -/
theorem exp2_scaled (s : ℝ) : Real.rpow 2 (s * (sc * (Real.log 2)⁻¹)) = Real.exp (s * sc) := by
  have h2 : Real.log 2 ≠ 0 := (Real.log_pos (by norm_num)).ne'
  show (2 : ℝ) ^ (s * (sc * (Real.log 2)⁻¹)) = _
  rw [Real.rpow_def_of_pos (by norm_num)]
  congr 1
  field_simp

/-- A real factor that is not negative goes into a sum of any extended reals. -/
theorem sum_mul_coe {ι : Type*} (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, ← ih, mul_comm, mul_comm (f a), mul_comm (∑ i ∈ s, f i)]
    exact EReal.left_distrib_of_nonneg_of_ne_top (EReal.coe_nonneg.2 hc) (EReal.coe_ne_top c) _ _

/-- Weights shifted by a common amount have the same weighted mean. -/
theorem mean_shift {ι : Type*} [Fintype ι] (s : ι → ℝ) (v : ι → EReal) (M : ℝ) :
    ∑ j, v j * ((Real.exp (s j - M) / ∑ l, Real.exp (s l - M) : ℝ) : EReal)
      = (∑ j, ((Real.exp (s j) : ℝ) : EReal) * v j) * ((1 / ∑ j, Real.exp (s j) : ℝ) : EReal) := by
  have hM : Real.exp M ≠ 0 := (Real.exp_pos M).ne'
  have hp : 0 ≤ 1 / ∑ j, Real.exp (s j) := one_div_nonneg.2 (Finset.sum_nonneg fun j _ => (Real.exp_pos _).le)
  have e : ∑ l, Real.exp (s l - M) = (∑ l, Real.exp (s l)) / Real.exp M := by
    rw [Finset.sum_div]
    exact Finset.sum_congr rfl fun l _ => Real.exp_sub _ _
  rw [e, sum_mul_coe _ _ hp]
  refine Finset.sum_congr rfl fun j _ => ?_
  rw [Real.exp_sub, div_div_div_cancel_right₀ hM, mul_comm _ (v j), mul_assoc, ← EReal.coe_mul, mul_one_div]

/-- The angle of position `i` at the pair of columns `f`, as a real number. -/
def ang (i f : ℕ) : ℝ :=
  (((BitVec.ofNat 32 i).toInt : ℤ) : ℝ) *
    (1 * (1 / Real.rpow 10000 ((((IntOp.addi (0#32) (IntOp.muli (2#32) (BitVec.ofNat 32 f))).toInt : ℤ) : ℝ) * (1 / 128))))

/-- The word of the scale is the scale. -/
theorem ofBits_scale : Ideal.ofBits .f32 0x3DB504F3#32 = ((sc : ℝ) : EReal) := by
  unfold sc
  simp [Ideal.ofBits, Ideal.ieee, -EReal.coe_mul]
  norm_num

/-- The word of the angles' base is 10000. -/
theorem ofBits_base : Ideal.ofBits .f32 0x461C4000#32 = ((10000 : ℝ) : EReal) := by
  simp [Ideal.ofBits, Ideal.ieee, -EReal.coe_mul]
  norm_num

/-- The word of a head's width is 128. -/
theorem ofBits_width : Ideal.ofBits .f32 0x43000000#32 = ((128 : ℝ) : EReal) := by
  simp [Ideal.ofBits, Ideal.ieee, -EReal.coe_mul]
  norm_num

/-- The word of minus infinity. -/
theorem ofBits_bot : Ideal.ofBits .f32 0xFF800000#32 = (⊥ : EReal) := by
  simp [Ideal.ofBits, Ideal.ieee]

/-- The word of infinity. -/
theorem ofBits_top : Ideal.ofBits .f32 0x7F800000#32 = (⊤ : EReal) := by
  simp [Ideal.ofBits, Ideal.ieee]

/-- The angle as the programs write it is that real number. -/
theorem ang_coe (i f : ℕ) :
    (FloatOps.sitofp (F := Ideal) FTy.f32 (BitVec.ofNat 32 i) : EReal) *
        Ideal.div 1 (Ideal.pow (Ideal.ofBits .f32 0x461C4000#32)
          (Ideal.div (FloatOps.sitofp (F := Ideal) FTy.f32 (IntOp.addi (0#32) (IntOp.muli (2#32) (BitVec.ofNat 32 f))) : EReal) (Ideal.ofBits .f32 0x43000000#32)))
      = ((ang i f : ℝ) : EReal) := by
  have hs : ∀ z : BitVec 32, (FloatOps.sitofp (F := Ideal) FTy.f32 z : EReal) = (((z.toInt : ℤ) : ℝ) : EReal) := fun _ => rfl
  have hp : ∀ y : ℝ, Real.rpow 10000 y ≠ 0 := fun y => (Real.rpow_pos_of_pos (by norm_num) y).ne'
  rw [ofBits_base, ofBits_width, hs, hs, Ideal.div_coe (by norm_num), ← EReal.coe_mul, Ideal.pow_coe_coe, Ideal.div_coe (hp _), ← EReal.coe_one, ← EReal.coe_mul,
    ← EReal.coe_mul]
  rfl

/-- The largest of finitely many reals, taken among the extended reals from below, is a real. -/
theorem fold_max {ι : Type*} (s : Finset ι) (hs : s.Nonempty) (f : ι → ℝ) : ∃ M : ℝ, s.fold max (⊥ : EReal) (fun i => ((f i : ℝ) : EReal)) = (M : EReal) := by
  classical
  induction hs using Finset.Nonempty.cons_induction with
  | singleton a => exact ⟨f a, by simp⟩
  | cons a s ha hs ih =>
    obtain ⟨M, hM⟩ := ih
    exact ⟨max (f a) M, by rw [Finset.fold_cons, hM]; exact (EReal.coe_strictMono.monotone.map_max).symm⟩

end Cert.Value

end
-- ==== Proof.ValueKernel.lean ====
/-
  What the kernel computes from real arguments: each piece, at an index, is the real number that the model gives.
-/
module

public import proofs.«01_k».proof.Proof.Run
public import proofs.«01_k».proof.Proof.ValueModel
public import Idealize.ShloMosaic.Lib.Pointwise.IndexBridge

@[expose] public section

set_option maxRecDepth 16384

noncomputable section

namespace Cert.KernelIdeal.Clean

open Idealize.ShloMosaic Idealize.ShloMosaic.TcCoe
open Cert.KernelIdeal Cert.KernelIdeal.Gen Cert.Value

/-- The kernel's inputs are the model's. -/
structure Reads (J : Ins Ideal) (D : Data) : Prop where
  x : ∀ (d : Fin 8) (b : Fin 2) (r : Fin 512) (q : Fin 1024), J.X d (ix3 b r q) = ((D.x b (row d r) q : ℝ) : EReal)
  wq : ∀ q k : Fin 1024, J.Wq (ix2 q k) = ((D.wq q k : ℝ) : EReal)
  wk : ∀ q k : Fin 1024, J.Wk (ix2 q k) = ((D.wk q k : ℝ) : EReal)
  wv : ∀ q k : Fin 1024, J.Wv (ix2 q k) = D.wv q k
  wo : ∀ q k : Fin 1024, J.Wo (ix2 q k) = D.wo q k
  co : ∀ (i : Fin 4096) (e : Fin 128), J.Cos (ix2 i e) = ((D.co i e : ℝ) : EReal)
  si : ∀ (i : Fin 4096) (e : Fin 128), J.Sin (ix2 i e) = ((D.si i e : ℝ) : EReal)

/-- The named constant is the scale divided by the logarithm of 2. -/
theorem named_scale : Named.named (F := Ideal) κ "scale_log2e" (φ := .f32) 0x3E0293EE#32 = ((sc * (Real.log 2)⁻¹ : ℝ) : EReal) :=
  IdealRules.named_const.ideal_named_scalar _ _ _ _ rfl

/-- The kernel's parity test. -/
theorem evens_apply (r : Fin 512) (e : Fin 128) : evens (ix2 r e) = if e.val % 2 = 0 then 1#1 else 0#1 := by
  pointwise [evens]
  revert e
  decide +kernel

/-- A block's rows times a weight, -/
theorem proj_any {X : Fin 512 → Fin 1024 → ℝ} {W : Fin 1024 → Fin 1024 → EReal} {x : FVec Ideal S512x1024 .bf16} {w : Vec Ideal S1024x1024 .bf16}
    (hx : ∀ r q, x (ix2 r q) = ((X r q : ℝ) : EReal)) (hw : ∀ q k, w (ix2 q k) = W q k) (r : Fin 512) (k : Fin 1024) :
    proj x w (ix2 r k) = ∑ q, ((X r q : ℝ) : EReal) * W q k := by
  pointwise [proj]
  simp only [hx, hw]

/-- and times a weight of reals. -/
theorem proj_apply {X : Fin 512 → Fin 1024 → ℝ} {W : Fin 1024 → Fin 1024 → ℝ} {x : FVec Ideal S512x1024 .bf16} {w : Vec Ideal S1024x1024 .bf16}
    (hx : ∀ r q, x (ix2 r q) = ((X r q : ℝ) : EReal)) (hw : ∀ q k, w (ix2 q k) = ((W q k : ℝ) : EReal)) (r : Fin 512) (k : Fin 1024) :
    proj x w (ix2 r k) = ((∑ q, X r q * W q k : ℝ) : EReal) := by
  rw [proj_any hx hw, coe_sum_mul]

/-- Head `h` of a projection, at an index. -/
theorem head_apply (h : Fin 8) (p : FVec Ideal S512x1024 .f32) (r : Fin 512) (e : Fin 128) : head h p (ix2 r e) = p (ix2 r (col h e)) := by
  pointwise [head]
  rfl

/-- The kernel's exchange of pairs is the model's. -/
theorem rot_apply {P : Fin 512 → Fin 128 → ℝ} {x : FVec Ideal S512x128 .f32} (hx : ∀ r e, x (ix2 r e) = ((P r e : ℝ) : EReal)) (r : Fin 512) (e : Fin 128) :
    rot x (ix2 r e) = ((swap (P r) e : ℝ) : EReal) := by
  pointwise [rot]
  rw [evens_apply]
  have he := e.isLt
  unfold swap
  by_cases h2 : e.val % 2 = 0
  · rw [if_pos h2, dif_pos h2, dif_pos (show e.val < 127 by omega)]
    show (0 : EReal) - _ = _
    rw [hx, zero_sub, ← EReal.coe_neg]
    refine congrArg (fun k => ((-P r k : ℝ) : EReal)) (Fin.ext ?_)
    show 1 + e.val = e.val + 1
    omega
  · rw [if_neg h2, dif_neg h2, dif_neg (show ¬e.val < 1 by omega)]
    show x _ = _
    rw [hx]

/-- The rotary embedding of reals, at an index. -/
theorem rope_apply {P C S : Fin 512 → Fin 128 → ℝ} {x c s : FVec Ideal S512x128 .f32} (hx : ∀ r e, x (ix2 r e) = ((P r e : ℝ) : EReal))
    (hc : ∀ r e, c (ix2 r e) = ((C r e : ℝ) : EReal)) (hs : ∀ r e, s (ix2 r e) = ((S r e : ℝ) : EReal)) (r : Fin 512) (e : Fin 128) :
    rope c s x (ix2 r e) = ((P r e * C r e + swap (P r) e * S r e : ℝ) : EReal) := by
  pointwise [rope]
  rw [rot_apply hx, hx, hc, hs, EReal.coe_add, EReal.coe_mul, EReal.coe_mul]

/-- A widened block is the block. -/
theorem wide_apply (t : Vec Ideal S512x128 .bf16) (r : Fin 512) (e : Fin 128) : wide t (ix2 r e) = t (ix2 r e) := by
  pointwise [wide]

variable {J : Ins Ideal} {D : Data} (hJ : Reads J D)
include hJ

/-- Device `d`'s input, at an index of a row block. -/
theorem rowB_apply (d : Fin 8) (b : Fin 2) (r : Fin 512) (q : Fin 1024) : rowB J.X d b (ix2 r q) = ((D.x b (row d r) q : ℝ) : EReal) := by
  rw [← hJ.x, ix3_eq_valueIdx]
  rfl

/-- Device `d`'s rows of the two tables, at an index. -/
theorem tab_apply (d : Fin 8) (r : Fin 512) (e : Fin 128) :
    wide (tabB J.Cos d) (ix2 r e) = ((D.co (row d r) e : ℝ) : EReal) ∧ wide (tabB J.Sin d) (ix2 r e) = ((D.si (row d r) e : ℝ) : EReal) := by
  rw [wide_apply, wide_apply, ← hJ.co, ← hJ.si, ix2_eq_valueIdx, ix2_eq_valueIdx]
  exact ⟨rfl, rfl⟩

/-- A head of the projection of device `d`'s input, at an index. -/
theorem head_proj {w : Vec Ideal S1024x1024 .bf16} {W : Fin 1024 → Fin 1024 → ℝ} (hw : ∀ q k, w (ix2 q k) = ((W q k : ℝ) : EReal)) (d : Fin 8) (b : Fin 2)
    (h : Fin 8) (r : Fin 512) (e : Fin 128) : head h (proj (rowB J.X d b) w) (ix2 r e) = ((pr D W b (row d r) (col h e) : ℝ) : EReal) := by
  rw [head_apply, proj_apply (rowB_apply hJ d b) hw]
  rfl

/-- A rotated head of the projection of device `d`'s input, at an index. -/
theorem rope_proj {w : Vec Ideal S1024x1024 .bf16} {W : Fin 1024 → Fin 1024 → ℝ} (hw : ∀ q k, w (ix2 q k) = ((W q k : ℝ) : EReal)) (d : Fin 8) (b : Fin 2)
    (h : Fin 8) (r : Fin 512) (e : Fin 128) :
    rope (wide (tabB J.Cos d)) (wide (tabB J.Sin d)) (head h (proj (rowB J.X d b) w)) (ix2 r e) = ((rp D W b (row d r) h e : ℝ) : EReal) := by
  rw [rope_apply (head_proj hJ hw d b h) (fun r e => (tab_apply hJ d r e).1) (fun r e => (tab_apply hJ d r e).2)]
  rfl

/-- A query is the model's, times the scale. -/
theorem Qst_apply (d : Fin 8) (b : Fin 2) (h : Fin 8) (r : Fin 512) (e : Fin 128) :
    Qst J d b h (ix4 0 0 r e) = ((rp D D.wq b (row d r) h e * (sc * (Real.log 2)⁻¹) : ℝ) : EReal) := by
  unfold Qst qVal
  pointwise
  rw [rope_proj hJ hJ.wq, named_scale, ← EReal.coe_mul]

/-- Device `d`'s keys, at an index. -/
theorem Kst_apply (d : Fin 8) (b : Fin 2) (h : Fin 8) (r : Fin 512) (e : Fin 128) :
    Kst J d b h (ix5 0 0 0 r e) = ((rp D D.wk b (row d r) h e : ℝ) : EReal) := by
  unfold Kst kVal
  pointwise
  rw [rope_proj hJ hJ.wk]

/-- Device `d`'s values, at an index. -/
theorem Vst_apply (d : Fin 8) (b : Fin 2) (h : Fin 8) (r : Fin 512) (e : Fin 128) :
    Vst J d b h (ix5 0 0 0 r e) = val D b (row d r) (col h e) := by
  unfold Vst vVal
  pointwise
  rw [head_apply, proj_any (rowB_apply hJ d b) hJ.wv]
  rfl

/-- The power of two of a scaled query against a key is the model's weight. -/
theorem weight_eq (c d : Fin 8) (b : Fin 2) (h : Fin 8) (r s : Fin 512) (k : Fin 128 → EReal)
    (hk : ∀ e, k e = ((rp D D.wk b (row d s) h e : ℝ) : EReal)) :
    FloatOps.exp2 (F := Ideal) (φ := .f32) (∑ e, Qst J c b h (ix4 0 0 r e) * k e) = ((wt D b h (row c r) (row d s) : ℝ) : EReal) := by
  simp only [Qst_apply hJ, hk, coe_sum_mul]
  show Ideal.exp2 _ = _
  rw [Ideal.exp2_coe]
  have e : (∑ e, rp D D.wq b (row c r) h e * (sc * (Real.log 2)⁻¹) * rp D D.wk b (row d s) h e) = score D b h (row c r) (row d s) * (sc * (Real.log 2)⁻¹) := by
    unfold score
    rw [Finset.sum_mul]
    exact Finset.sum_congr rfl fun e _ => by ring
  rw [e, exp2_scaled]
  rfl

/-- The exponentials that the pass over one block takes are the weights. -/
theorem pay3_apply (c d : Fin 8) (b : Fin 2) (h : Fin 8) (r s : Fin 512) :
    (k0_pay3 (Kst J d b h) (Qst J c b h) : FVec Ideal S512x512 .f32) (ix2 r s) = ((wt D b h (row c r) (row d s) : ℝ) : EReal) := by
  pointwise [k0_pay3]
  exact weight_eq hJ c d b h r s _ fun e => Kst_apply hJ d b h s e

/-- The weights of one block, added to the sum. -/
theorem passL1_apply (c d d' : Fin 8) (b : Fin 2) (h : Fin 8) {l : Fin 2 → Fin 8 → Vec Ideal S1x1x512x1 .f32} {R : Fin 512 → ℝ}
    (hl : ∀ r, l b h (ix4 0 0 r 0) = ((R r : ℝ) : EReal)) (r : Fin 512) :
    passL1 (Qst J c) (tbl (Kst J d) (Kst J d')) l b h (ix4 0 0 r 0) = ((R r + ∑ s, wt D b h (row c r) (row d s) : ℝ) : EReal) := by
  show k0_pay147 (k0_pay3 (Kst J d b h) (Qst J c b h)) (k0_pay4 (l b h)) (ix4 0 0 r 0) = _
  pointwise [k0_pay147, k0_pay4]
  simp only [pay3_apply hJ, hl, coe_sum, EReal.coe_add]

/-- A pass over one block adds its weighted values. -/
theorem passA1_apply (c d d' : Fin 8) (b : Fin 2) (h : Fin 8) {a : Fin 2 → Fin 8 → Vec Ideal S1x1x512x128 .f32} {R : Fin 512 → Fin 128 → EReal}
    (ha : ∀ r e, a b h (ix4 0 0 r e) = R r e) (r : Fin 512) (e : Fin 128) :
    passA1 (Qst J c) (tbl (Kst J d) (Kst J d')) (tbl (Vst J d) (Vst J d')) a b h (ix4 0 0 r e)
      = R r e + ∑ s, ((wt D b h (row c r) (row d s) : ℝ) : EReal) * val D b (row d s) (col h e) := by
  show k0_pay148 (k0_pay2 (Vst J d b h)) (k0_pay3 (Kst J d b h) (Qst J c b h)) (a b h) (ix4 0 0 r e) = _
  pointwise [k0_pay148, k0_pay2]
  simp only [pay3_apply hJ, Vst_apply hJ, ha]

/-- The first block or the second. -/
def pick (d d' : Fin 8) (j : Fin 2) : Fin 8 := if j = 0 then d else d'

omit hJ in
/-- Both slots of a head, at an index. -/
theorem both_apply (A : Fin 8 → Fin 2 → Fin 8 → Vec Ideal S1x1x1x512x128 .bf16) (d d' : Fin 8) (b : Fin 2) (h : Fin 8) (j : Fin 2) (s : Fin 512) (e : Fin 128) :
    both (tbl (A d) (A d')) h b (ix5 0 0 j s e) = A (pick d d' j) b h (ix5 0 0 0 s e) := by
  rw [ix5_eq_valueIdx (0 : Fin 1) (0 : Fin 1) (0 : Fin 1) s e]
  fin_cases j <;> rfl

/-- The exponentials that the pass over two blocks takes are the weights. -/
theorem pay6_apply (c d d' : Fin 8) (b : Fin 2) (h : Fin 8) (r : Fin 512) (s : Fin 1024) :
    (k0_pay6 (both (tbl (Kst J d) (Kst J d')) h b) (Qst J c b h) : FVec Ideal S512x1024 .f32) (ix2 r s)
      = ((wt D b h (row c r) (row (pick d d' ⟨s.val / 512, by omega⟩) ⟨s.val % 512, by omega⟩) : ℝ) : EReal) := by
  pointwise [k0_pay6]
  exact weight_eq hJ c _ b h r _ _ fun e => (both_apply (Kst J) d d' b h _ _ e).trans (Kst_apply hJ _ b h _ e)

/-- The weights of two blocks, added to the sum. -/
theorem passL2_apply (c d d' : Fin 8) (b : Fin 2) (h : Fin 8) {l : Fin 2 → Fin 8 → Vec Ideal S1x1x512x1 .f32} {R : Fin 512 → ℝ}
    (hl : ∀ r, l b h (ix4 0 0 r 0) = ((R r : ℝ) : EReal)) (r : Fin 512) :
    passL2 (Qst J c) (tbl (Kst J d) (Kst J d')) l b h (ix4 0 0 r 0)
      = ((R r + ((∑ s, wt D b h (row c r) (row d s)) + ∑ s, wt D b h (row c r) (row d' s)) : ℝ) : EReal) := by
  show k0_pay292 (k0_pay6 (both (tbl (Kst J d) (Kst J d')) h b) (Qst J c b h)) (k0_pay7 (l b h)) (ix4 0 0 r 0) = _
  pointwise [k0_pay292, k0_pay7]
  simp only [pay6_apply hJ, hl, coe_sum]
  rw [sum_two fun j s => wt D b h (row c r) (row (pick d d' j) s), ← EReal.coe_add]
  rfl

/-- A pass over two blocks adds their weighted values. -/
theorem passA2_apply (c d d' : Fin 8) (b : Fin 2) (h : Fin 8) {a : Fin 2 → Fin 8 → Vec Ideal S1x1x512x128 .f32} {R : Fin 512 → Fin 128 → EReal}
    (ha : ∀ r e, a b h (ix4 0 0 r e) = R r e) (r : Fin 512) (e : Fin 128) :
    passA2 (Qst J c) (tbl (Kst J d) (Kst J d')) (tbl (Vst J d) (Vst J d')) a b h (ix4 0 0 r e)
      = R r e + ((∑ s, ((wt D b h (row c r) (row d s) : ℝ) : EReal) * val D b (row d s) (col h e))
          + ∑ s, ((wt D b h (row c r) (row d' s) : ℝ) : EReal) * val D b (row d' s) (col h e)) := by
  show k0_pay293 (k0_pay5 (both (tbl (Vst J d) (Vst J d')) h b)) (k0_pay6 (both (tbl (Kst J d) (Kst J d')) h b) (Qst J c b h)) (a b h) (ix4 0 0 r e) = _
  pointwise [k0_pay293, k0_pay5]
  simp only [pay6_apply hJ, both_apply, Vst_apply hJ, ha]
  rw [sum_two fun j s => ((wt D b h (row c r) (row (pick d d' j) s) : ℝ) : EReal) * val D b (row (pick d d' j) s) (col h e)]
  rfl

omit hJ in
/-- A device's own block and the seven that arrive are all eight. -/
theorem sum_arrivals {α : Type*} [AddCommMonoid α] (c : Fin 8) (g : Fin 8 → α) :
    g c + (g (arr 0 c) + g (arr 1 c)) + (g (arr 2 c) + g (arr 3 c)) + (g (arr 4 c) + g (arr 5 c)) + g (arr 6 c) = ∑ d, g d := by
  have hb : Function.Bijective (![c, arr 0 c, arr 1 c, arr 2 c, arr 3 c, arr 4 c, arr 5 c, arr 6 c] : Fin 8 → Fin 8) :=
    Finite.injective_iff_bijective.1 (by revert c; decide +kernel)
  rw [← hb.sum_comp g, Fin.sum_univ_eight]
  show _ = g c + g (arr 0 c) + g (arr 1 c) + g (arr 2 c) + g (arr 3 c) + g (arr 4 c) + g (arr 5 c) + g (arr 6 c)
  simp only [add_assoc]

/-- After the last block the sum is over every position. -/
theorem l4_apply (c : Fin 8) (b : Fin 2) (h : Fin 8) (r : Fin 512) :
    l4 J c b h (ix4 0 0 r 0) = ((∑ j, wt D b h (row c r) j : ℝ) : EReal) := by
  have z : ∀ r : Fin 512, zeroL (F := Ideal) b h (ix4 0 0 r 0) = (((fun _ => 0 : Fin 512 → ℝ) r : ℝ) : EReal) := fun r => by
    pointwise [zeroL, k0_pay72]
    rfl
  unfold l4 l3 l2 l1 l0
  rw [passL1_apply hJ c _ _ b h (passL2_apply hJ c _ _ b h (passL2_apply hJ c _ _ b h (passL2_apply hJ c _ _ b h (passL1_apply hJ c _ _ b h z))))]
  rw [sum_rows, ← sum_arrivals c]
  simp only [zero_add]

/-- After the last pass the weighted values are summed over all rows. -/
theorem a4_apply (c : Fin 8) (b : Fin 2) (h : Fin 8) (r : Fin 512) (e : Fin 128) :
    a4 J c b h (ix4 0 0 r e) = ∑ j, ((wt D b h (row c r) j : ℝ) : EReal) * val D b j (col h e) := by
  have z : ∀ (r : Fin 512) (e : Fin 128), zeroA (F := Ideal) b h (ix4 0 0 r e) = (fun _ _ => 0 : Fin 512 → Fin 128 → EReal) r e := fun r e => by
    pointwise [zeroA, k0_pay73]
  unfold a4 a3 a2 a1 a0
  rw [passA1_apply hJ c _ _ b h (passA2_apply hJ c _ _ b h (passA2_apply hJ c _ _ b h (passA2_apply hJ c _ _ b h (passA1_apply hJ c _ _ b h z))))]
  rw [sum_rows, ← sum_arrivals c]
  simp only [zero_add]

/-- The quotient of the two sums is the model's weighted mean. -/
theorem quot_apply (c : Fin 8) (b : Fin 2) (h : Fin 8) (r : Fin 512) (e : Fin 128) :
    k0_pay682 (a4 J c b h) (l4 J c b h) (ix2 r e) = cx D b (row c r) h e := by
  pointwise [k0_pay682]
  rw [a4_apply hJ, l4_apply hJ, Ideal.div_coe (sum_wt_pos D b h (row c r)).ne']
  rfl

/-- What a core writes is the model's result at the rows of its block. -/
theorem outOf_apply (c : Fin 8) (b : Fin 2) (r : Fin 512) (n : Fin 1024) :
    outOf J c (ix3 b r n) = out D b (row c r) n := by
  have hc : ∀ k : Fin 1024, ctxOf (l4 J c) (a4 J c) (ix2 ⟨b.val * 512 + r.val, by omega⟩ k)
      = cx D b (row c r) ⟨k.val / 128, by omega⟩ ⟨k.val % 128, by omega⟩ := fun k => by
    rw [← quot_apply hJ, ix2_eq_valueIdx, ix2_eq_valueIdx]
    have e1 : (⟨(b.val * 512 + r.val) / 512, by omega⟩ : Fin 2) = b := Fin.ext (by show (b.val * 512 + r.val) / 512 = b.val; omega)
    have e2 : (⟨(b.val * 512 + r.val) % 512, by omega⟩ : Fin 512) = r := Fin.ext (by show (b.val * 512 + r.val) % 512 = r.val; omega)
    rw [← congrArg (fun b => k0_pay682 (a4 J c b _) (l4 J c b _) _) e1, ← congrArg (fun r => k0_pay682 _ _ (ValueIdx.ix2 r _)) e2]
    rfl
  unfold outOf
  pointwise [k0_pay1, k0_pay702]
  simp only [hc, hJ.wo]
  rfl

end Cert.KernelIdeal.Clean

end
-- ==== Proof.ValueTables.lean ====
/-
  What the kernel's region finds, as real numbers: the arguments as launched and the two rotation tables that the host operations make.
-/
module

public import proofs.«01_k».proof.Proof.Launch1
public import proofs.«01_k».proof.Proof.ValueKernel
public import Idealize.ShloMosaic.Lib.StableHlo.Run

@[expose] public section

set_option maxRecDepth 16384

noncomputable section

namespace Cert.KernelIdeal.Clean

open Idealize.ShloMosaic Idealize.ShloMosaic.TcCoe Idealize.ShloMosaic.StableHlo
open Cert.KernelIdeal Cert.KernelIdeal.Gen Cert.Value

/-- The angles: position times frequency. -/
def angle : FVec Ideal S4096x64 .f32 :=
  mulf (broadcastInDim S4096x64 ![0, 1] bcast_S4096x1_S4096x64_0_1 (sitofp .f32 (broadcastInDim S4096x1 ![0] bcast_S4096_S4096x1_0 (iotaInDim S4096 32 0))))
    (broadcastInDim S4096x64 ![0, 1] bcast_S1x64_S4096x64_0_1 (broadcastInDim S1x64 ![1] bcast_S64_S1x64_1
      (Host.divf (broadcastInDim S64 ![] bcast_S_S64 (constant S_ .f32 0x3F800000#32))
        (Host.powf (broadcastInDim S64 ![] bcast_S_S64 (constant S_ .f32 0x461C4000#32))
          (Host.divf (sitofp .f32 (addi (broadcastInDim S64 ![] bcast_S_S64 (constantI S_ 32 0#32)) (muli (broadcastInDim S64 ![] bcast_S_S64 (constantI S_ 32 2#32)) (iotaInDim S64 32 0))))
            (broadcastInDim S64 ![] bcast_S_S64 (constant S_ .f32 0x43000000#32)))))))

/-- A rotation table from its values at the pairs of columns. -/
def pairTab (t : FVec Ideal S4096x64 .f32) : FVec Ideal S4096x128 .bf16 :=
  truncf .bf16 (shapeCast S4096x128 (broadcastInDim S4096x64x2 ![0, 1] bcast_S4096x64_S4096x64x2_0_1 t) shapeCasts_S4096x64x2_S4096x128) bitsLt_bf16_f32

/-- The kernel's table of cosines, at an index. -/
theorem cos_apply (i : Fin 4096) (e : Fin 128) : pairTab (Host.cos angle) (ix2 i e) = ((Real.cos (ang i.val (e.val / 2)) : ℝ) : EReal) := by
  pointwise [pairTab, angle]
  rw [ang_coe, Ideal.cos_coe]

/-- The kernel's table of sines, at an index. -/
theorem sin_apply (i : Fin 4096) (e : Fin 128) : pairTab (Host.sin angle) (ix2 i e) = ((Real.sin (ang i.val (e.val / 2)) : ℝ) : EReal) := by
  pointwise [pairTab, angle]
  rw [ang_coe, Ideal.sin_coe]

variable (m : (ℓ : Loc nD τ sig) → Buf (Elt Ideal) ℓ)

/-- The host operations leave the cosines in the first table's buffer. -/
theorem V_cos (c : Dev nD) : V m c main_v23 = pairTab (Host.cos angle) := by
  show StableHlo.after hostOps0 _ (Proc.devRef .tc main_v23) = _
  unfold hostOps0
  after_results_simp <;> rfl

/-- The host operations leave the sines in the second table's buffer. -/
theorem V_sin (c : Dev nD) : V m c main_v27 = pairTab (Host.sin angle) := by
  show StableHlo.after hostOps0 _ (Proc.devRef .tc main_v27) = _
  unfold hostOps0
  after_results_simp <;> rfl

/-- What a core computes from: every device's block of the input. -/
theorem Jm_X (c d : Dev nD) : (Jm m c).X d = m ((d : Thread nD τ).loc main_arg0) := V_main_arg0 m d
/-- What a core computes from: its queries' weights. -/
theorem Jm_Wq (c : Dev nD) : (Jm m c).Wq = m ((c : Thread nD τ).loc main_arg1) := V_main_arg1 m c
/-- What a core computes from: its keys' weights. -/
theorem Jm_Wk (c : Dev nD) : (Jm m c).Wk = m ((c : Thread nD τ).loc main_arg2) := V_main_arg2 m c
/-- What a core computes from: its values' weights. -/
theorem Jm_Wv (c : Dev nD) : (Jm m c).Wv = m ((c : Thread nD τ).loc main_arg3) := V_main_arg3 m c
/-- What a core computes from: its output's weights. -/
theorem Jm_Wo (c : Dev nD) : (Jm m c).Wo = m ((c : Thread nD τ).loc main_arg4) := V_main_arg4 m c
/-- What a core computes from: the cosines. -/
theorem Jm_Cos (c : Dev nD) : (Jm m c).Cos = pairTab (Host.cos angle) := V_cos m c
/-- What a core computes from: the sines. -/
theorem Jm_Sin (c : Dev nD) : (Jm m c).Sin = pairTab (Host.sin angle) := V_sin m c

/-- A core's inputs are the model's, once the arguments as launched are. -/
theorem reads_Jm {D : Data} (c : Dev nD) {x : Dev nD → Vec Ideal S2x512x1024 .bf16} {wq wk wv wo : Vec Ideal S1024x1024 .bf16}
    (ex : ∀ d : Dev nD, m ((d : Thread nD τ).loc main_arg0) = x d) (eq : m ((c : Thread nD τ).loc main_arg1) = wq) (ek : m ((c : Thread nD τ).loc main_arg2) = wk)
    (ev : m ((c : Thread nD τ).loc main_arg3) = wv) (eo : m ((c : Thread nD τ).loc main_arg4) = wo)
    (hx : ∀ (d : Dev nD) b r q, x d (ix3 b r q) = ((D.x b (row d r) q : ℝ) : EReal)) (hq : ∀ q k, wq (ix2 q k) = ((D.wq q k : ℝ) : EReal))
    (hk : ∀ q k, wk (ix2 q k) = ((D.wk q k : ℝ) : EReal)) (hv : ∀ q k, wv (ix2 q k) = D.wv q k) (ho : ∀ q k, wo (ix2 q k) = D.wo q k)
    (hco : ∀ i e, D.co i e = Real.cos (ang i.val (e.val / 2))) (hsi : ∀ i e, D.si i e = Real.sin (ang i.val (e.val / 2))) : Reads (Jm m c) D where
  x d b r q := by rw [Jm_X, ex]; exact hx d b r q
  wq q k := by rw [Jm_Wq, eq]; exact hq q k
  wk q k := by rw [Jm_Wk, ek]; exact hk q k
  wv q k := by rw [Jm_Wv, ev]; exact hv q k
  wo q k := by rw [Jm_Wo, eo]; exact ho q k
  co i e := by rw [Jm_Cos, hco]; exact cos_apply i e
  si i e := by rw [Jm_Sin, hsi]; exact sin_apply i e

end Cert.KernelIdeal.Clean

end
-- ==== Proof.ValueReference.lean ====
/-
  What the reference computes from real arguments: its composed term in pieces, each at an index the real number that the model gives.
-/
module

public import proofs.«01_k».proof.Proof.Gen.ReferenceIdeal.Run
public import proofs.«01_k».proof.Proof.ValueModel

@[expose] public section

set_option maxRecDepth 16384

noncomputable section

namespace Cert.ReferenceIdeal.Value

open Idealize.ShloMosaic Idealize.ShloMosaic.TcCoe
open Cert.ReferenceIdeal Cert.ReferenceIdeal.Gen Cert.Value

/-! ## The pieces -/

/-- The angles: position times frequency. -/
def angle : FVec Ideal S4096x64 .f32 :=
  mulf (broadcastInDim S4096x64 ![0, 1] bcast_S4096x1_S4096x64_0_1 (sitofp .f32 (broadcastInDim S4096x1 ![0] bcast_S4096_S4096x1_0 (iotaInDim S4096 32 0))))
    (broadcastInDim S4096x64 ![0, 1] bcast_S1x64_S4096x64_0_1 (broadcastInDim S1x64 ![1] bcast_S64_S1x64_1
      (Host.divf (broadcastInDim S64 ![] bcast_S_S64 (constant S_ .f32 0x3F800000#32))
        (Host.powf (broadcastInDim S64 ![] bcast_S_S64 (constant S_ .f32 0x461C4000#32))
          (Host.divf (sitofp .f32 (addi (broadcastInDim S64 ![] bcast_S_S64 (constantI S_ 32 0#32)) (muli (broadcastInDim S64 ![] bcast_S_S64 (constantI S_ 32 2#32)) (iotaInDim S64 32 0))))
            (broadcastInDim S64 ![] bcast_S_S64 (constant S_ .f32 0x43000000#32)))))))

/-- A rotation table from its values at the pairs of columns. -/
def table (t : FVec Ideal S4096x64 .f32) : FVec Ideal S4096x128 .f32 :=
  shapeCast _ (broadcastInDim S4096x64x2 ![0, 1] bcast_S4096x64_S4096x64x2_0_1 t) shapeCasts_S4096x64x2_S4096x128

/-- The input times a weight, split into heads. -/
def heads (x : FVec Ideal S2x4096x1024 .bf16) (w : FVec Ideal S1024x1024 .bf16) : FVec Ideal S2x4096x8x128 .f32 :=
  shapeCast _ (Host.dotGeneral dot_S2x4096x1024_S1024x1024_S2x4096x1024_2_0_01_1_n_n none (extf .f32 x bitsLt_bf16_f32) (extf .f32 w bitsLt_bf16_f32)) shapeCasts_S2x4096x1024_S2x4096x8x128

/-- A table at every batch and head. -/
def spread (t : FVec Ideal S4096x128 .f32) : FVec Ideal S2x4096x8x128 .f32 :=
  broadcastInDim S2x4096x8x128 ![0, 1, 2, 3] bcast_S1x4096x1x128_S2x4096x8x128_0_1_2_3 (broadcastInDim S1x4096x1x128 ![1, 3] bcast_S4096x128_S1x4096x1x128_1_3 t)

/-- The pairs of columns exchanged, the even one negated. -/
def swapH (t : FVec Ideal S2x4096x8x128 .f32) : FVec Ideal S2x4096x8x128 .f32 :=
  shapeCast _ (concatenate S2x4096x8x64x2 4 [⟨S2x4096x8x64x1, (broadcastInDim S2x4096x8x64x1 ![0, 1, 2, 3] bcast_S2x4096x8x64_S2x4096x8x64x1_0_1_2_3 (Host.negf (shapeCast _ (extractStridedSlice S2x4096x8x64x1 ![0, 0, 0, 0, 1] (shapeCast _ t shapeCasts_S2x4096x8x128_S2x4096x8x64x2) slices_S2x4096x8x64x2_S2x4096x8x64x1_0_0_0_0_1) shapeCasts_S2x4096x8x64x1_S2x4096x8x64)))⟩,
    ⟨S2x4096x8x64x1, (broadcastInDim S2x4096x8x64x1 ![0, 1, 2, 3] bcast_S2x4096x8x64_S2x4096x8x64x1_0_1_2_3 (shapeCast _ (extractStridedSlice S2x4096x8x64x1 ![0, 0, 0, 0, 0] (shapeCast _ t shapeCasts_S2x4096x8x128_S2x4096x8x64x2) slices_S2x4096x8x64x2_S2x4096x8x64x1_0_0_0_0_0) shapeCasts_S2x4096x8x64x1_S2x4096x8x64))⟩]
    concatenates_S2x4096x8x64x1_S2x4096x8x64x1_S2x4096x8x64x2_d4) shapeCasts_S2x4096x8x64x2_S2x4096x8x128

/-- The rotary embedding of all heads. -/
def ropeH (t : FVec Ideal S2x4096x8x128 .f32) : FVec Ideal S2x4096x8x128 .f32 :=
  addf (mulf t (spread (table (Host.cos angle)))) (mulf (swapH t) (spread (table (Host.sin angle))))

/-- The scores, scaled. -/
def scoreH (q k : FVec Ideal S2x4096x8x128 .f32) : FVec Ideal S2x8x4096x4096 .f32 :=
  mulf (Host.dotGeneral dot_S2x4096x8x128_S2x4096x8x128_S2x8x4096x4096_3_3_1_1_02_02 none q k) (broadcastInDim S2x8x4096x4096 ![] bcast_S_S2x8x4096x4096 (constant S_ .f32 0x3DB504F3#32))

/-- A row's value at every position of the row. -/
def along (t : FVec Ideal S2x8x4096 .f32) : FVec Ideal S2x8x4096x4096 .f32 :=
  broadcastInDim S2x8x4096x4096 ![0, 1, 2, 3] bcast_S2x8x4096x1_S2x8x4096x4096_0_1_2_3 (broadcastInDim S2x8x4096x1 ![0, 1, 2] bcast_S2x8x4096_S2x8x4096x1_0_1_2 t)

/-- The largest score of each row. -/
def maxH (s : FVec Ideal S2x8x4096x4096 .f32) : FVec Ideal S2x8x4096 .f32 :=
  Host.reduce FloatOps.maximumf s (constant S_ .f32 0xFF800000#32) reducesTo_S2x8x4096x4096_S2x8x4096_d3 h_S_
/-- The exponentials of the scores less their row's largest. -/
def expH (s : FVec Ideal S2x8x4096x4096 .f32) : FVec Ideal S2x8x4096x4096 .f32 := Host.exp (subf s (along (maxH s)))
/-- The exponentials divided by their row's sum. -/
def weightH (p : FVec Ideal S2x8x4096x4096 .f32) : FVec Ideal S2x8x4096x4096 .f32 :=
  Host.divf p (along (Host.reduceAdd p (constant S_ .f32 0x00000000#32) reducesTo_S2x8x4096x4096_S2x8x4096_d3 h_S_))
/-- The weighted means of the values, heads side by side. -/
def meanH (v : FVec Ideal S2x4096x8x128 .f32) (w : FVec Ideal S2x8x4096x4096 .f32) : FVec Ideal S2x4096x1024 .f32 :=
  shapeCast _ (transpose S2x4096x8x128 [0, 3, 1, 2] (Host.dotGeneral dot_S2x4096x8x128_S2x8x4096x4096_S2x8x128x4096_1_3_3_2_02_01 none v w) transposes_S2x8x128x4096_S2x4096x8x128_0_3_1_2) shapeCasts_S2x4096x8x128_S2x4096x1024
/-- The product with the output's weights. -/
def outH (c : FVec Ideal S2x4096x1024 .f32) (w : FVec Ideal S1024x1024 .bf16) : FVec Ideal S2x4096x1024 .bf16 :=
  truncf .bf16 (Host.dotGeneral dot_S2x4096x1024_S1024x1024_S2x4096x1024_2_0_01_1_n_n none c (extf .f32 w bitsLt_bf16_f32)) bitsLt_bf16_f32

/-- The reference's result of its five arguments. -/
def result (x : FVec Ideal S2x4096x1024 .bf16) (wq wk wv wo : FVec Ideal S1024x1024 .bf16) : FVec Ideal S2x4096x1024 .bf16 :=
  outH (meanH (heads x wv) (weightH (expH (scoreH (ropeH (heads x wq)) (ropeH (heads x wk)))))) wo

/-- The run's term is that function of the arguments. -/
theorem res_eq (m : (ℓ : Loc nD τ sig) → Buf (Elt Ideal) ℓ) (c : Dev nD) :
    res_main_v86 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

/-! ## The pieces at an index -/

/-- The arguments are the model's, and so are the tables' entries. -/
structure Reads (x : FVec Ideal S2x4096x1024 .bf16) (wq wk wv wo : FVec Ideal S1024x1024 .bf16) (D : Data) : Prop where
  x : ∀ b i q, x (ix3 b i q) = ((D.x b i q : ℝ) : EReal)
  wq : ∀ q k, wq (ix2 q k) = ((D.wq q k : ℝ) : EReal)
  wk : ∀ q k, wk (ix2 q k) = ((D.wk q k : ℝ) : EReal)
  wv : ∀ q k, wv (ix2 q k) = D.wv q k
  wo : ∀ q k, wo (ix2 q k) = D.wo q k
  co : ∀ i e, D.co i e = Real.cos (ang i.val (e.val / 2))
  si : ∀ i e, D.si i e = Real.sin (ang i.val (e.val / 2))

/-- The reference's table of cosines, at an index. -/
theorem cos_apply (i : Fin 4096) (e : Fin 128) : table (Host.cos angle) (ix2 i e) = ((Real.cos (ang i.val (e.val / 2)) : ℝ) : EReal) := by
  pointwise [table, angle]
  rw [ang_coe, Ideal.cos_coe]

/-- The reference's table of sines, at an index. -/
theorem sin_apply (i : Fin 4096) (e : Fin 128) : table (Host.sin angle) (ix2 i e) = ((Real.sin (ang i.val (e.val / 2)) : ℝ) : EReal) := by
  pointwise [table, angle]
  rw [ang_coe, Ideal.sin_coe]

/-- A table spread over batches and heads, at an index. -/
theorem spread_apply (t : FVec Ideal S4096x128 .f32) (b : Fin 2) (i : Fin 4096) (h : Fin 8) (e : Fin 128) : spread t (ix4 b i h e) = t (ix2 i e) := by
  pointwise [spread]

/-- The pairs of columns exchanged and the even one negated, at an index. -/
theorem swapH_apply {P : Fin 2 → Fin 4096 → Fin 8 → Fin 128 → ℝ} {t : FVec Ideal S2x4096x8x128 .f32} (ht : ∀ b i h e, t (ix4 b i h e) = ((P b i h e : ℝ) : EReal))
    (b : Fin 2) (i : Fin 4096) (h : Fin 8) (e : Fin 128) : swapH t (ix4 b i h e) = ((swap (P b i h) e : ℝ) : EReal) := by
  pointwise [swapH]
  unfold swap
  by_cases he : e.val % 2 = 0
  · rw [dif_pos (show e.val % 2 < 1 by omega), dif_pos he, ht, EReal.coe_neg]
    exact congrArg (fun k => -((P b i h k : ℝ) : EReal)) (Fin.ext (show e.val / 2 * 2 + 1 = e.val + 1 by omega))
  · rw [dif_neg (show ¬ e.val % 2 < 1 by omega), dif_neg he, ht]
    exact congrArg (fun k => ((P b i h k : ℝ) : EReal)) (Fin.ext (show e.val / 2 * 2 = e.val - 1 by omega))

/-- A sum of two products, at an index. -/
theorem blend {t c u s : FVec Ideal S2x4096x8x128 .f32} (k : S2x4096x8x128.Idx) : addf (mulf t c) (mulf u s) k = (t k : EReal) * c k + u k * s k := rfl

/-- The rotary embedding, at an index, in the terms it is made of. -/
theorem ropeH_at {t : FVec Ideal S2x4096x8x128 .f32} (k : S2x4096x8x128.Idx) :
    ropeH t k = (t k : EReal) * spread (table (Host.cos angle)) k + swapH t k * spread (table (Host.sin angle)) k := blend k

/-- The rotary embedding of reals, at an index. -/
theorem ropeH_apply {P : Fin 2 → Fin 4096 → Fin 8 → Fin 128 → ℝ} {t : FVec Ideal S2x4096x8x128 .f32} (ht : ∀ b i h e, t (ix4 b i h e) = ((P b i h e : ℝ) : EReal))
    (b : Fin 2) (i : Fin 4096) (h : Fin 8) (e : Fin 128) :
    ropeH t (ix4 b i h e) = ((P b i h e * Real.cos (ang i.val (e.val / 2)) + swap (P b i h) e * Real.sin (ang i.val (e.val / 2)) : ℝ) : EReal) := by
  rw [ropeH_at, swapH_apply ht, spread_apply, spread_apply, ht, cos_apply, sin_apply, ← EReal.coe_mul, ← EReal.coe_mul, ← EReal.coe_add]

section
variable {x : FVec Ideal S2x4096x1024 .bf16} {wq wk wv wo : FVec Ideal S1024x1024 .bf16} {D : Data} (hR : Reads x wq wk wv wo D)
include hR

/-- The projection by real weights, heads apart, at an index. -/
theorem heads_apply {w : FVec Ideal S1024x1024 .bf16} {W : Fin 1024 → Fin 1024 → ℝ} (hw : ∀ q k, w (ix2 q k) = ((W q k : ℝ) : EReal))
    (b : Fin 2) (i : Fin 4096) (h : Fin 8) (e : Fin 128) : heads x w (ix4 b i h e) = ((pr D W b i (col h e) : ℝ) : EReal) := by
  pointwise [heads]
  unfold pr
  rw [← coe_sum_mul]
  refine Finset.sum_congr rfl fun q _ => ?_
  rw [hR.x, hw]
  exact congrArg (fun k => ((D.x b i q : ℝ) : EReal) * ((W q k : ℝ) : EReal)) (Fin.ext (show h.val * 128 + e.val = 128 * h.val + e.val by omega))

/-- The values, at an index. -/
theorem values_apply (b : Fin 2) (i : Fin 4096) (h : Fin 8) (e : Fin 128) : heads x wv (ix4 b i h e) = val D b i (col h e) := by
  pointwise [heads]
  unfold val
  refine Finset.sum_congr rfl fun q _ => ?_
  rw [hR.x, hR.wv]
  exact congrArg (fun k => ((D.x b i q : ℝ) : EReal) * D.wv q k) (Fin.ext (show h.val * 128 + e.val = 128 * h.val + e.val by omega))

/-- The rotated projection, at an index. -/
theorem ropeH_heads {w : FVec Ideal S1024x1024 .bf16} {W : Fin 1024 → Fin 1024 → ℝ} (hw : ∀ q k, w (ix2 q k) = ((W q k : ℝ) : EReal))
    (b : Fin 2) (i : Fin 4096) (h : Fin 8) (e : Fin 128) : ropeH (heads x w) (ix4 b i h e) = ((rp D W b i h e : ℝ) : EReal) := by
  rw [ropeH_apply (heads_apply hR hw)]
  unfold rp
  rw [hR.co, hR.si]

/-- The scores, at an index, are real. -/
theorem scoreH_apply (b : Fin 2) (h : Fin 8) (i j : Fin 4096) :
    scoreH (ropeH (heads x wq)) (ropeH (heads x wk)) (ix4 b h i j) = ((score D b h i j * sc : ℝ) : EReal) := by
  pointwise [scoreH]
  rw [ofBits_scale, EReal.coe_mul]
  unfold score
  rw [← coe_sum_mul]
  congr 1
  exact Finset.sum_congr rfl fun e _ => by rw [ropeH_heads hR hR.wq, ropeH_heads hR hR.wk]

end

/-- The largest of a row of real scores is real. -/
theorem maxH_apply {s : FVec Ideal S2x8x4096x4096 .f32} {S : Fin 2 → Fin 8 → Fin 4096 → Fin 4096 → ℝ} (hs : ∀ b h i j, s (ix4 b h i j) = ((S b h i j : ℝ) : EReal))
    (b : Fin 2) (h : Fin 8) (i : Fin 4096) : ∃ M : ℝ, maxH s (ix3 b h i) = (M : EReal) := by
  obtain ⟨M, hM⟩ := fold_max Finset.univ ⟨0, Finset.mem_univ _⟩ (S b h i)
  refine ⟨M, ?_⟩
  rw [← hM]
  pointwise [maxH]
  rw [ofBits_bot]
  exact congrArg (fun f => Finset.fold max (⊥ : EReal) f Finset.univ) (funext fun j => hs b h i j)

/-- The weights of a row of scores: the exponentials over their sum, all shifted by one number. -/
theorem weightH_apply {s : FVec Ideal S2x8x4096x4096 .f32} {S : Fin 2 → Fin 8 → Fin 4096 → Fin 4096 → ℝ} (hs : ∀ b h i j, s (ix4 b h i j) = ((S b h i j : ℝ) : EReal))
    (b : Fin 2) (h : Fin 8) (i : Fin 4096) :
    ∃ M : ℝ, ∀ j, weightH (expH s) (ix4 b h i j) = ((Real.exp (S b h i j - M) / ∑ l, Real.exp (S b h i l - M) : ℝ) : EReal) := by
  obtain ⟨M, hM⟩ := maxH_apply hs b h i
  have e : ∀ j, expH s (ix4 b h i j) = ((Real.exp (S b h i j - M) : ℝ) : EReal) := by
    intro j
    pointwise [expH, along]
    rw [hM, hs, ← EReal.coe_sub, Ideal.exp_coe]
  have p : 0 < ∑ l, Real.exp (S b h i l - M) := Finset.sum_pos (fun l _ => Real.exp_pos _) ⟨0, Finset.mem_univ _⟩
  refine ⟨M, fun j => ?_⟩
  pointwise [weightH, along]
  rw [Finset.sum_congr rfl fun l _ => e l, e, coe_sum, Ideal.div_coe p.ne', ← EReal.coe_mul, mul_one_div]

section
variable {x : FVec Ideal S2x4096x1024 .bf16} {wq wk wv wo : FVec Ideal S1024x1024 .bf16} {D : Data} (hR : Reads x wq wk wv wo D)
include hR

/-- The weighted means, at an index, are those of the plain statement. -/
theorem meanH_apply (b : Fin 2) (i : Fin 4096) (k : Fin 1024) :
    meanH (heads x wv) (weightH (expH (scoreH (ropeH (heads x wq)) (ropeH (heads x wk))))) (ix3 b i k)
      = cx D b i ⟨k.val / 128, by omega⟩ ⟨k.val % 128, by omega⟩ := by
  obtain ⟨M, hM⟩ := weightH_apply (scoreH_apply hR) b ⟨k.val / 128, by omega⟩ i
  pointwise [meanH]
  unfold cx wt
  rw [← mean_shift _ _ M]
  exact Finset.sum_congr rfl fun j _ => by rw [values_apply hR, hM j]

/-- The reference's result is the attention of the model. -/
theorem result_apply (b : Fin 2) (i : Fin 4096) (n : Fin 1024) : result x wq wk wv wo (ix3 b i n) = out D b i n := by
  unfold result
  pointwise [outH]
  unfold out
  exact Finset.sum_congr rfl fun k _ => by rw [meanH_apply hR, hR.wo]

end

end Cert.ReferenceIdeal.Value

end
-- ==== Proof.Value.lean ====
/-
  The two programs compute the same: if the input and the queries' and keys' weights are finite, each device ends with its block of the reference's result.
-/
module

public import proofs.«01_k».proof.Defs
public import proofs.«01_k».proof.Proof.Launch4
public import proofs.«01_k».proof.Proof.ValueTables
public import proofs.«01_k».proof.Proof.ValueReference
public import proofs.«01_k».proof.Proof.Gen.Pre_finite_KernelIdeal
public import Idealize.ShloMosaic.Lib.LayoutAt

@[expose] public section

set_option maxRecDepth 16384

noncomputable section

namespace Cert.Value

open Idealize.ShloMosaic Idealize.SL.Sem
open Cert.KernelIdeal.Gen Cert.ReferenceIdeal.Gen Cert.Pre_finite_KernelIdeal.Gen

/-- What lies strictly below the top in absolute value is a real number. -/
theorem real_of_lt {s z : Shape} {x : FVec Ideal s .bf16} {hb : FTy.bits .bf16 < FTy.bits .f32} {dims : Fin z.rank → Fin s.rank} {hz : z.BroadcastsInDim s dims}
    (h : cmpf .olt (Host.absf (extf .f32 x hb)) (broadcastInDim s dims hz (constant z .f32 0x7F800000#32)) = fun _ => 1#1) (i : s.Idx) :
    x i = (((x i : EReal).toReal : ℝ) : EReal) := by
  have e : Ideal.cmp .olt (max (x i : EReal) (-(x i : EReal))) (Ideal.ofBits .f32 0x7F800000#32) = 1#1 := congrFun h i
  rw [ofBits_top] at e
  have l : max (x i : EReal) (-(x i : EReal)) < ⊤ := by
    by_contra n
    simp [Ideal.cmp, n] at e
  rw [max_lt_iff] at l
  refine (EReal.coe_toReal l.1.ne fun b => ?_).symm
  rw [b] at l
  simp at l

/-- Row `row d r` of the whole array is row `r` of block `d`. -/
theorem block_row (v : (⟨3, ![2, 4096, 1024]⟩ : Shape).Idx → EReal) (d : Fin 8) (b : Fin 2) (r : Fin 512) (q : Fin 1024) :
    (Layout.block ⟨3, ![2, 512, 1024]⟩ ⟨3, ![2, 4096, 1024]⟩ 1 8 d v) (ix3 b r q) = v (ix3 b (row d r) q) := by
  simp only [Layout.block_apply]
  refine congrArg v (funext fun k => Fin.ext ?_)
  match k with
  | ⟨0, _⟩ => rfl
  | ⟨1, _⟩ => show d.val * 512 + r.val = 512 * d.val + r.val; omega
  | ⟨2, _⟩ => rfl

/-- The whole arrays, three of them as the real numbers they hold, with the two tables. -/
def dataOf (x : FVec Ideal ⟨3, ![2, 4096, 1024]⟩ .bf16) (wq wk wv wo : FVec Ideal ⟨2, ![1024, 1024]⟩ .bf16) : Data where
  x b i q := (x (ix3 b i q) : EReal).toReal
  wq q k := (wq (ix2 q k) : EReal).toReal
  wk q k := (wk (ix2 q k) : EReal).toReal
  wv q k := wv (ix2 q k)
  wo q k := wo (ix2 q k)
  co i e := Real.cos (ang i.val (e.val / 2))
  si i e := Real.sin (ang i.val (e.val / 2))

/-- If every block holds reals, so does the whole array. -/
theorem real_of_blocks {x : FVec Ideal ⟨3, ![2, 4096, 1024]⟩ .bf16}
    (h : ∀ (d : Fin 8) (i : (⟨3, ![2, 512, 1024]⟩ : Shape).Idx), (Layout.block ⟨3, ![2, 512, 1024]⟩ ⟨3, ![2, 4096, 1024]⟩ 1 8 d x) i
      = ((((Layout.block ⟨3, ![2, 512, 1024]⟩ ⟨3, ![2, 4096, 1024]⟩ 1 8 d x) i : EReal).toReal : ℝ) : EReal))
    (b : Fin 2) (i : Fin 4096) (q : Fin 1024) : x (ix3 b i q) = (((x (ix3 b i q) : EReal).toReal : ℝ) : EReal) := by
  have e : i = row ⟨i.val / 512, by omega⟩ ⟨i.val % 512, by omega⟩ := Fin.ext (show i.val = 512 * (i.val / 512) + i.val % 512 by omega)
  have g := h ⟨i.val / 512, by omega⟩ (ix3 b ⟨i.val % 512, by omega⟩ q)
  rw [block_row, ← e] at g
  exact g

/-- If the input and the queries' and keys' weights are finite, each device's result is its block of the reference's. -/
theorem algebraic : Cert.algebraic_KernelIdeal_ReferenceIdeal_pre_finite_KernelIdeal (hKernelIdeal := Cert.KernelIdeal.Gen.facts) (hReferenceIdeal := Cert.ReferenceIdeal.Gen.facts)
    (hPre_finite_KernelIdeal := Cert.Pre_finite_KernelIdeal.Gen.facts) := by
  intro m g m' g' hpre hin
  have e0 := fun c => (hin c).1
  have e1 := fun c => (hin c).2.1
  have e2 := fun c => (hin c).2.2.1
  have e3 := fun c => (hin c).2.2.2.1
  have e4 := fun c => (hin c).2.2.2.2
  generalize hx : m' (((0 : Dev Cert.ReferenceIdeal.nD).tc : Thread Cert.ReferenceIdeal.nD Cert.ReferenceIdeal.τ).loc Cert.ReferenceIdeal.main_arg0) = x at e0
  generalize hq : m' (((0 : Dev Cert.ReferenceIdeal.nD).tc : Thread Cert.ReferenceIdeal.nD Cert.ReferenceIdeal.τ).loc Cert.ReferenceIdeal.main_arg1) = wq at e1
  generalize hk : m' (((0 : Dev Cert.ReferenceIdeal.nD).tc : Thread Cert.ReferenceIdeal.nD Cert.ReferenceIdeal.τ).loc Cert.ReferenceIdeal.main_arg2) = wk at e2
  generalize hv : m' (((0 : Dev Cert.ReferenceIdeal.nD).tc : Thread Cert.ReferenceIdeal.nD Cert.ReferenceIdeal.τ).loc Cert.ReferenceIdeal.main_arg3) = wv at e3
  generalize ho : m' (((0 : Dev Cert.ReferenceIdeal.nD).tc : Thread Cert.ReferenceIdeal.nD Cert.ReferenceIdeal.τ).loc Cert.ReferenceIdeal.main_arg4) = wo at e4
  have fx : ∀ b i q, x (ix3 b i q) = (((x (ix3 b i q) : EReal).toReal : ℝ) : EReal) := real_of_blocks fun d i => by
    rw [← e0 d]
    exact real_of_lt (hpre d).1 i
  have fq : ∀ i, wq i = (((wq i : EReal).toReal : ℝ) : EReal) := fun i => by rw [← e1 0]; exact real_of_lt (hpre 0).2.1 i
  have fk : ∀ i, wk i = (((wk i : EReal).toReal : ℝ) : EReal) := fun i => by rw [← e2 0]; exact real_of_lt (hpre 0).2.2 i
  have hR : Cert.ReferenceIdeal.Value.Reads x wq wk wv wo (dataOf x wq wk wv wo) :=
    ⟨fx, fun q k => fq _, fun q k => fk _, fun _ _ => rfl, fun _ _ => rfl, fun _ _ => rfl, fun _ _ => rfl⟩
  have hK : ∀ c, Cert.KernelIdeal.Clean.Reads (Cert.KernelIdeal.Clean.Jm m c) (dataOf x wq wk wv wo) := fun c =>
    Cert.KernelIdeal.Clean.reads_Jm m c e0 (e1 c) (e2 c) (e3 c) (e4 c) (fun d b r q => (block_row x d b r q).trans (fx b (row d r) q))
      (fun q k => fq _) (fun q k => fk _) (fun _ _ => rfl) (fun _ _ => rfl) (fun _ _ => rfl) (fun _ _ => rfl)
  have hr := Cert.ReferenceIdeal.Value.res_eq m' 0
  rw [hx, hq, hk, hv, ho] at hr
  have hout : ∀ c : Fin 8, Cert.KernelIdeal.Clean.outOf (Cert.KernelIdeal.Clean.Jm m c) c
      = Layout.block ⟨3, ![2, 512, 1024]⟩ ⟨3, ![2, 4096, 1024]⟩ 1 8 c (Cert.ReferenceIdeal.Value.result x wq wk wv wo) := fun c => by
    funext i
    obtain ⟨b, r, n, rfl⟩ : ∃ (b : Fin 2) (r : Fin 512) (n : Fin 1024), i = ix3 b r n :=
      ⟨i 0, i 1, i 2, funext fun k => by match k with | ⟨0, _⟩ => rfl | ⟨1, _⟩ => rfl | ⟨2, _⟩ => rfl⟩
    rw [block_row, Cert.KernelIdeal.Clean.outOf_apply (hK c), Cert.ReferenceIdeal.Value.result_apply hR]
  refine ⟨Cert.ReferenceIdeal.Value.result x wq wk wv wo, ?_, ?_⟩
  · exact (θ_run Cert.KernelIdeal.defs _ _).mono (fun _ h c => ⟨(h.2 c).trans (hout c), h.1.1 c⟩) (Cert.KernelIdeal.Clean.run_frame (F := Ideal) m g)
  · exact (θ_run Cert.ReferenceIdeal.defs _ _).mono (fun _ h => ⟨(h 0).1.trans hr, by have u := (h 0).2; rw [hx, hq, hk, hv, ho] at u; exact u⟩) (Cert.ReferenceIdeal.Value.run (F := Ideal) m' g')

end Cert.Value

end
-- ==== Proof.lean ====
module

public import proofs.«01_k».proof.Defs
public import proofs.«01_k».proof.Proof.Frames
public import proofs.«01_k».proof.Proof.Value
public import proofs.«01_k».proof.Proof.Gen.Pre_finite_KernelIdeal
public import proofs.«01_k».proof.Proof.Gen.Pre_finite_ReferenceIdeal

@[expose] public section

noncomputable section

namespace Cert.Proof

/-- Every claim of the certificate. -/
theorem claim : Cert.Claim := ⟨Cert.Kernel.Gen.facts, Cert.KernelIdeal.Gen.facts, Cert.ReferenceIdeal.Gen.facts, Cert.Pre_finite_KernelIdeal.Gen.facts, Cert.Pre_finite_ReferenceIdeal.Gen.facts,
  Cert.Frames.kernel, Cert.Frames.kernelIdeal, fun m g _ => Cert.Frames.kernelIdeal m g trivial, Cert.Frames.referenceIdeal, fun m g _ => Cert.Frames.referenceIdeal m g trivial,
  by exact Idealize.ShloMosaic.IdealRules.named_const.statement Cert.KernelIdeal.κ "scale_log2e" .f32 0x3E0293EE#32 _ rfl,
  Cert.Value.algebraic⟩

end Cert.Proof

end
